-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_FfnLast (m : (ℓ : Loc Cert.FfnLast.nD Cert.FfnLast.τ Cert.FfnLast.sig) → Buf (Elt Bits) ℓ) : Prop :=
  True

def Pre_FfnLastIdeal (m : (ℓ : Loc Cert.FfnLastIdeal.nD Cert.FfnLastIdeal.τ Cert.FfnLastIdeal.sig) → Buf (Elt Ideal) ℓ) : Prop :=
  True

def Pre_FfnLastReferenceIdeal (m : (ℓ : Loc Cert.FfnLastReferenceIdeal.nD Cert.FfnLastReferenceIdeal.τ Cert.FfnLastReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5)
      ∧ r.2.mem ((c.tc : Thread Cert.InprojReferenceIdeal.nD Cert.InprojReferenceIdeal.τ).loc Cert.InprojReferenceIdeal.main_arg6) = m ((c.tc : Thread Cert.InprojReferenceIdeal.nD Cert.InprojReferenceIdeal.τ).loc Cert.InprojReferenceIdeal.main_arg6)
      ∧ r.2.mem ((c.tc : Thread Cert.InprojReferenceIdeal.nD Cert.InprojReferenceIdeal.τ).loc Cert.InprojReferenceIdeal.main_arg7) = m ((c.tc : Thread Cert.InprojReferenceIdeal.nD Cert.InprojReferenceIdeal.τ).loc Cert.InprojReferenceIdeal.main_arg7)
      ∧ r.2.mem ((c.tc : Thread Cert.InprojReferenceIdeal.nD Cert.InprojReferenceIdeal.τ).loc Cert.InprojReferenceIdeal.main_arg8) = m ((c.tc : Thread Cert.InprojReferenceIdeal.nD Cert.InprojReferenceIdeal.τ).loc Cert.InprojReferenceIdeal.main_arg8))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11))
      ∧ r.2.sem = fun _ => 0)

def quiescent_FfnLast [hFfnLast : Cert.FfnLast.Facts] : Prop :=
  ∀ (m : (ℓ : Loc Cert.FfnLast.nD Cert.FfnLast.τ Cert.FfnLast.sig) → Buf (Elt Bits) ℓ) (g : Dev Cert.FfnLast.nD → PrngReg), Pre_FfnLast m →
    θ_run (Cert.FfnLast.defs (F := Bits)) (onTc (τ := Cert.FfnLast.τ) (Cert.FfnLast.main (F := Bits))) ⟨m, fun _ => 0, g⟩ (fun r => (∀ c : Dev Cert.FfnLast.nD,
      r.2.mem ((c.tc : Thread Cert.FfnLast.nD Cert.FfnLast.τ).loc Cert.FfnLast.main_arg0) = m ((c.tc : Thread Cert.FfnLast.nD Cert.FfnLast.τ).loc Cert.FfnLast.main_arg0)
      ∧ r.2.mem ((c.tc : Thread Cert.FfnLast.nD Cert.FfnLast.τ).loc Cert.FfnLast.main_arg1) = m ((c.tc : Thread Cert.FfnLast.nD Cert.FfnLast.τ).loc Cert.FfnLast.main_arg1)
      ∧ r.2.mem ((c.tc : Thread Cert.FfnLast.nD Cert.FfnLast.τ).loc Cert.FfnLast.main_arg2) = m ((c.tc : Thread Cert.FfnLast.nD Cert.FfnLast.τ).loc Cert.FfnLast.main_arg2)
      ∧ r.2.mem ((c.tc : Thread Cert.FfnLast.nD Cert.FfnLast.τ).loc Cert.FfnLast.main_arg3) = m ((c.tc : Thread Cert.FfnLast.nD Cert.FfnLast.τ).loc Cert.FfnLast.main_arg3)
      ∧ r.2.mem ((c.tc : Thread Cert.FfnLast.nD Cert.FfnLast.τ).loc Cert.FfnLast.main_arg4) = m ((c.tc : Thread Cert.FfnLast.nD Cert.FfnLast.τ).loc Cert.FfnLast.main_arg4)
      ∧ r.2.mem ((c.tc : Thread Cert.FfnLast.nD Cert.FfnLast.τ).loc Cert.FfnLast.main_arg5) = m ((c.tc : Thread Cert.FfnLast.nD Cert.FfnLast.τ).loc Cert.FfnLast.main_arg5))
      ∧ r.2.sem = fun _ => 0)

def quiescent_FfnLastIdeal [hFfnLastIdeal : Cert.FfnLastIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg), Pre_FfnLastIdeal m →
    θ_run (Cert.FfnLastIdeal.defs (F := Ideal)) (onTc (τ := Cert.FfnLastIdeal.τ) (Cert.FfnLastIdeal.main (F := Ideal))) ⟨m, fun _ => 0, g⟩ (fun r => (∀ c : Dev Cert.FfnLastIdeal.nD,
      r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
      ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
      ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
      ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
      ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
      ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5))
      ∧ r.2.sem = fun _ => 0)

def quiescent_FfnLastReferenceIdeal [hFfnLastReferenceIdeal : Cert.FfnLastReferenceIdeal.Facts] : Prop :=
  ∀ (m : (ℓ : Loc Cert.FfnLastReferenceIdeal.nD Cert.FfnLastReferenceIdeal.τ Cert.FfnLastReferenceIdeal.sig) → Buf (Elt Ideal) ℓ) (g : Dev Cert.FfnLastReferenceIdeal.nD → PrngReg), Pre_FfnLastReferenceIdeal m →
    θ_run (Cert.FfnLastReferenceIdeal.defs (F := Ideal)) (onTc (τ := Cert.FfnLastReferenceIdeal.τ) (Cert.FfnLastReferenceIdeal.main (F := Ideal))) ⟨m, fun _ => 0, g⟩ (fun r => (∀ c : Dev Cert.FfnLastReferenceIdeal.nD,
      r.2.mem ((c.tc : Thread Cert.FfnLastReferenceIdeal.nD Cert.FfnLastReferenceIdeal.τ).loc Cert.FfnLastReferenceIdeal.main_arg0) = m ((c.tc : Thread Cert.FfnLastReferenceIdeal.nD Cert.FfnLastReferenceIdeal.τ).loc Cert.FfnLastReferenceIdeal.main_arg0)
      ∧ r.2.mem ((c.tc : Thread Cert.FfnLastReferenceIdeal.nD Cert.FfnLastReferenceIdeal.τ).loc Cert.FfnLastReferenceIdeal.main_arg1) = m ((c.tc : Thread Cert.FfnLastReferenceIdeal.nD Cert.FfnLastReferenceIdeal.τ).loc Cert.FfnLastReferenceIdeal.main_arg1)
      ∧ r.2.mem ((c.tc : Thread Cert.FfnLastReferenceIdeal.nD Cert.FfnLastReferenceIdeal.τ).loc Cert.FfnLastReferenceIdeal.main_arg2) = m ((c.tc : Thread Cert.FfnLastReferenceIdeal.nD Cert.FfnLastReferenceIdeal.τ).loc Cert.FfnLastReferenceIdeal.main_arg2)
      ∧ r.2.mem ((c.tc : Thread Cert.FfnLastReferenceIdeal.nD Cert.FfnLastReferenceIdeal.τ).loc Cert.FfnLastReferenceIdeal.main_arg3) = m ((c.tc : Thread Cert.FfnLastReferenceIdeal.nD Cert.FfnLastReferenceIdeal.τ).loc Cert.FfnLastReferenceIdeal.main_arg3)
      ∧ r.2.mem ((c.tc : Thread Cert.FfnLastReferenceIdeal.nD Cert.FfnLastReferenceIdeal.τ).loc Cert.FfnLastReferenceIdeal.main_arg4) = m ((c.tc : Thread Cert.FfnLastReferenceIdeal.nD Cert.FfnLastReferenceIdeal.τ).loc Cert.FfnLastReferenceIdeal.main_arg4)
      ∧ r.2.mem ((c.tc : Thread Cert.FfnLastReferenceIdeal.nD Cert.FfnLastReferenceIdeal.τ).loc Cert.FfnLastReferenceIdeal.main_arg5) = m ((c.tc : Thread Cert.FfnLastReferenceIdeal.nD Cert.FfnLastReferenceIdeal.τ).loc Cert.FfnLastReferenceIdeal.main_arg5))
      ∧ r.2.sem = fun _ => 0)

def preserves_Kernel_KernelIdeal : Prop :=
  IdealRules.named_const.Statement Cert.KernelIdeal.κ "scale" .f32 0x3E38AA3B#32 ((8⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v33) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_Inproj_InprojIdeal : Prop :=
  IdealRules.named_const.Statement Cert.InprojIdeal.κ "scale" .f32 0x3E38AA3B#32 ((8⁻¹ * (Real.log 2)⁻¹ : ℝ) : EReal)

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
      ∧ m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)
      ∧ m' ((c.tc : Thread Cert.InprojReferenceIdeal.nD Cert.InprojReferenceIdeal.τ).loc Cert.InprojReferenceIdeal.main_arg5) = m ((c.tc : Thread Cert.InprojIdeal.nD Cert.InprojIdeal.τ).loc Cert.InprojIdeal.main_arg5)
      ∧ m' ((c.tc : Thread Cert.InprojReferenceIdeal.nD Cert.InprojReferenceIdeal.τ).loc Cert.InprojReferenceIdeal.main_arg6) = m ((c.tc : Thread Cert.InprojIdeal.nD Cert.InprojIdeal.τ).loc Cert.InprojIdeal.main_arg6)
      ∧ m' ((c.tc : Thread Cert.InprojReferenceIdeal.nD Cert.InprojReferenceIdeal.τ).loc Cert.InprojReferenceIdeal.main_arg7) = m ((c.tc : Thread Cert.InprojIdeal.nD Cert.InprojIdeal.τ).loc Cert.InprojIdeal.main_arg7)
      ∧ m' ((c.tc : Thread Cert.InprojReferenceIdeal.nD Cert.InprojReferenceIdeal.τ).loc Cert.InprojReferenceIdeal.main_arg8) = m ((c.tc : Thread Cert.InprojIdeal.nD Cert.InprojIdeal.τ).loc Cert.InprojIdeal.main_arg8)) →
    ∃ (v0 : (c : Dev Cert.InprojIdeal.nD) → Buf (Elt Ideal) ((c.tc : Thread Cert.InprojIdeal.nD Cert.InprojIdeal.τ).loc Cert.InprojIdeal.main_v11_0)) (v1 : (c : Dev Cert.InprojIdeal.nD) → Buf (Elt Ideal) ((c.tc : Thread Cert.InprojIdeal.nD Cert.InprojIdeal.τ).loc Cert.InprojIdeal.main_v11_1)) (v2 : (c : Dev Cert.InprojIdeal.nD) → Buf (Elt Ideal) ((c.tc : Thread Cert.InprojIdeal.nD Cert.InprojIdeal.τ).loc Cert.InprojIdeal.main_v11_2)) (v3 : (c : Dev Cert.InprojIdeal.nD) → Buf (Elt Ideal) ((c.tc : Thread Cert.InprojIdeal.nD Cert.InprojIdeal.τ).loc Cert.InprojIdeal.main_v12)) (v4 : (c : Dev Cert.InprojIdeal.nD) → Buf (Elt Ideal) ((c.tc : Thread Cert.InprojIdeal.nD Cert.InprojIdeal.τ).loc Cert.InprojIdeal.main_v11_4)) (v5 : (c : Dev Cert.InprojIdeal.nD) → Buf (Elt Ideal) ((c.tc : Thread Cert.InprojIdeal.nD Cert.InprojIdeal.τ).loc Cert.InprojIdeal.main_v11_5)) (v6 : (c : Dev Cert.InprojIdeal.nD) → Buf (Elt Ideal) ((c.tc : Thread Cert.InprojIdeal.nD Cert.InprojIdeal.τ).loc Cert.InprojIdeal.main_v11_6)) (v7 : (c : Dev Cert.InprojIdeal.nD) → Buf (Elt Ideal) ((c.tc : Thread Cert.InprojIdeal.nD Cert.InprojIdeal.τ).loc Cert.InprojIdeal.main_v11_7)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v11_0) = v0 c
          ∧ r.2.mem ((c.tc : Thread Cert.InprojIdeal.nD Cert.InprojIdeal.τ).loc Cert.InprojIdeal.main_v11_1) = v1 c
          ∧ r.2.mem ((c.tc : Thread Cert.InprojIdeal.nD Cert.InprojIdeal.τ).loc Cert.InprojIdeal.main_v11_2) = v2 c
          ∧ r.2.mem ((c.tc : Thread Cert.InprojIdeal.nD Cert.InprojIdeal.τ).loc Cert.InprojIdeal.main_v12) = v3 c
          ∧ r.2.mem ((c.tc : Thread Cert.InprojIdeal.nD Cert.InprojIdeal.τ).loc Cert.InprojIdeal.main_v11_4) = v4 c
          ∧ r.2.mem ((c.tc : Thread Cert.InprojIdeal.nD Cert.InprojIdeal.τ).loc Cert.InprojIdeal.main_v11_5) = v5 c
          ∧ r.2.mem ((c.tc : Thread Cert.InprojIdeal.nD Cert.InprojIdeal.τ).loc Cert.InprojIdeal.main_v11_6) = v6 c
          ∧ r.2.mem ((c.tc : Thread Cert.InprojIdeal.nD Cert.InprojIdeal.τ).loc Cert.InprojIdeal.main_v11_7) = v7 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v38) = v0 c
          ∧ r.2.mem ((c.tc : Thread Cert.InprojReferenceIdeal.nD Cert.InprojReferenceIdeal.τ).loc Cert.InprojReferenceIdeal.main_v18) = v1 c
          ∧ r.2.mem ((c.tc : Thread Cert.InprojReferenceIdeal.nD Cert.InprojReferenceIdeal.τ).loc Cert.InprojReferenceIdeal.main_v39) = v2 c
          ∧ r.2.mem ((c.tc : Thread Cert.InprojReferenceIdeal.nD Cert.InprojReferenceIdeal.τ).loc Cert.InprojReferenceIdeal.main_v28) = v3 c
          ∧ r.2.mem ((c.tc : Thread Cert.InprojReferenceIdeal.nD Cert.InprojReferenceIdeal.τ).loc Cert.InprojReferenceIdeal.main_v44) = v4 c
          ∧ r.2.mem ((c.tc : Thread Cert.InprojReferenceIdeal.nD Cert.InprojReferenceIdeal.τ).loc Cert.InprojReferenceIdeal.main_v49) = v5 c
          ∧ r.2.mem ((c.tc : Thread Cert.InprojReferenceIdeal.nD Cert.InprojReferenceIdeal.τ).loc Cert.InprojReferenceIdeal.main_v54) = v6 c
          ∧ r.2.mem ((c.tc : Thread Cert.InprojReferenceIdeal.nD Cert.InprojReferenceIdeal.τ).loc Cert.InprojReferenceIdeal.main_v59) = v7 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4)
          ∧ r.2.mem ((c.tc : Thread Cert.InprojReferenceIdeal.nD Cert.InprojReferenceIdeal.τ).loc Cert.InprojReferenceIdeal.main_arg5) = m' ((c.tc : Thread Cert.InprojReferenceIdeal.nD Cert.InprojReferenceIdeal.τ).loc Cert.InprojReferenceIdeal.main_arg5)
          ∧ r.2.mem ((c.tc : Thread Cert.InprojReferenceIdeal.nD Cert.InprojReferenceIdeal.τ).loc Cert.InprojReferenceIdeal.main_arg6) = m' ((c.tc : Thread Cert.InprojReferenceIdeal.nD Cert.InprojReferenceIdeal.τ).loc Cert.InprojReferenceIdeal.main_arg6)
          ∧ r.2.mem ((c.tc : Thread Cert.InprojReferenceIdeal.nD Cert.InprojReferenceIdeal.τ).loc Cert.InprojReferenceIdeal.main_arg7) = m' ((c.tc : Thread Cert.InprojReferenceIdeal.nD Cert.InprojReferenceIdeal.τ).loc Cert.InprojReferenceIdeal.main_arg7)
          ∧ r.2.mem ((c.tc : Thread Cert.InprojReferenceIdeal.nD Cert.InprojReferenceIdeal.τ).loc Cert.InprojReferenceIdeal.main_arg8) = m' ((c.tc : Thread Cert.InprojReferenceIdeal.nD Cert.InprojReferenceIdeal.τ).loc Cert.InprojReferenceIdeal.main_arg8))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v7)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v7) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v51) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11))

def preserves_FfnLast_FfnLastIdeal : Prop :=
  True

def algebraic_FfnLastIdeal_FfnLastReferenceIdeal [hFfnLastIdeal : Cert.FfnLastIdeal.Facts] [hFfnLastReferenceIdeal : Cert.FfnLastReferenceIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg)
    (m' : (ℓ : Loc Cert.FfnLastReferenceIdeal.nD Cert.FfnLastReferenceIdeal.τ Cert.FfnLastReferenceIdeal.sig) → Buf (Elt Ideal) ℓ) (g' : Dev Cert.FfnLastReferenceIdeal.nD → PrngReg), Pre_FfnLastIdeal m →
    (∀ c : Dev Cert.FfnLastIdeal.nD,
      m' ((c.tc : Thread Cert.FfnLastReferenceIdeal.nD Cert.FfnLastReferenceIdeal.τ).loc Cert.FfnLastReferenceIdeal.main_arg0) = m ((c.tc : Thread Cert.FfnLastIdeal.nD Cert.FfnLastIdeal.τ).loc Cert.FfnLastIdeal.main_arg0)
      ∧ m' ((c.tc : Thread Cert.FfnLastReferenceIdeal.nD Cert.FfnLastReferenceIdeal.τ).loc Cert.FfnLastReferenceIdeal.main_arg1) = m ((c.tc : Thread Cert.FfnLastIdeal.nD Cert.FfnLastIdeal.τ).loc Cert.FfnLastIdeal.main_arg1)
      ∧ m' ((c.tc : Thread Cert.FfnLastReferenceIdeal.nD Cert.FfnLastReferenceIdeal.τ).loc Cert.FfnLastReferenceIdeal.main_arg2) = m ((c.tc : Thread Cert.FfnLastIdeal.nD Cert.FfnLastIdeal.τ).loc Cert.FfnLastIdeal.main_arg2)
      ∧ m' ((c.tc : Thread Cert.FfnLastReferenceIdeal.nD Cert.FfnLastReferenceIdeal.τ).loc Cert.FfnLastReferenceIdeal.main_arg3) = m ((c.tc : Thread Cert.FfnLastIdeal.nD Cert.FfnLastIdeal.τ).loc Cert.FfnLastIdeal.main_arg3)
      ∧ m' ((c.tc : Thread Cert.FfnLastReferenceIdeal.nD Cert.FfnLastReferenceIdeal.τ).loc Cert.FfnLastReferenceIdeal.main_arg4) = m ((c.tc : Thread Cert.FfnLastIdeal.nD Cert.FfnLastIdeal.τ).loc Cert.FfnLastIdeal.main_arg4)
      ∧ m' ((c.tc : Thread Cert.FfnLastReferenceIdeal.nD Cert.FfnLastReferenceIdeal.τ).loc Cert.FfnLastReferenceIdeal.main_arg5) = m ((c.tc : Thread Cert.FfnLastIdeal.nD Cert.FfnLastIdeal.τ).loc Cert.FfnLastIdeal.main_arg5)) →
    ∃ (v0 : (c : Dev Cert.FfnLastIdeal.nD) → Buf (Elt Ideal) ((c.tc : Thread Cert.FfnLastIdeal.nD Cert.FfnLastIdeal.τ).loc Cert.FfnLastIdeal.main_v8_0)) (v1 : (c : Dev Cert.FfnLastIdeal.nD) → Buf (Elt Ideal) ((c.tc : Thread Cert.FfnLastIdeal.nD Cert.FfnLastIdeal.τ).loc Cert.FfnLastIdeal.main_v8_1)),
      θ_run (Cert.FfnLastIdeal.defs (F := Ideal)) (onTc (τ := Cert.FfnLastIdeal.τ) (Cert.FfnLastIdeal.main (F := Ideal))) ⟨m, fun _ => 0, g⟩ (fun r => ∀ c : Dev Cert.FfnLastIdeal.nD,
          r.2.mem ((c.tc : Thread Cert.FfnLastIdeal.nD Cert.FfnLastIdeal.τ).loc Cert.FfnLastIdeal.main_v8_0) = v0 c
          ∧ r.2.mem ((c.tc : Thread Cert.FfnLastIdeal.nD Cert.FfnLastIdeal.τ).loc Cert.FfnLastIdeal.main_v8_1) = v1 c
          ∧ r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
          ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
          ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
          ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
          ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
          ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5))
      ∧ θ_run (Cert.FfnLastReferenceIdeal.defs (F := Ideal)) (onTc (τ := Cert.FfnLastReferenceIdeal.τ) (Cert.FfnLastReferenceIdeal.main (F := Ideal))) ⟨m', fun _ => 0, g'⟩ (fun r => ∀ c : Dev Cert.FfnLastReferenceIdeal.nD,
          r.2.mem ((c.tc : Thread Cert.FfnLastReferenceIdeal.nD Cert.FfnLastReferenceIdeal.τ).loc Cert.FfnLastReferenceIdeal.main_v34) = v0 c
          ∧ r.2.mem ((c.tc : Thread Cert.FfnLastReferenceIdeal.nD Cert.FfnLastReferenceIdeal.τ).loc Cert.FfnLastReferenceIdeal.main_v35) = v1 c
          ∧ r.2.mem ((c.tc : Thread Cert.FfnLastReferenceIdeal.nD Cert.FfnLastReferenceIdeal.τ).loc Cert.FfnLastReferenceIdeal.main_arg0) = m' ((c.tc : Thread Cert.FfnLastReferenceIdeal.nD Cert.FfnLastReferenceIdeal.τ).loc Cert.FfnLastReferenceIdeal.main_arg0)
          ∧ r.2.mem ((c.tc : Thread Cert.FfnLastReferenceIdeal.nD Cert.FfnLastReferenceIdeal.τ).loc Cert.FfnLastReferenceIdeal.main_arg1) = m' ((c.tc : Thread Cert.FfnLastReferenceIdeal.nD Cert.FfnLastReferenceIdeal.τ).loc Cert.FfnLastReferenceIdeal.main_arg1)
          ∧ r.2.mem ((c.tc : Thread Cert.FfnLastReferenceIdeal.nD Cert.FfnLastReferenceIdeal.τ).loc Cert.FfnLastReferenceIdeal.main_arg2) = m' ((c.tc : Thread Cert.FfnLastReferenceIdeal.nD Cert.FfnLastReferenceIdeal.τ).loc Cert.FfnLastReferenceIdeal.main_arg2)
          ∧ r.2.mem ((c.tc : Thread Cert.FfnLastReferenceIdeal.nD Cert.FfnLastReferenceIdeal.τ).loc Cert.FfnLastReferenceIdeal.main_arg3) = m' ((c.tc : Thread Cert.FfnLastReferenceIdeal.nD Cert.FfnLastReferenceIdeal.τ).loc Cert.FfnLastReferenceIdeal.main_arg3)
          ∧ r.2.mem ((c.tc : Thread Cert.FfnLastReferenceIdeal.nD Cert.FfnLastReferenceIdeal.τ).loc Cert.FfnLastReferenceIdeal.main_arg4) = m' ((c.tc : Thread Cert.FfnLastReferenceIdeal.nD Cert.FfnLastReferenceIdeal.τ).loc Cert.FfnLastReferenceIdeal.main_arg4)
          ∧ r.2.mem ((c.tc : Thread Cert.FfnLastReferenceIdeal.nD Cert.FfnLastReferenceIdeal.τ).loc Cert.FfnLastReferenceIdeal.main_arg5) = m' ((c.tc : Thread Cert.FfnLastReferenceIdeal.nD Cert.FfnLastReferenceIdeal.τ).loc Cert.FfnLastReferenceIdeal.main_arg5))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hInproj : Cert.Inproj.Facts) (hInprojIdeal : Cert.InprojIdeal.Facts) (hInprojReferenceIdeal : Cert.InprojReferenceIdeal.Facts) (hMerge : Cert.Merge.Facts) (hMergeIdeal : Cert.MergeIdeal.Facts) (hMergeReferenceIdeal : Cert.MergeReferenceIdeal.Facts) (hFfnLast : Cert.FfnLast.Facts) (hFfnLastIdeal : Cert.FfnLastIdeal.Facts) (hFfnLastReferenceIdeal : Cert.FfnLastReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Inproj (hInproj := hInproj)
    ∧ quiescent_InprojIdeal (hInprojIdeal := hInprojIdeal)
    ∧ quiescent_InprojReferenceIdeal (hInprojReferenceIdeal := hInprojReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_FfnLast (hFfnLast := hFfnLast)
    ∧ quiescent_FfnLastIdeal (hFfnLastIdeal := hFfnLastIdeal)
    ∧ quiescent_FfnLastReferenceIdeal (hFfnLastReferenceIdeal := hFfnLastReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Ffn_FfnIdeal
    ∧ algebraic_FfnIdeal_FfnReferenceIdeal (hFfnIdeal := hFfnIdeal) (hFfnReferenceIdeal := hFfnReferenceIdeal)
    ∧ preserves_Inproj_InprojIdeal
    ∧ algebraic_InprojIdeal_InprojReferenceIdeal (hInprojIdeal := hInprojIdeal) (hInprojReferenceIdeal := hInprojReferenceIdeal)
    ∧ preserves_Merge_MergeIdeal
    ∧ algebraic_MergeIdeal_MergeReferenceIdeal (hMergeIdeal := hMergeIdeal) (hMergeReferenceIdeal := hMergeReferenceIdeal)
    ∧ preserves_FfnLast_FfnLastIdeal
    ∧ algebraic_FfnLastIdeal_FfnLastReferenceIdeal (hFfnLastIdeal := hFfnLastIdeal) (hFfnLastReferenceIdeal := hFfnLastReferenceIdeal)
-- ==== Pre_finite_scores.lean ====
abbrev S9216x1024 : Shape := ⟨2, ![9216, 1024]⟩
abbrev S4x32x32x16x64 : Shape := ⟨5, ![4, 32, 32, 16, 64]⟩
abbrev S32x32x16 : Shape := ⟨3, ![32, 32, 16]⟩
abbrev S4x32x1024x16x64 : Shape := ⟨5, ![4, 32, 1024, 16, 64]⟩
abbrev S4x32x1024x16 : Shape := ⟨4, ![4, 32, 1024, 16]⟩
abbrev S_ : Shape := ⟨0, ![]⟩

class Facts : Prop where
  bcast_S_S9216x1024 : S_.BroadcastsInDim S9216x1024 (![] : Fin 0 → Fin S9216x1024.rank)
  reducesTo_S9216x1024_S_d0_1 : S9216x1024.ReducesTo [0, 1] S_
  h_S_ : 0 < S_.numel
  bcast_S_S4x32x32x16x64 : S_.BroadcastsInDim S4x32x32x16x64 (![] : Fin 0 → Fin S4x32x32x16x64.rank)
  reducesTo_S4x32x32x16x64_S_d0_1_2_3_4 : S4x32x32x16x64.ReducesTo [0, 1, 2, 3, 4] S_
  bcast_S_S32x32x16 : S_.BroadcastsInDim S32x32x16 (![] : Fin 0 → Fin S32x32x16.rank)
  reducesTo_S32x32x16_S_d0_1_2 : S32x32x16.ReducesTo [0, 1, 2] S_
  bcast_S_S4x32x1024x16x64 : S_.BroadcastsInDim S4x32x1024x16x64 (![] : Fin 0 → Fin S4x32x1024x16x64.rank)
  reducesTo_S4x32x1024x16x64_S_d0_1_2_3_4 : S4x32x1024x16x64.ReducesTo [0, 1, 2, 3, 4] S_
  bcast_S_S4x32x1024x16 : S_.BroadcastsInDim S4x32x1024x16 (![] : Fin 0 → Fin S4x32x1024x16.rank)
  reducesTo_S4x32x1024x16_S_d0_1_2_3 : S4x32x1024x16.ReducesTo [0, 1, 2, 3] S_

variable [Facts]

def fn_part1 {F : FTy → Type} [FloatOps F] (main_arg6 : FVec F S4x32x1024x16 .f32) (main_v13 : IVec S_ 1) (main_v16 : IVec S4x32x1024x16x64 1) : IVec S_ 1 :=
  let main_c_5 : IVec S_ 1 := constantI S_ 1 1#1
  let main_v17 : IVec S_ 1 := (fun x v => Host.reduce IntOp.andi x v reducesTo_S4x32x1024x16x64_S_d0_1_2_3_4 h_S_) main_v16 main_c_5
  let main_v18 : IVec S_ 1 := andi main_v13 main_v17
  let main_v19 : FVec F S4x32x1024x16 .f32 := Host.absf main_arg6
  let main_cst_6 : FVec F S_ .f32 := constant S_ .f32 0x7F800000#32
  let main_v20 : FVec F S4x32x1024x16 .f32 := broadcastInDim S4x32x1024x16 ![] bcast_S_S4x32x1024x16 main_cst_6
  let main_v21 : IVec S4x32x1024x16 1 := cmpf .olt main_v19 main_v20
  let main_c_7 : IVec S_ 1 := constantI S_ 1 1#1
  let main_v22 : IVec S_ 1 := (fun x v => Host.reduce IntOp.andi x v reducesTo_S4x32x1024x16_S_d0_1_2_3 h_S_) main_v21 main_c_7
  let main_v23 : IVec S_ 1 := andi main_v18 main_v22
  main_v23

def fn {F : FTy → Type} [FloatOps F] (main_arg0 : FVec F S9216x1024 .f32) (main_arg1 : FVec F S4x32x32x16x64 .f32) (main_arg2 : FVec F S4x32x32x16x64 .f32) (main_arg3 : FVec F S32x32x16 .f32) (main_arg4 : FVec F S4x32x1024x16x64 .f32) (main_arg5 : FVec F S4x32x1024x16x64 .f32) (main_arg6 : FVec F S4x32x1024x16 .f32) : IVec S_ 1 :=
  let main_v0 : FVec F S9216x1024 .f32 := Host.absf main_arg0
  let main_cst : FVec F S_ .f32 := constant S_ .f32 0x7F800000#32
  let main_v1 : FVec F S9216x1024 .f32 := broadcastInDim S9216x1024 ![] bcast_S_S9216x1024 main_cst
  let main_v2 : IVec S9216x1024 1 := cmpf .olt main_v0 main_v1
  let main_c : IVec S_ 1 := constantI S_ 1 1#1
  let main_v3 : IVec S_ 1 := (fun x v => Host.reduce IntOp.andi x v reducesTo_S9216x1024_S_d0_1 h_S_) main_v2 main_c
  let main_v4 : FVec F S4x32x32x16x64 .f32 := Host.absf main_arg1
  let main_cst_0 : FVec F S_ .f32 := constant S_ .f32 0x7F800000#32
  let main_v5 : FVec F S4x32x32x16x64 .f32 := broadcastInDim S4x32x32x16x64 ![] bcast_S_S4x32x32x16x64 main_cst_0
  let main_v6 : IVec S4x32x32x16x64 1 := cmpf .olt main_v4 main_v5
  let main_c_1 : IVec S_ 1 := constantI S_ 1 1#1
  let main_v7 : IVec S_ 1 := (fun x v => Host.reduce IntOp.andi x v reducesTo_S4x32x32x16x64_S_d0_1_2_3_4 h_S_) main_v6 main_c_1
  let main_v8 : IVec S_ 1 := andi main_v3 main_v7
  let main_v9 : FVec F S32x32x16 .f32 := Host.absf main_arg3
  let main_cst_2 : FVec F S_ .f32 := constant S_ .f32 0x7F800000#32
  let main_v10 : FVec F S32x32x16 .f32 := broadcastInDim S32x32x16 ![] bcast_S_S32x32x16 main_cst_2
  let main_v11 : IVec S32x32x16 1 := cmpf .olt main_v9 main_v10
  let main_c_3 : IVec S_ 1 := constantI S_ 1 1#1
  let main_v12 : IVec S_ 1 := (fun x v => Host.reduce IntOp.andi x v reducesTo_S32x32x16_S_d0_1_2 h_S_) main_v11 main_c_3
  let main_v13 : IVec S_ 1 := andi main_v8 main_v12
  let main_v14 : FVec F S4x32x1024x16x64 .f32 := Host.absf main_arg4
  let main_cst_4 : FVec F S_ .f32 := constant S_ .f32 0x7F800000#32
  let main_v15 : FVec F S4x32x1024x16x64 .f32 := broadcastInDim S4x32x1024x16x64 ![] bcast_S_S4x32x1024x16x64 main_cst_4
  let main_v16 : IVec S4x32x1024x16x64 1 := cmpf .olt main_v14 main_v15
  fn_part1 (F := F) main_arg6 main_v13 main_v16
-- ==== Kernel.lean ====
abbrev S9216x1024 : Shape := ⟨2, ![9216, 1024]⟩
abbrev S4x32x32x16x64 : Shape := ⟨5, ![4, 32, 32, 16, 64]⟩
abbrev S32x32x16 : Shape := ⟨3, ![32, 32, 16]⟩
abbrev S4x32x1024x16x64 : Shape := ⟨5, ![4, 32, 1024, 16, 64]⟩
abbrev S4x32x1024x16 : Shape := ⟨4, ![4, 32, 1024, 16]⟩
abbrev S4x1024x1024 : Shape := ⟨3, ![4, 1024, 1024]⟩
abbrev S4x32x16x64x1024 : Shape := ⟨5, ![4, 32, 16, 64, 1024]⟩
abbrev S4x32x16x1024 : Shape := ⟨4, ![4, 32, 16, 1024]⟩
abbrev S32x16x32 : Shape := ⟨3, ![32, 16, 32]⟩
abbrev S_ : Shape := ⟨0, ![]⟩
abbrev S32x16x128 : Shape := ⟨3, ![32, 16, 128]⟩
abbrev S1x32x16x1024 : Shape := ⟨4, ![1, 32, 16, 1024]⟩
abbrev S32x16x1024 : Shape := ⟨3, ![32, 16, 1024]⟩
abbrev S1024x1024 : Shape := ⟨2, ![1024, 1024]⟩
abbrev S32x1024 : Shape := ⟨2, ![32, 1024]⟩
abbrev S1x32x1024 : Shape := ⟨3, ![1, 32, 1024]⟩
abbrev S1x1x16x64x1024 : Shape := ⟨5, ![1, 1, 16, 64, 1024]⟩
abbrev S1x16x1024 : Shape := ⟨3, ![1, 16, 1024]⟩
abbrev S1x16x128 : Shape := ⟨3, ![1, 16, 128]⟩
abbrev S16x1024 : Shape := ⟨2, ![16, 1024]⟩
abbrev S16x128 : Shape := ⟨2, ![16, 128]⟩
abbrev S16x32 : Shape := ⟨2, ![16, 32]⟩
abbrev S32x32 : Shape := ⟨2, ![32, 32]⟩
abbrev S1x1x1x64x1024 : Shape := ⟨5, ![1, 1, 1, 64, 1024]⟩
abbrev S64x1024 : Shape := ⟨2, ![64, 1024]⟩
abbrev S32x64 : Shape := ⟨2, ![32, 64]⟩
abbrev S1x1024 : Shape := ⟨2, ![1, 1024]⟩
abbrev S1x32 : Shape := ⟨2, ![1, 32]⟩
abbrev S32 : Shape := ⟨1, ![32]⟩
abbrev S32x1 : Shape := ⟨2, ![32, 1]⟩

abbrev nBuf : Space → Nat
  | .hbm => 19
  | .vmem => 16
  | .smem => 0
  | _ => 0

abbrev bufTy : (tb : Table) → Fin (tcTables nBuf tb) → BufTy
  | .hbm, ⟨0, _⟩ => ⟨S9216x1024, .f32⟩
  | .hbm, ⟨1, _⟩ => ⟨S4x32x32x16x64, .f32⟩
  | .hbm, ⟨2, _⟩ => ⟨S4x32x32x16x64, .f32⟩
  | .hbm, ⟨3, _⟩ => ⟨S32x32x16, .f32⟩
  | .hbm, ⟨4, _⟩ => ⟨S4x32x1024x16x64, .f32⟩
  | .hbm, ⟨5, _⟩ => ⟨S4x32x1024x16x64, .f32⟩
  | .hbm, ⟨6, _⟩ => ⟨S4x32x1024x16, .f32⟩
  | .hbm, ⟨7, _⟩ => ⟨S4x1024x1024, .f32⟩
  | .hbm, ⟨8, _⟩ => ⟨S4x1024x1024, .f32⟩
  | .hbm, ⟨9, _⟩ => ⟨S4x32x16x64x1024, .f32⟩
  | .hbm, ⟨10, _⟩ => ⟨S4x32x16x64x1024, .f32⟩
  | .hbm, ⟨11, _⟩ => ⟨S4x32x16x1024, .f32⟩
  | .hbm, ⟨12, _⟩ => ⟨S32x16x32, .f32⟩
  | .hbm, ⟨13, _⟩ => ⟨S_, .i32⟩
  | .hbm, ⟨14, _⟩ => ⟨S_, .f32⟩
  | .hbm, ⟨15, _⟩ => ⟨S32x16x128, .f32⟩
  | .hbm, ⟨16, _⟩ => ⟨S1x32x16x1024, .f32⟩
  | .hbm, ⟨17, _⟩ => ⟨S32x16x1024, .f32⟩
  | .hbm, ⟨18, _⟩ => ⟨S1024x1024, .bf16⟩
  | .local _ .vmem, ⟨0, _⟩ => ⟨S32x1024, .f32⟩
  | .local _ .vmem, ⟨1, _⟩ => ⟨S32x1024, .f32⟩
  | .local _ .vmem, ⟨2, _⟩ => ⟨S1x32x1024, .f32⟩
  | .local _ .vmem, ⟨3, _⟩ => ⟨S1x32x1024, .f32⟩
  | .local _ .vmem, ⟨4, _⟩ => ⟨S1x32x1024, .f32⟩
  | .local _ .vmem, ⟨5, _⟩ => ⟨S1x32x1024, .f32⟩
  | .local _ .vmem, ⟨6, _⟩ => ⟨S1x1x16x64x1024, .f32⟩
  | .local _ .vmem, ⟨7, _⟩ => ⟨S1x1x16x64x1024, .f32⟩
  | .local _ .vmem, ⟨8, _⟩ => ⟨S1x1x16x64x1024, .f32⟩
  | .local _ .vmem, ⟨9, _⟩ => ⟨S1x1x16x64x1024, .f32⟩
  | .local _ .vmem, ⟨10, _⟩ => ⟨S1x16x1024, .f32⟩
  | .local _ .vmem, ⟨11, _⟩ => ⟨S1x16x1024, .f32⟩
  | .local _ .vmem, ⟨12, _⟩ => ⟨S1x16x128, .f32⟩
  | .local _ .vmem, ⟨13, _⟩ => ⟨S1x16x128, .f32⟩
  | .local _ .vmem, ⟨14, _⟩ => ⟨S32x1024, .bf16⟩
  | .local _ .vmem, ⟨15, _⟩ => ⟨S32x1024, .bf16⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c256_i32 : BitVec 32 := 256#32
  let v0 : BitVec 32 := Scalar.addi c256_i32 arg0
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x16x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x16x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "log2e" => some (((Real.log 2)⁻¹ : ℝ) : EReal)
  | "mask" => some ⊥
  | "scale" => some ((8⁻¹ * (Real.log 2)⁻¹ : ℝ) : EReal)
  | _ => none
-- ==== ReferenceIdeal.lean ====
abbrev S9216x1024 : Shape := ⟨2, ![9216, 1024]⟩
abbrev S4x32x32x16x64 : Shape := ⟨5, ![4, 32, 32, 16, 64]⟩
abbrev S32x32x16 : Shape := ⟨3, ![32, 32, 16]⟩
abbrev S4x32x1024x16x64 : Shape := ⟨5, ![4, 32, 1024, 16, 64]⟩
abbrev S4x32x1024x16 : Shape := ⟨4, ![4, 32, 1024, 16]⟩
abbrev S1024x1024 : Shape := ⟨2, ![1024, 1024]⟩
abbrev S32x32x16x64 : Shape := ⟨4, ![32, 32, 16, 64]⟩
abbrev S1x32x1024x16x64 : Shape := ⟨5, ![1, 32, 1024, 16, 64]⟩
abbrev S32x1024x16x64 : Shape := ⟨4, ![32, 1024, 16, 64]⟩
abbrev S1x32x32x16x64 : Shape := ⟨5, ![1, 32, 32, 16, 64]⟩
abbrev S32x1056x16x64 : Shape := ⟨4, ![32, 1056, 16, 64]⟩
abbrev S1x32x1024x16 : Shape := ⟨4, ![1, 32, 1024, 16]⟩
abbrev S32x1024x16 : Shape := ⟨3, ![32, 1024, 16]⟩
abbrev S32x1056x16 : Shape := ⟨3, ![32, 1056, 16]⟩
abbrev S_ : Shape := ⟨0, ![]⟩
abbrev S1056 : Shape := ⟨1, ![1056]⟩
abbrev S32 : Shape := ⟨1, ![32]⟩
abbrev S32x16x32x1056 : Shape := ⟨4, ![32, 16, 32, 1056]⟩
abbrev S32x16x32 : Shape := ⟨3, ![32, 16, 32]⟩
abbrev S32x16x32x1 : Shape := ⟨4, ![32, 16, 32, 1]⟩
abbrev S32x16x1056 : Shape := ⟨3, ![32, 16, 1056]⟩
abbrev S32x16x1x1056 : Shape := ⟨4, ![32, 16, 1, 1056]⟩
abbrev S1x1056 : Shape := ⟨2, ![1, 1056]⟩
abbrev S32x1 : Shape := ⟨2, ![32, 1]⟩
abbrev S32x1056 : Shape := ⟨2, ![32, 1056]⟩
abbrev S1x1x32x1056 : Shape := ⟨4, ![1, 1, 32, 1056]⟩
abbrev S32x16x64x32 : Shape := ⟨4, ![32, 16, 64, 32]⟩

abbrev nBuf : Space → Nat
  | .hbm => 72
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S4x32x32x16x64, .f32⟩
  | .hbm, ⟨2, _⟩ => ⟨S4x32x32x16x64, .f32⟩
  | .hbm, ⟨3, _⟩ => ⟨S32x32x16, .f32⟩
  | .hbm, ⟨4, _⟩ => ⟨S4x32x1024x16x64, .f32⟩
  | .hbm, ⟨5, _⟩ => ⟨S4x32x1024x16x64, .f32⟩
  | .hbm, ⟨6, _⟩ => ⟨S4x32x1024x16, .f32⟩
  | .hbm, ⟨7, _⟩ => ⟨S1024x1024, .f32⟩
  | .hbm, ⟨8, _⟩ => ⟨S32x32x16x64, .f32⟩
  | .hbm, ⟨9, _⟩ => ⟨S1x32x1024x16x64, .f32⟩
  | .hbm, ⟨10, _⟩ => ⟨S32x1024x16x64, .f32⟩
  | .hbm, ⟨11, _⟩ => ⟨S1x32x32x16x64, .f32⟩
  | .hbm, ⟨12, _⟩ => ⟨S32x32x16x64, .f32⟩
  | .hbm, ⟨13, _⟩ => ⟨S32x1056x16x64, .f32⟩
  | .hbm, ⟨14, _⟩ => ⟨S1x32x1024x16x64, .f32⟩
  | .hbm, ⟨15, _⟩ => ⟨S32x1024x16x64, .f32⟩
  | .hbm, ⟨16, _⟩ => ⟨S1x32x32x16x64, .f32⟩
  | .hbm, ⟨17, _⟩ => ⟨S32x32x16x64, .f32⟩
  | .hbm, ⟨18, _⟩ => ⟨S32x1056x16x64, .f32⟩
  | .hbm, ⟨19, _⟩ => ⟨S1x32x1024x16, .f32⟩
  | .hbm, ⟨20, _⟩ => ⟨S32x1024x16, .f32⟩
  | .hbm, ⟨21, _⟩ => ⟨S32x1056x16, .f32⟩
  | .hbm, ⟨22, _⟩ => ⟨S_, .f32⟩
  | .hbm, ⟨23, _⟩ => ⟨S_, .f32⟩
  | .hbm, ⟨24, _⟩ => ⟨S32x1056x16, .f32⟩
  | .hbm, ⟨25, _⟩ => ⟨S32x32x16, .f32⟩
  | .hbm, ⟨26, _⟩ => ⟨S1056, .i32⟩
  | .hbm, ⟨27, _⟩ => ⟨S32, .i32⟩
  | .hbm, ⟨28, _⟩ => ⟨S_, .i32⟩
  | .hbm, ⟨29, _⟩ => ⟨S32, .i32⟩
  | .hbm, ⟨30, _⟩ => ⟨S32, .i32⟩
  | .hbm, ⟨31, _⟩ => ⟨S32x16x32x1056, .f32⟩
  | .hbm, ⟨32, _⟩ => ⟨S_, .f32⟩
  | .hbm, ⟨33, _⟩ => ⟨S32x16x32x1056, .f32⟩
  | .hbm, ⟨34, _⟩ => ⟨S32x16x32x1056, .f32⟩
  | .hbm, ⟨35, _⟩ => ⟨S32x16x32, .f32⟩
  | .hbm, ⟨36, _⟩ => ⟨S32x16x32x1, .f32⟩
  | .hbm, ⟨37, _⟩ => ⟨S32x16x1056, .f32⟩
  | .hbm, ⟨38, _⟩ => ⟨S32x16x1x1056, .f32⟩
  | .hbm, ⟨39, _⟩ => ⟨S32x16x32x1056, .f32⟩
  | .hbm, ⟨40, _⟩ => ⟨S32x16x32x1056, .f32⟩
  | .hbm, ⟨41, _⟩ => ⟨S32x16x32x1056, .f32⟩
  | .hbm, ⟨42, _⟩ => ⟨S32x16x32x1056, .f32⟩
  | .hbm, ⟨43, _⟩ => ⟨S1x1056, .i32⟩
  | .hbm, ⟨44, _⟩ => ⟨S32x1, .i32⟩
  | .hbm, ⟨45, _⟩ => ⟨S32x1056, .i32⟩
  | .hbm, ⟨46, _⟩ => ⟨S32x1056, .i32⟩
  | .hbm, ⟨47, _⟩ => ⟨S32x1056, .i1⟩
  | .hbm, ⟨48, _⟩ => ⟨S1x1x32x1056, .i1⟩
  | .hbm, ⟨49, _⟩ => ⟨S_, .f32⟩
  | .hbm, ⟨50, _⟩ => ⟨S_, .f32⟩
  | .hbm, ⟨51, _⟩ => ⟨S32x16x32x1056, .i1⟩
  | .hbm, ⟨52, _⟩ => ⟨S32x16x32x1056, .f32⟩
  | .hbm, ⟨53, _⟩ => ⟨S32x16x32x1056, .f32⟩
  | .hbm, ⟨54, _⟩ => ⟨S_, .f32⟩
  | .hbm, ⟨55, _⟩ => ⟨S32x16x32, .f32⟩
  | .hbm, ⟨56, _⟩ => ⟨S_, .f32⟩
  | .hbm, ⟨57, _⟩ => ⟨S32x16x32, .f32⟩
  | .hbm, ⟨58, _⟩ => ⟨S32x16x32, .f32⟩
  | .hbm, ⟨59, _⟩ => ⟨S32x16x32x1, .f32⟩
  | .hbm, ⟨60, _⟩ => ⟨S32x16x32x1056, .f32⟩
  | .hbm, ⟨61, _⟩ => ⟨S32x16x32x1056, .f32⟩
  | .hbm, ⟨62, _⟩ => ⟨S32x16x32x1056, .f32⟩
  | .hbm, ⟨63, _⟩ => ⟨S_, .f32⟩
  | .hbm, ⟨64, _⟩ => ⟨S32x16x32, .f32⟩
  | .hbm, ⟨65, _⟩ => ⟨S32x16x32x1, .f32⟩
  | .hbm, ⟨66, _⟩ => ⟨S32x16x32x1056, .f32⟩
  | .hbm, ⟨67, _⟩ => ⟨S32x16x32x1056, .f32⟩
  | .hbm, ⟨68, _⟩ => ⟨S32x16x64x32, .f32⟩
  | .hbm, ⟨69, _⟩ => ⟨S32x32x16x64, .f32⟩
  | .hbm, ⟨70, _⟩ => ⟨S1024x1024, .f32⟩
  | .hbm, ⟨71, _⟩ => ⟨S1024x1024, .bf16⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_call0_cst : Ref sig .tc := ⟨.hbm, 22, rfl⟩
abbrev main_call0_call0_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_0 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v38 : Ref sig .tc := ⟨.hbm, 53, rfl⟩
abbrev main_cst_1 : Ref sig .tc := ⟨.hbm, 54, rfl⟩
abbrev main_v39 : Ref sig .tc := ⟨.hbm, 55, rfl⟩
abbrev main_cst_2 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_3 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]
-- ==== Ffn.lean ====
abbrev S9216x2048 : Shape := ⟨2, ![9216, 2048]⟩
abbrev S2048 : Shape := ⟨1, ![2048]⟩
abbrev S2048x5504 : Shape := ⟨2, ![2048, 5504]⟩
abbrev S5504x2048 : Shape := ⟨2, ![5504, 2048]⟩
abbrev S_ : Shape := ⟨0, ![]⟩
abbrev S5632x2048 : Shape := ⟨2, ![5632, 2048]⟩
abbrev S1x2048 : Shape := ⟨2, ![1, 2048]⟩
abbrev S2048x5632 : Shape := ⟨2, ![2048, 5632]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 21
  | .vmem => 13
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S2048, .f32⟩
  | .hbm, ⟨3, _⟩ => ⟨S2048x5504, .f32⟩
  | .hbm, ⟨4, _⟩ => ⟨S2048x5504, .f32⟩
  | .hbm, ⟨5, _⟩ => ⟨S5504x2048, .f32⟩
  | .hbm, ⟨6, _⟩ => ⟨S5504x2048, .bf16⟩
  | .hbm, ⟨7, _⟩ => ⟨S_, .i32⟩
  | .hbm, ⟨8, _⟩ => ⟨S_, .bf16⟩
  | .hbm, ⟨9, _⟩ => ⟨S5632x2048, .bf16⟩
  | .hbm, ⟨10, _⟩ => ⟨S1x2048, .f32⟩
  | .hbm, ⟨11, _⟩ => ⟨S1x2048, .f32⟩
  | .hbm, ⟨12, _⟩ => ⟨S2048x5504, .bf16⟩
  | .hbm, ⟨13, _⟩ => ⟨S_, .i32⟩
  | .hbm, ⟨14, _⟩ => ⟨S_, .bf16⟩
  | .hbm, ⟨15, _⟩ => ⟨S2048x5632, .bf16⟩
  | .hbm, ⟨16, _⟩ => ⟨S2048x5504, .bf16⟩
  | .hbm, ⟨17, _⟩ => ⟨S_, .i32⟩
  | .hbm, ⟨18, _⟩ => ⟨S_, .bf16⟩
  | .hbm, ⟨19, _⟩ => ⟨S2048x5632, .bf16⟩
  | .hbm, ⟨20, _⟩ => ⟨S9216x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_call2_v0 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![18, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnReferenceIdeal.lean ====
abbrev S9216x2048 : Shape := ⟨2, ![9216, 2048]⟩
abbrev S2048 : Shape := ⟨1, ![2048]⟩
abbrev S2048x5504 : Shape := ⟨2, ![2048, 5504]⟩
abbrev S5504x2048 : Shape := ⟨2, ![5504, 2048]⟩
abbrev S_ : Shape := ⟨0, ![]⟩
abbrev S9216 : Shape := ⟨1, ![9216]⟩
abbrev S9216x1 : Shape := ⟨2, ![9216, 1]⟩
abbrev S1x2048 : Shape := ⟨2, ![1, 2048]⟩
abbrev S9216x5504 : Shape := ⟨2, ![9216, 5504]⟩

abbrev nBuf : Space → Nat
  | .hbm => 55
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S2048, .f32⟩
  | .hbm, ⟨3, _⟩ => ⟨S2048x5504, .f32⟩
  | .hbm, ⟨4, _⟩ => ⟨S2048x5504, .f32⟩
  | .hbm, ⟨5, _⟩ => ⟨S5504x2048, .f32⟩
  | .hbm, ⟨6, _⟩ => ⟨S9216x2048, .f32⟩
  | .hbm, ⟨7, _⟩ => ⟨S_, .f32⟩
  | .hbm, ⟨8, _⟩ => ⟨S9216, .f32⟩
  | .hbm, ⟨9, _⟩ => ⟨S9216x1, .f32⟩
  | .hbm, ⟨10, _⟩ => ⟨S_, .f32⟩
  | .hbm, ⟨11, _⟩ => ⟨S9216x1, .f32⟩
  | .hbm, ⟨12, _⟩ => ⟨S9216x1, .f32⟩
  | .hbm, ⟨13, _⟩ => ⟨S_, .f32⟩
  | .hbm, ⟨14, _⟩ => ⟨S9216x1, .f32⟩
  | .hbm, ⟨15, _⟩ => ⟨S9216x1, .f32⟩
  | .hbm, ⟨16, _⟩ => ⟨S9216x1, .f32⟩
  | .hbm, ⟨17, _⟩ => ⟨S9216x2048, .f32⟩
  | .hbm, ⟨18, _⟩ => ⟨S9216x2048, .f32⟩
  | .hbm, ⟨19, _⟩ => ⟨S1x2048, .f32⟩
  | .hbm, ⟨20, _⟩ => ⟨S9216x2048, .f32⟩
  | .hbm, ⟨21, _⟩ => ⟨S9216x2048, .f32⟩
  | .hbm, ⟨22, _⟩ => ⟨S9216x5504, .f32⟩
  | .hbm, ⟨23, _⟩ => ⟨S9216x5504, .f32⟩
  | .hbm, ⟨24, _⟩ => ⟨S9216x5504, .f32⟩
  | .hbm, ⟨25, _⟩ => ⟨S_, .f32⟩
  | .hbm, ⟨26, _⟩ => ⟨S9216x5504, .f32⟩
  | .hbm, ⟨27, _⟩ => ⟨S9216x5504, .f32⟩
  | .hbm, ⟨28, _⟩ => ⟨S_, .f32⟩
  | .hbm, ⟨29, _⟩ => ⟨S9216x5504, .f32⟩
  | .hbm, ⟨30, _⟩ => ⟨S9216x5504, .f32⟩
  | .hbm, ⟨31, _⟩ => ⟨S9216x5504, .f32⟩
  | .hbm, ⟨32, _⟩ => ⟨S9216x5504, .f32⟩
  | .hbm, ⟨33, _⟩ => ⟨S9216x5504, .f32⟩
  | .hbm, ⟨34, _⟩ => ⟨S9216x2048, .f32⟩
  | .hbm, ⟨35, _⟩ => ⟨S9216x2048, .f32⟩
  | .hbm, ⟨36, _⟩ => ⟨S_, .f32⟩
  | .hbm, ⟨37, _⟩ => ⟨S9216, .f32⟩
  | .hbm, ⟨38, _⟩ => ⟨S9216x1, .f32⟩
  | .hbm, ⟨39, _⟩ => ⟨S_, .f32⟩
  | .hbm, ⟨40, _⟩ => ⟨S9216x1, .f32⟩
  | .hbm, ⟨41, _⟩ => ⟨S9216x1, .f32⟩
  | .hbm, ⟨42, _⟩ => ⟨S_, .f32⟩
  | .hbm, ⟨43, _⟩ => ⟨S9216x1, .f32⟩
  | .hbm, ⟨44, _⟩ => ⟨S9216x1, .f32⟩
  | .hbm, ⟨45, _⟩ => ⟨S9216x1, .f32⟩
  | .hbm, ⟨46, _⟩ => ⟨S9216x2048, .f32⟩
  | .hbm, ⟨47, _⟩ => ⟨S9216x2048, .f32⟩
  | .hbm, ⟨48, _⟩ => ⟨S1x2048, .f32⟩
  | .hbm, ⟨49, _⟩ => ⟨S9216x2048, .f32⟩
  | .hbm, ⟨50, _⟩ => ⟨S9216x2048, .f32⟩
  | .hbm, ⟨51, _⟩ => ⟨S_, .f32⟩
  | .hbm, ⟨52, _⟩ => ⟨S9216x2048, .f32⟩
  | .hbm, ⟨53, _⟩ => ⟨S9216x2048, .f32⟩
  | .hbm, ⟨54, _⟩ => ⟨S9216x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Inproj.lean ====
abbrev S9216x2048 : Shape := ⟨2, ![9216, 2048]⟩
abbrev S2048 : Shape := ⟨1, ![2048]⟩
abbrev S2048x8208 : Shape := ⟨2, ![2048, 8208]⟩
abbrev S16 : Shape := ⟨1, ![16]⟩
abbrev S4096 : Shape := ⟨1, ![4096]⟩
abbrev S4x8192x1024 : Shape := ⟨3, ![4, 8192, 1024]⟩
abbrev S4x1024x1024 : Shape := ⟨3, ![4, 1024, 1024]⟩
abbrev S2048x3072 : Shape := ⟨2, ![2048, 3072]⟩
abbrev S2048x5120 : Shape := ⟨2, ![2048, 5120]⟩
abbrev S2048x8192 : Shape := ⟨2, ![2048, 8192]⟩
abbrev S2048x16 : Shape := ⟨2, ![2048, 16]⟩
abbrev S_ : Shape := ⟨0, ![]⟩
abbrev S2048x128 : Shape := ⟨2, ![2048, 128]⟩
abbrev S1x16 : Shape := ⟨2, ![1, 16]⟩
abbrev S1x128 : Shape := ⟨2, ![1, 128]⟩
abbrev S1x2048 : Shape := ⟨2, ![1, 2048]⟩
abbrev S1x4096 : Shape := ⟨2, ![1, 4096]⟩
abbrev S9216x1024 : Shape := ⟨2, ![9216, 1024]⟩
abbrev S9216x4096 : Shape := ⟨2, ![9216, 4096]⟩
abbrev S9216x128 : Shape := ⟨2, ![9216, 128]⟩
abbrev S512x2048 : Shape := ⟨2, ![512, 2048]⟩
abbrev S2048x1024 : Shape := ⟨2, ![2048, 1024]⟩
abbrev S512x1024 : Shape := ⟨2, ![512, 1024]⟩
abbrev S512x4096 : Shape := ⟨2, ![512, 4096]⟩
abbrev S512x128 : Shape := ⟨2, ![512, 128]⟩
abbrev S1x512x1024 : Shape := ⟨3, ![1, 512, 1024]⟩
abbrev S512 : Shape := ⟨1, ![512]⟩
abbrev S512x1 : Shape := ⟨2, ![512, 1]⟩
abbrev S1x1024 : Shape := ⟨2, ![1, 1024]⟩
abbrev S9216x16 : Shape := ⟨2, ![9216, 16]⟩

abbrev nBuf : Space → Nat
  | .hbm => 33
  | .vmem => 25
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S2048x8208, .f32⟩
  | .hbm, ⟨3, _⟩ => ⟨S16, .f32⟩
  | .hbm, ⟨4, _⟩ => ⟨S4096, .f32⟩
  | .hbm, ⟨5, _⟩ => ⟨S4x8192x1024, .f32⟩
  | .hbm, ⟨6, _⟩ => ⟨S4x8192x1024, .f32⟩
  | .hbm, ⟨7, _⟩ => ⟨S4x1024x1024, .f32⟩
  | .hbm, ⟨8, _⟩ => ⟨S4x1024x1024, .f32⟩
  | .hbm, ⟨9, _⟩ => ⟨S2048x3072, .f32⟩
  | .hbm, ⟨10, _⟩ => ⟨S2048x5120, .f32⟩
  | .hbm, ⟨11, _⟩ => ⟨S2048x8192, .f32⟩
  | .hbm, ⟨12, _⟩ => ⟨S2048x8192, .bf16⟩
  | .hbm, ⟨13, _⟩ => ⟨S2048x16, .f32⟩
  | .hbm, ⟨14, _⟩ => ⟨S2048x16, .bf16⟩
  | .hbm, ⟨15, _⟩ => ⟨S_, .i32⟩
  | .hbm, ⟨16, _⟩ => ⟨S_, .bf16⟩
  | .hbm, ⟨17, _⟩ => ⟨S2048x128, .bf16⟩
  | .hbm, ⟨18, _⟩ => ⟨S1x16, .f32⟩
  | .hbm, ⟨19, _⟩ => ⟨S_, .i32⟩
  | .hbm, ⟨20, _⟩ => ⟨S_, .f32⟩
  | .hbm, ⟨21, _⟩ => ⟨S1x128, .f32⟩
  | .hbm, ⟨22, _⟩ => ⟨S1x2048, .f32⟩
  | .hbm, ⟨23, _⟩ => ⟨S1x4096, .f32⟩
  | .hbm, ⟨24, _⟩ => ⟨S9216x1024, .bf16⟩
  | .hbm, ⟨25, _⟩ => ⟨S9216x1024, .f32⟩
  | .hbm, ⟨26, _⟩ => ⟨S9216x4096, .bf16⟩
  | .hbm, ⟨27, _⟩ => ⟨S9216x128, .f32⟩
  | .hbm, ⟨28, _⟩ => ⟨S4x8192x1024, .f32⟩
  | .hbm, ⟨29, _⟩ => ⟨S4x8192x1024, .f32⟩
  | .hbm, ⟨30, _⟩ => ⟨S4x1024x1024, .f32⟩
  | .hbm, ⟨31, _⟩ => ⟨S4x1024x1024, .f32⟩
  | .hbm, ⟨32, _⟩ => ⟨S9216x16, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x128, .bf16⟩
  | .local _ .vmem, ⟨6, _⟩ => ⟨S1x128, .f32⟩
  | .local _ .vmem, ⟨7, _⟩ => ⟨S1x4096, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x4096, .bf16⟩
  | .local _ .vmem, ⟨13, _⟩ => ⟨S512x4096, .bf16⟩
  | .local _ .vmem, ⟨14, _⟩ => ⟨S512x128, .f32⟩
  | .local _ .vmem, ⟨15, _⟩ => ⟨S512x128, .f32⟩
  | .local _ .vmem, ⟨16, _⟩ => ⟨S1x512x1024, .f32⟩
  | .local _ .vmem, ⟨17, _⟩ => ⟨S1x512x1024, .f32⟩
  | .local _ .vmem, ⟨18, _⟩ => ⟨S1x512x1024, .f32⟩
  | .local _ .vmem, ⟨19, _⟩ => ⟨S1x512x1024, .f32⟩
  | .local _ .vmem, ⟨20, _⟩ => ⟨S1x512x1024, .f32⟩
  | .local _ .vmem, ⟨21, _⟩ => ⟨S1x512x1024, .f32⟩
  | .local _ .vmem, ⟨22, _⟩ => ⟨S1x512x1024, .f32⟩
  | .local _ .vmem, ⟨23, _⟩ => ⟨S1x512x1024, .f32⟩
  | .local _ .vmem, ⟨24, _⟩ => ⟨S512x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_call1_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev main_v11_2 : Ref sig .tc := ⟨.hbm, 26, rfl⟩
abbrev main_v11_3 : Ref sig .tc := ⟨.hbm, 27, rfl⟩
abbrev main_v11_4 : Ref sig .tc := ⟨.hbm, 28, rfl⟩
abbrev main_v11_5 : Ref sig .tc := ⟨.hbm, 29, rfl⟩
abbrev main_v11_6 : Ref sig .tc := ⟨.hbm, 30, rfl⟩
abbrev main_v11_7 : Ref sig .tc := ⟨.hbm, 31, rfl⟩
abbrev main_v12 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![18, 8], ![false, false]⟩

def k0_cond2 (i : grid0.Coords) : BitVec 1 :=
  let arg1 : BitVec 32 := BitVec.ofNat 32 (i 1).val
  let c0_i32_4 : BitVec 32 := 0#32
  let v7 : BitVec 1 := Scalar.cmpi .eq arg1 c0_i32_4
  let v8 : BitVec 32 := Scalar.extui v7
  let c0_i32_5 : BitVec 32 := 0#32
  let v9 : BitVec 1 := Scalar.cmpi .ne v8 c0_i32_5
  v9

def k0_cond7 (i : grid0.Coords) : BitVec 1 :=
  let arg1 : BitVec 32 := BitVec.ofNat 32 (i 1).val
  let c3_i32 : BitVec 32 := 3#32
  let v30 : BitVec 1 := Scalar.cmpi .eq arg1 c3_i32
  let v31 : BitVec 32 := Scalar.extui v30
  let c0_i32_15 : BitVec 32 := 0#32
  let v32 : BitVec 1 := Scalar.cmpi .ne v31 c0_i32_15
  v32

def k0_cond8 (i : grid0.Coords) : BitVec 1 :=
  let arg1 : BitVec 32 := BitVec.ofNat 32 (i 1).val
  let c4_i32 : BitVec 32 := 4#32
  let v33 : BitVec 1 := Scalar.cmpi .eq arg1 c4_i32
  let v34 : BitVec 32 := Scalar.extui v33
  let c0_i32_16 : BitVec 32 := 0#32
  let v35 : BitVec 1 := Scalar.cmpi .ne v34 c0_i32_16
  v35

def k0_cond9 (i : grid0.Coords) : BitVec 1 :=
  let arg1 : BitVec 32 := BitVec.ofNat 32 (i 1).val
  let c5_i32 : BitVec 32 := 5#32
  let v36 : BitVec 1 := Scalar.cmpi .eq arg1 c5_i32
  let v37 : BitVec 32 := Scalar.extui v36
  let c0_i32_17 : BitVec 32 := 0#32
  let v38 : BitVec 1 := Scalar.cmpi .ne v37 c0_i32_17
  v38

def k0_cond10 (i : grid0.Coords) : BitVec 1 :=
  let arg1 : BitVec 32 := BitVec.ofNat 32 (i 1).val
  let c6_i32 : BitVec 32 := 6#32
  let v39 : BitVec 1 := Scalar.cmpi .eq arg1 c6_i32
  let v40 : BitVec 32 := Scalar.extui v39
  let c0_i32_18 : BitVec 32 := 0#32
  let v41 : BitVec 1 := Scalar.cmpi .ne v40 c0_i32_18
  v41

def k0_cond11 (i : grid0.Coords) : BitVec 1 :=
  let arg1 : BitVec 32 := BitVec.ofNat 32 (i 1).val
  let c7_i32 : BitVec 32 := 7#32
  let v42 : BitVec 1 := Scalar.cmpi .eq arg1 c7_i32
  let v43 : BitVec 32 := Scalar.extui v42
  let c0_i32_19 : BitVec 32 := 0#32
  let v44 : BitVec 1 := Scalar.cmpi .ne v43 c0_i32_19
  v44

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let arg0 : BitVec 32 := BitVec.ofNat 32 (i 0).val
  let c16_i32 : BitVec 32 := 16#32
  let v11 : BitVec 1 := Scalar.cmpi .slt arg0 c16_i32
  let v12 : BitVec 1 := Scalar.andi v10 v11
  let v13 : BitVec 32 := Scalar.extui v12
  let c0_i32_6 : BitVec 32 := 0#32
  let v14 : BitVec 1 := Scalar.cmpi .ne v13 c0_i32_6
  v14

def k0_cond5 (i : grid0.Coords) : BitVec 1 :=
  let arg1 : BitVec 32 := BitVec.ofNat 32 (i 1).val
  let c2_i32 : BitVec 32 := 2#32
  let v20 : BitVec 1 := Scalar.cmpi .eq arg1 c2_i32
  let arg0 : BitVec 32 := BitVec.ofNat 32 (i 0).val
  let c16_i32_10 : BitVec 32 := 16#32
  let v21 : BitVec 1 := Scalar.cmpi .slt arg0 c16_i32_10
  let v22 : BitVec 1 := Scalar.andi v20 v21
  let v23 : BitVec 32 := Scalar.extui v22
  let c0_i32_11 : BitVec 32 := 0#32
  let v24 : BitVec 1 := Scalar.cmpi .ne v23 c0_i32_11
  v24

def k0_cond4 (i : grid0.Coords) : BitVec 1 :=
  let arg1 : BitVec 32 := BitVec.ofNat 32 (i 1).val
  let c1_i32_7 : BitVec 32 := 1#32
  let v15 : BitVec 1 := Scalar.cmpi .eq arg1 c1_i32_7
  let arg0 : BitVec 32 := BitVec.ofNat 32 (i 0).val
  let c16_i32_8 : BitVec 32 := 16#32
  let v16 : BitVec 1 := Scalar.cmpi .sge arg0 c16_i32_8
  let v17 : BitVec 1 := Scalar.andi v15 v16
  let v18 : BitVec 32 := Scalar.extui v17
  let c0_i32_9 : BitVec 32 := 0#32
  let v19 : BitVec 1 := Scalar.cmpi .ne v18 c0_i32_9
  v19

def k0_cond6 (i : grid0.Coords) : BitVec 1 :=
  let arg1 : BitVec 32 := BitVec.ofNat 32 (i 1).val
  let c2_i32_12 : BitVec 32 := 2#32
  let v25 : BitVec 1 := Scalar.cmpi .eq arg1 c2_i32_12
  let arg0 : BitVec 32 := BitVec.ofNat 32 (i 0).val
  let c16_i32_13 : BitVec 32 := 16#32
  let v26 : BitVec 1 := Scalar.cmpi .sge arg0 c16_i32_13
  let v27 : BitVec 1 := Scalar.andi v25 v26
  let v28 : BitVec 32 := Scalar.extui v27
  let c0_i32_14 : BitVec 32 := 0#32
  let v29 : BitVec 1 := Scalar.cmpi .ne v28 c0_i32_14
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, v0.toNat, c0_i32_0.toNat]

def cc0_transform_15 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, v0.toNat, c0_i32_0.toNat]

def cc0_transform_16 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_17 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== InprojIdeal.lean ====
variable {F : FTy → Type} [FloatOps F] [Named F]
def κ : String → Option EReal := fun
  | "scale" => some ((8⁻¹ * (Real.log 2)⁻¹ : ℝ) : EReal)
  | _ => none
-- ==== InprojReferenceIdeal.lean ====
abbrev S9216x2048 : Shape := ⟨2, ![9216, 2048]⟩
abbrev S2048 : Shape := ⟨1, ![2048]⟩
abbrev S2048x8208 : Shape := ⟨2, ![2048, 8208]⟩
abbrev S16 : Shape := ⟨1, ![16]⟩
abbrev S4096 : Shape := ⟨1, ![4096]⟩
abbrev S4x8192x1024 : Shape := ⟨3, ![4, 8192, 1024]⟩
abbrev S4x1024x1024 : Shape := ⟨3, ![4, 1024, 1024]⟩
abbrev S_ : Shape := ⟨0, ![]⟩
abbrev S9216 : Shape := ⟨1, ![9216]⟩
abbrev S9216x1 : Shape := ⟨2, ![9216, 1]⟩
abbrev S1x2048 : Shape := ⟨2, ![1, 2048]⟩
abbrev S9216x8208 : Shape := ⟨2, ![9216, 8208]⟩
abbrev S9216x1024 : Shape := ⟨2, ![9216, 1024]⟩
abbrev S9216x16 : Shape := ⟨2, ![9216, 16]⟩
abbrev S9216x4096 : Shape := ⟨2, ![9216, 4096]⟩
abbrev S1x16 : Shape := ⟨2, ![1, 16]⟩
abbrev S1x4096 : Shape := ⟨2, ![1, 4096]⟩
abbrev S8192x1024 : Shape := ⟨2, ![8192, 1024]⟩
abbrev S0x8192x1024 : Shape := ⟨3, ![0, 8192, 1024]⟩
abbrev S1x8192x1024 : Shape := ⟨3, ![1, 8192, 1024]⟩
abbrev S3x8192x1024 : Shape := ⟨3, ![3, 8192, 1024]⟩
abbrev S1024x1024 : Shape := ⟨2, ![1024, 1024]⟩
abbrev S0x1024x1024 : Shape := ⟨3, ![0, 1024, 1024]⟩
abbrev S1x1024x1024 : Shape := ⟨3, ![1, 1024, 1024]⟩
abbrev S3x1024x1024 : Shape := ⟨3, ![3, 1024, 1024]⟩

abbrev nBuf : Space → Nat
  | .hbm => 91
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S2048x8208, .f32⟩
  | .hbm, ⟨3, _⟩ => ⟨S16, .f32⟩
  | .hbm, ⟨4, _⟩ => ⟨S4096, .f32⟩
  | .hbm, ⟨5, _⟩ => ⟨S4x8192x1024, .f32⟩
  | .hbm, ⟨6, _⟩ => ⟨S4x8192x1024, .f32⟩
  | .hbm, ⟨7, _⟩ => ⟨S4x1024x1024, .f32⟩
  | .hbm, ⟨8, _⟩ => ⟨S4x1024x1024, .f32⟩
  | .hbm, ⟨9, _⟩ => ⟨S9216x2048, .f32⟩
  | .hbm, ⟨10, _⟩ => ⟨S_, .f32⟩
  | .hbm, ⟨11, _⟩ => ⟨S9216, .f32⟩
  | .hbm, ⟨12, _⟩ => ⟨S9216x1, .f32⟩
  | .hbm, ⟨13, _⟩ => ⟨S_, .f32⟩
  | .hbm, ⟨14, _⟩ => ⟨S9216x1, .f32⟩
  | .hbm, ⟨15, _⟩ => ⟨S9216x1, .f32⟩
  | .hbm, ⟨16, _⟩ => ⟨S_, .f32⟩
  | .hbm, ⟨17, _⟩ => ⟨S9216x1, .f32⟩
  | .hbm, ⟨18, _⟩ => ⟨S9216x1, .f32⟩
  | .hbm, ⟨19, _⟩ => ⟨S9216x1, .f32⟩
  | .hbm, ⟨20, _⟩ => ⟨S9216x2048, .f32⟩
  | .hbm, ⟨21, _⟩ => ⟨S9216x2048, .f32⟩
  | .hbm, ⟨22, _⟩ => ⟨S1x2048, .f32⟩
  | .hbm, ⟨23, _⟩ => ⟨S9216x2048, .f32⟩
  | .hbm, ⟨24, _⟩ => ⟨S9216x2048, .f32⟩
  | .hbm, ⟨25, _⟩ => ⟨S9216x8208, .f32⟩
  | .hbm, ⟨26, _⟩ => ⟨S9216x1024, .f32⟩
  | .hbm, ⟨27, _⟩ => ⟨S9216x1024, .f32⟩
  | .hbm, ⟨28, _⟩ => ⟨S9216x1024, .f32⟩
  | .hbm, ⟨29, _⟩ => ⟨S9216x16, .f32⟩
  | .hbm, ⟨30, _⟩ => ⟨S9216x1024, .f32⟩
  | .hbm, ⟨31, _⟩ => ⟨S9216x4096, .f32⟩
  | .hbm, ⟨32, _⟩ => ⟨S_, .f32⟩
  | .hbm, ⟨33, _⟩ => ⟨S9216x1024, .f32⟩
  | .hbm, ⟨34, _⟩ => ⟨S9216x1024, .f32⟩
  | .hbm, ⟨35, _⟩ => ⟨S_, .f32⟩
  | .hbm, ⟨36, _⟩ => ⟨S_, .f32⟩
  | .hbm, ⟨37, _⟩ => ⟨S9216x1024, .f32⟩
  | .hbm, ⟨38, _⟩ => ⟨S9216x1024, .f32⟩
  | .hbm, ⟨39, _⟩ => ⟨S1x16, .f32⟩
  | .hbm, ⟨40, _⟩ => ⟨S9216x16, .f32⟩
  | .hbm, ⟨41, _⟩ => ⟨S9216x16, .f32⟩
  | .hbm, ⟨42, _⟩ => ⟨S9216x16, .f32⟩
  | .hbm, ⟨43, _⟩ => ⟨S_, .f32⟩
  | .hbm, ⟨44, _⟩ => ⟨S9216x16, .f32⟩
  | .hbm, ⟨45, _⟩ => ⟨S9216x16, .f32⟩
  | .hbm, ⟨46, _⟩ => ⟨S9216x16, .f32⟩
  | .hbm, ⟨47, _⟩ => ⟨S9216x16, .f32⟩
  | .hbm, ⟨48, _⟩ => ⟨S9216x16, .i1⟩
  | .hbm, ⟨49, _⟩ => ⟨S9216x16, .f32⟩
  | .hbm, ⟨50, _⟩ => ⟨S9216x16, .f32⟩
  | .hbm, ⟨51, _⟩ => ⟨S9216x16, .f32⟩
  | .hbm, ⟨52, _⟩ => ⟨S9216x16, .f32⟩
  | .hbm, ⟨53, _⟩ => ⟨S9216x16, .f32⟩
  | .hbm, ⟨54, _⟩ => ⟨S9216x16, .f32⟩
  | .hbm, ⟨55, _⟩ => ⟨S9216x16, .f32⟩
  | .hbm, ⟨56, _⟩ => ⟨S9216x16, .f32⟩
  | .hbm, ⟨57, _⟩ => ⟨S9216x16, .f32⟩
  | .hbm, ⟨58, _⟩ => ⟨S1x4096, .f32⟩
  | .hbm, ⟨59, _⟩ => ⟨S9216x4096, .f32⟩
  | .hbm, ⟨60, _⟩ => ⟨S9216x4096, .f32⟩
  | .hbm, ⟨61, _⟩ => ⟨S9216x4096, .f32⟩
  | .hbm, ⟨62, _⟩ => ⟨S9216x4096, .f32⟩
  | .hbm, ⟨63, _⟩ => ⟨S_, .f32⟩
  | .hbm, ⟨64, _⟩ => ⟨S9216x4096, .f32⟩
  | .hbm, ⟨65, _⟩ => ⟨S9216x4096, .f32⟩
  | .hbm, ⟨66, _⟩ => ⟨S_, .f32⟩
  | .hbm, ⟨67, _⟩ => ⟨S9216x4096, .f32⟩
  | .hbm, ⟨68, _⟩ => ⟨S9216x4096, .f32⟩
  | .hbm, ⟨69, _⟩ => ⟨S9216x1024, .bf16⟩
  | .hbm, ⟨70, _⟩ => ⟨S9216x4096, .bf16⟩
  | .hbm, ⟨71, _⟩ => ⟨S8192x1024, .f32⟩
  | .hbm, ⟨72, _⟩ => ⟨S0x8192x1024, .f32⟩
  | .hbm, ⟨73, _⟩ => ⟨S1x8192x1024, .f32⟩
  | .hbm, ⟨74, _⟩ => ⟨S3x8192x1024, .f32⟩
  | .hbm, ⟨75, _⟩ => ⟨S4x8192x1024, .f32⟩
  | .hbm, ⟨76, _⟩ => ⟨S8192x1024, .f32⟩
  | .hbm, ⟨77, _⟩ => ⟨S0x8192x1024, .f32⟩
  | .hbm, ⟨78, _⟩ => ⟨S1x8192x1024, .f32⟩
  | .hbm, ⟨79, _⟩ => ⟨S3x8192x1024, .f32⟩
  | .hbm, ⟨80, _⟩ => ⟨S4x8192x1024, .f32⟩
  | .hbm, ⟨81, _⟩ => ⟨S1024x1024, .f32⟩
  | .hbm, ⟨82, _⟩ => ⟨S0x1024x1024, .f32⟩
  | .hbm, ⟨83, _⟩ => ⟨S1x1024x1024, .f32⟩
  | .hbm, ⟨84, _⟩ => ⟨S3x1024x1024, .f32⟩
  | .hbm, ⟨85, _⟩ => ⟨S4x1024x1024, .f32⟩
  | .hbm, ⟨86, _⟩ => ⟨S1024x1024, .f32⟩
  | .hbm, ⟨87, _⟩ => ⟨S0x1024x1024, .f32⟩
  | .hbm, ⟨88, _⟩ => ⟨S1x1024x1024, .f32⟩
  | .hbm, ⟨89, _⟩ => ⟨S3x1024x1024, .f32⟩
  | .hbm, ⟨90, _⟩ => ⟨S4x1024x1024, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call0_v0 : Ref sig .tc := ⟨.hbm, 42, rfl⟩
abbrev main_call0_call0_cst : Ref sig .tc := ⟨.hbm, 43, rfl⟩
abbrev main_call0_call0_v0 : Ref sig .tc := ⟨.hbm, 44, rfl⟩
abbrev main_call0_call0_v1 : Ref sig .tc := ⟨.hbm, 45, rfl⟩
abbrev main_call0_call0_v2 : Ref sig .tc := ⟨.hbm, 46, rfl⟩
abbrev main_call0_call0_v3 : Ref sig .tc := ⟨.hbm, 47, rfl⟩
abbrev main_call0_call0_v4 : Ref sig .tc := ⟨.hbm, 48, rfl⟩
abbrev main_call0_call0_v5 : Ref sig .tc := ⟨.hbm, 49, rfl⟩
abbrev main_call0_call0_v6 : Ref sig .tc := ⟨.hbm, 50, rfl⟩
abbrev main_call0_call0_v7 : Ref sig .tc := ⟨.hbm, 51, rfl⟩
abbrev main_call0_call0_v8 : Ref sig .tc := ⟨.hbm, 52, rfl⟩
abbrev main_call0_call0_v9 : Ref sig .tc := ⟨.hbm, 53, rfl⟩
abbrev main_call0_call0_v10 : Ref sig .tc := ⟨.hbm, 54, rfl⟩
abbrev main_call0_call0_v11 : Ref sig .tc := ⟨.hbm, 55, rfl⟩
abbrev main_call0_v1 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_4 : Ref sig .tc := ⟨.hbm, 63, rfl⟩
abbrev main_v34 : Ref sig .tc := ⟨.hbm, 64, rfl⟩
abbrev main_v35 : Ref sig .tc := ⟨.hbm, 65, rfl⟩
abbrev main_cst_5 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩

abbrev nD : Nat := 1
abbrev τ : Topo := Topo.v7x

variable {F : FTy → Type} [FloatOps F]
-- ==== Merge.lean ====
abbrev S9216x2048 : Shape := ⟨2, ![9216, 2048]⟩
abbrev S9216x1024 : Shape := ⟨2, ![9216, 1024]⟩
abbrev S9216x4096 : Shape := ⟨2, ![9216, 4096]⟩
abbrev S1024 : Shape := ⟨1, ![1024]⟩
abbrev S1024x1024 : Shape := ⟨2, ![1024, 1024]⟩
abbrev S1024x2048 : Shape := ⟨2, ![1024, 2048]⟩
abbrev S2048x2048 : Shape := ⟨2, ![2048, 2048]⟩
abbrev S2048 : Shape := ⟨1, ![2048]⟩
abbrev S1x1024 : Shape := ⟨2, ![1, 1024]⟩
abbrev S1x2048 : Shape := ⟨2, ![1, 2048]⟩
abbrev S256x2048 : Shape := ⟨2, ![256, 2048]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩

abbrev nBuf : Space → Nat
  | .hbm => 20
  | .vmem => 19
  | .smem => 0
  | _ => 0

abbrev bufTy : (tb : Table) → Fin (tcTables nBuf tb) → BufTy
  | .hbm, ⟨0, _⟩ => ⟨S9216x2048, .f32⟩
  | .hbm, ⟨1, _⟩ => ⟨S9216x1024, .bf16⟩
  | .hbm, ⟨2, _⟩ => ⟨S9216x1024, .f32⟩
  | .hbm, ⟨3, _⟩ => ⟨S9216x1024, .f32⟩
  | .hbm, ⟨4, _⟩ => ⟨S9216x4096, .bf16⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x2048, .f32⟩
  | .hbm, ⟨9, _⟩ => ⟨S1024x2048, .f32⟩
  | .hbm, ⟨10, _⟩ => ⟨S2048x2048, .f32⟩
  | .hbm, ⟨11, _⟩ => ⟨S2048, .f32⟩
  | .hbm, ⟨12, _⟩ => ⟨S1x1024, .f32⟩
  | .hbm, ⟨13, _⟩ => ⟨S1024x1024, .bf16⟩
  | .hbm, ⟨14, _⟩ => ⟨S1x1024, .f32⟩
  | .hbm, ⟨15, _⟩ => ⟨S1024x2048, .bf16⟩
  | .hbm, ⟨16, _⟩ => ⟨S1024x2048, .bf16⟩
  | .hbm, ⟨17, _⟩ => ⟨S2048x2048, .bf16⟩
  | .hbm, ⟨18, _⟩ => ⟨S1x2048, .f32⟩
  | .hbm, ⟨19, _⟩ => ⟨S9216x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x4096, .bf16⟩
  | .local _ .vmem, ⟨9, _⟩ => ⟨S256x4096, .bf16⟩
  | .local _ .vmem, ⟨10, _⟩ => ⟨S1x1024, .f32⟩
  | .local _ .vmem, ⟨11, _⟩ => ⟨S1024x1024, .bf16⟩
  | .local _ .vmem, ⟨12, _⟩ => ⟨S1x1024, .f32⟩
  | .local _ .vmem, ⟨13, _⟩ => ⟨S1024x2048, .bf16⟩
  | .local _ .vmem, ⟨14, _⟩ => ⟨S1024x2048, .bf16⟩
  | .local _ .vmem, ⟨15, _⟩ => ⟨S2048x2048, .bf16⟩
  | .local _ .vmem, ⟨16, _⟩ => ⟨S1x2048, .f32⟩
  | .local _ .vmem, ⟨17, _⟩ => ⟨S256x2048, .f32⟩
  | .local _ .vmem, ⟨18, _⟩ => ⟨S256x2048, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeReferenceIdeal.lean ====
abbrev S9216x2048 : Shape := ⟨2, ![9216, 2048]⟩
abbrev S9216x1024 : Shape := ⟨2, ![9216, 1024]⟩
abbrev S9216x4096 : Shape := ⟨2, ![9216, 4096]⟩
abbrev S1024 : Shape := ⟨1, ![1024]⟩
abbrev S1024x1024 : Shape := ⟨2, ![1024, 1024]⟩
abbrev S1024x2048 : Shape := ⟨2, ![1024, 2048]⟩
abbrev S2048x2048 : Shape := ⟨2, ![2048, 2048]⟩
abbrev S2048 : Shape := ⟨1, ![2048]⟩
abbrev S1x1024 : Shape := ⟨2, ![1, 1024]⟩
abbrev S_ : Shape := ⟨0, ![]⟩
abbrev S9216 : Shape := ⟨1, ![9216]⟩
abbrev S9216x1 : Shape := ⟨2, ![9216, 1]⟩
abbrev S1x2048 : Shape := ⟨2, ![1, 2048]⟩

abbrev nBuf : Space → Nat
  | .hbm => 73
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S9216x1024, .bf16⟩
  | .hbm, ⟨2, _⟩ => ⟨S9216x1024, .f32⟩
  | .hbm, ⟨3, _⟩ => ⟨S9216x1024, .f32⟩
  | .hbm, ⟨4, _⟩ => ⟨S9216x4096, .bf16⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x2048, .f32⟩
  | .hbm, ⟨9, _⟩ => ⟨S1024x2048, .f32⟩
  | .hbm, ⟨10, _⟩ => ⟨S2048x2048, .f32⟩
  | .hbm, ⟨11, _⟩ => ⟨S2048, .f32⟩
  | .hbm, ⟨12, _⟩ => ⟨S1x1024, .f32⟩
  | .hbm, ⟨13, _⟩ => ⟨S9216x1024, .f32⟩
  | .hbm, ⟨14, _⟩ => ⟨S9216x1024, .f32⟩
  | .hbm, ⟨15, _⟩ => ⟨S9216x1024, .f32⟩
  | .hbm, ⟨16, _⟩ => ⟨S9216x1024, .f32⟩
  | .hbm, ⟨17, _⟩ => ⟨S9216x1024, .f32⟩
  | .hbm, ⟨18, _⟩ => ⟨S_, .f32⟩
  | .hbm, ⟨19, _⟩ => ⟨S9216x1024, .f32⟩
  | .hbm, ⟨20, _⟩ => ⟨S9216x1024, .f32⟩
  | .hbm, ⟨21, _⟩ => ⟨S9216x1024, .f32⟩
  | .hbm, ⟨22, _⟩ => ⟨S_, .f32⟩
  | .hbm, ⟨23, _⟩ => ⟨S9216x1024, .f32⟩
  | .hbm, ⟨24, _⟩ => ⟨S9216x1024, .f32⟩
  | .hbm, ⟨25, _⟩ => ⟨S9216x1024, .f32⟩
  | .hbm, ⟨26, _⟩ => ⟨S_, .f32⟩
  | .hbm, ⟨27, _⟩ => ⟨S9216x1024, .f32⟩
  | .hbm, ⟨28, _⟩ => ⟨S9216x1024, .f32⟩
  | .hbm, ⟨29, _⟩ => ⟨S_, .f32⟩
  | .hbm, ⟨30, _⟩ => ⟨S9216x1024, .f32⟩
  | .hbm, ⟨31, _⟩ => ⟨S9216x1024, .f32⟩
  | .hbm, ⟨32, _⟩ => ⟨S9216x1024, .f32⟩
  | .hbm, ⟨33, _⟩ => ⟨S9216x1024, .f32⟩
  | .hbm, ⟨34, _⟩ => ⟨S1x1024, .f32⟩
  | .hbm, ⟨35, _⟩ => ⟨S9216x1024, .f32⟩
  | .hbm, ⟨36, _⟩ => ⟨S9216x1024, .f32⟩
  | .hbm, ⟨37, _⟩ => ⟨S9216x1024, .f32⟩
  | .hbm, ⟨38, _⟩ => ⟨S9216x1024, .f32⟩
  | .hbm, ⟨39, _⟩ => ⟨S_, .f32⟩
  | .hbm, ⟨40, _⟩ => ⟨S9216x1024, .f32⟩
  | .hbm, ⟨41, _⟩ => ⟨S9216x1024, .f32⟩
  | .hbm, ⟨42, _⟩ => ⟨S_, .f32⟩
  | .hbm, ⟨43, _⟩ => ⟨S9216x1024, .f32⟩
  | .hbm, ⟨44, _⟩ => ⟨S9216x1024, .f32⟩
  | .hbm, ⟨45, _⟩ => ⟨S9216x1024, .f32⟩
  | .hbm, ⟨46, _⟩ => ⟨S9216x4096, .f32⟩
  | .hbm, ⟨47, _⟩ => ⟨S9216x2048, .f32⟩
  | .hbm, ⟨48, _⟩ => ⟨S9216x2048, .f32⟩
  | .hbm, ⟨49, _⟩ => ⟨S9216x1024, .f32⟩
  | .hbm, ⟨50, _⟩ => ⟨S9216x2048, .f32⟩
  | .hbm, ⟨51, _⟩ => ⟨S9216x2048, .f32⟩
  | .hbm, ⟨52, _⟩ => ⟨S9216x2048, .f32⟩
  | .hbm, ⟨53, _⟩ => ⟨S9216x2048, .f32⟩
  | .hbm, ⟨54, _⟩ => ⟨S9216x2048, .f32⟩
  | .hbm, ⟨55, _⟩ => ⟨S9216x2048, .f32⟩
  | .hbm, ⟨56, _⟩ => ⟨S9216x2048, .f32⟩
  | .hbm, ⟨57, _⟩ => ⟨S_, .f32⟩
  | .hbm, ⟨58, _⟩ => ⟨S9216, .f32⟩
  | .hbm, ⟨59, _⟩ => ⟨S9216x1, .f32⟩
  | .hbm, ⟨60, _⟩ => ⟨S_, .f32⟩
  | .hbm, ⟨61, _⟩ => ⟨S9216x1, .f32⟩
  | .hbm, ⟨62, _⟩ => ⟨S9216x1, .f32⟩
  | .hbm, ⟨63, _⟩ => ⟨S_, .f32⟩
  | .hbm, ⟨64, _⟩ => ⟨S9216x1, .f32⟩
  | .hbm, ⟨65, _⟩ => ⟨S9216x1, .f32⟩
  | .hbm, ⟨66, _⟩ => ⟨S9216x1, .f32⟩
  | .hbm, ⟨67, _⟩ => ⟨S9216x2048, .f32⟩
  | .hbm, ⟨68, _⟩ => ⟨S9216x2048, .f32⟩
  | .hbm, ⟨69, _⟩ => ⟨S1x2048, .f32⟩
  | .hbm, ⟨70, _⟩ => ⟨S9216x2048, .f32⟩
  | .hbm, ⟨71, _⟩ => ⟨S9216x2048, .f32⟩
  | .hbm, ⟨72, _⟩ => ⟨S9216x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]
-- ==== FfnLast.lean ====
abbrev S9216x2048 : Shape := ⟨2, ![9216, 2048]⟩
abbrev S2048 : Shape := ⟨1, ![2048]⟩
abbrev S2048x5504 : Shape := ⟨2, ![2048, 5504]⟩
abbrev S5504x2048 : Shape := ⟨2, ![5504, 2048]⟩
abbrev S_ : Shape := ⟨0, ![]⟩
abbrev S5632x2048 : Shape := ⟨2, ![5632, 2048]⟩
abbrev S1x2048 : Shape := ⟨2, ![1, 2048]⟩
abbrev S2048x5632 : Shape := ⟨2, ![2048, 5632]⟩
abbrev S8192x2048 : Shape := ⟨2, ![8192, 2048]⟩
abbrev S1024x2048 : Shape := ⟨2, ![1024, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 22
  | .vmem => 16
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S2048, .f32⟩
  | .hbm, ⟨3, _⟩ => ⟨S2048x5504, .f32⟩
  | .hbm, ⟨4, _⟩ => ⟨S2048x5504, .f32⟩
  | .hbm, ⟨5, _⟩ => ⟨S5504x2048, .f32⟩
  | .hbm, ⟨6, _⟩ => ⟨S5504x2048, .bf16⟩
  | .hbm, ⟨7, _⟩ => ⟨S_, .i32⟩
  | .hbm, ⟨8, _⟩ => ⟨S_, .bf16⟩
  | .hbm, ⟨9, _⟩ => ⟨S5632x2048, .bf16⟩
  | .hbm, ⟨10, _⟩ => ⟨S1x2048, .f32⟩
  | .hbm, ⟨11, _⟩ => ⟨S1x2048, .f32⟩
  | .hbm, ⟨12, _⟩ => ⟨S2048x5504, .bf16⟩
  | .hbm, ⟨13, _⟩ => ⟨S_, .i32⟩
  | .hbm, ⟨14, _⟩ => ⟨S_, .bf16⟩
  | .hbm, ⟨15, _⟩ => ⟨S2048x5632, .bf16⟩
  | .hbm, ⟨16, _⟩ => ⟨S2048x5504, .bf16⟩
  | .hbm, ⟨17, _⟩ => ⟨S_, .i32⟩
  | .hbm, ⟨18, _⟩ => ⟨S_, .bf16⟩
  | .hbm, ⟨19, _⟩ => ⟨S2048x5632, .bf16⟩
  | .hbm, ⟨20, _⟩ => ⟨S8192x2048, .f32⟩
  | .hbm, ⟨21, _⟩ => ⟨S1024x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_call2_v0 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![18, 11], ![false, false]⟩

def k0_cond2 (i : grid0.Coords) : BitVec 1 :=
  let arg1 : BitVec 32 := BitVec.ofNat 32 (i 1).val
  let c10_i32 : BitVec 32 := 10#32
  let v24 : BitVec 1 := Scalar.cmpi .eq arg1 c10_i32
  let arg0 : BitVec 32 := BitVec.ofNat 32 (i 0).val
  let c16_i32 : BitVec 32 := 16#32
  let v0 : BitVec 1 := Scalar.cmpi .slt arg0 c16_i32
  let v25 : BitVec 1 := Scalar.andi v24 v0
  let v26 : BitVec 32 := Scalar.extui v25
  let c0_i32_15 : BitVec 32 := 0#32
  let v27 : BitVec 1 := Scalar.cmpi .ne v26 c0_i32_15
  v27

def k0_cond3 (i : grid0.Coords) : BitVec 1 :=
  let arg1 : BitVec 32 := BitVec.ofNat 32 (i 1).val
  let c10_i32_16 : BitVec 32 := 10#32
  let v28 : BitVec 1 := Scalar.cmpi .eq arg1 c10_i32_16
  let arg0 : BitVec 32 := BitVec.ofNat 32 (i 0).val
  let c16_i32_0 : BitVec 32 := 16#32
  let v1 : BitVec 1 := Scalar.cmpi .sge arg0 c16_i32_0
  let v29 : BitVec 1 := Scalar.andi v28 v1
  let v30 : BitVec 32 := Scalar.extui v29
  let c0_i32_17 : BitVec 32 := 0#32
  let v31 : BitVec 1 := Scalar.cmpi .ne v30 c0_i32_17
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnLastReferenceIdeal.lean ====
abbrev S9216x2048 : Shape := ⟨2, ![9216, 2048]⟩
abbrev S2048 : Shape := ⟨1, ![2048]⟩
abbrev S2048x5504 : Shape := ⟨2, ![2048, 5504]⟩
abbrev S5504x2048 : Shape := ⟨2, ![5504, 2048]⟩
abbrev S_ : Shape := ⟨0, ![]⟩
abbrev S9216 : Shape := ⟨1, ![9216]⟩
abbrev S9216x1 : Shape := ⟨2, ![9216, 1]⟩
abbrev S1x2048 : Shape := ⟨2, ![1, 2048]⟩
abbrev S9216x5504 : Shape := ⟨2, ![9216, 5504]⟩
abbrev S8192x2048 : Shape := ⟨2, ![8192, 2048]⟩
abbrev S1024x2048 : Shape := ⟨2, ![1024, 2048]⟩

abbrev nBuf : Space → Nat
  | .hbm => 57
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S2048, .f32⟩
  | .hbm, ⟨3, _⟩ => ⟨S2048x5504, .f32⟩
  | .hbm, ⟨4, _⟩ => ⟨S2048x5504, .f32⟩
  | .hbm, ⟨5, _⟩ => ⟨S5504x2048, .f32⟩
  | .hbm, ⟨6, _⟩ => ⟨S9216x2048, .f32⟩
  | .hbm, ⟨7, _⟩ => ⟨S_, .f32⟩
  | .hbm, ⟨8, _⟩ => ⟨S9216, .f32⟩
  | .hbm, ⟨9, _⟩ => ⟨S9216x1, .f32⟩
  | .hbm, ⟨10, _⟩ => ⟨S_, .f32⟩
  | .hbm, ⟨11, _⟩ => ⟨S9216x1, .f32⟩
  | .hbm, ⟨12, _⟩ => ⟨S9216x1, .f32⟩
  | .hbm, ⟨13, _⟩ => ⟨S_, .f32⟩
  | .hbm, ⟨14, _⟩ => ⟨S9216x1, .f32⟩
  | .hbm, ⟨15, _⟩ => ⟨S9216x1, .f32⟩
  | .hbm, ⟨16, _⟩ => ⟨S9216x1, .f32⟩
  | .hbm, ⟨17, _⟩ => ⟨S9216x2048, .f32⟩
  | .hbm, ⟨18, _⟩ => ⟨S9216x2048, .f32⟩
  | .hbm, ⟨19, _⟩ => ⟨S1x2048, .f32⟩
  | .hbm, ⟨20, _⟩ => ⟨S9216x2048, .f32⟩
  | .hbm, ⟨21, _⟩ => ⟨S9216x2048, .f32⟩
  | .hbm, ⟨22, _⟩ => ⟨S9216x5504, .f32⟩
  | .hbm, ⟨23, _⟩ => ⟨S9216x5504, .f32⟩
  | .hbm, ⟨24, _⟩ => ⟨S9216x5504, .f32⟩
  | .hbm, ⟨25, _⟩ => ⟨S_, .f32⟩
  | .hbm, ⟨26, _⟩ => ⟨S9216x5504, .f32⟩
  | .hbm, ⟨27, _⟩ => ⟨S9216x5504, .f32⟩
  | .hbm, ⟨28, _⟩ => ⟨S_, .f32⟩
  | .hbm, ⟨29, _⟩ => ⟨S9216x5504, .f32⟩
  | .hbm, ⟨30, _⟩ => ⟨S9216x5504, .f32⟩
  | .hbm, ⟨31, _⟩ => ⟨S9216x5504, .f32⟩
  | .hbm, ⟨32, _⟩ => ⟨S9216x5504, .f32⟩
  | .hbm, ⟨33, _⟩ => ⟨S9216x5504, .f32⟩
  | .hbm, ⟨34, _⟩ => ⟨S9216x2048, .f32⟩
  | .hbm, ⟨35, _⟩ => ⟨S9216x2048, .f32⟩
  | .hbm, ⟨36, _⟩ => ⟨S_, .f32⟩
  | .hbm, ⟨37, _⟩ => ⟨S9216, .f32⟩
  | .hbm, ⟨38, _⟩ => ⟨S9216x1, .f32⟩
  | .hbm, ⟨39, _⟩ => ⟨S_, .f32⟩
  | .hbm, ⟨40, _⟩ => ⟨S9216x1, .f32⟩
  | .hbm, ⟨41, _⟩ => ⟨S9216x1, .f32⟩
  | .hbm, ⟨42, _⟩ => ⟨S_, .f32⟩
  | .hbm, ⟨43, _⟩ => ⟨S9216x1, .f32⟩
  | .hbm, ⟨44, _⟩ => ⟨S9216x1, .f32⟩
  | .hbm, ⟨45, _⟩ => ⟨S9216x1, .f32⟩
  | .hbm, ⟨46, _⟩ => ⟨S9216x2048, .f32⟩
  | .hbm, ⟨47, _⟩ => ⟨S9216x2048, .f32⟩
  | .hbm, ⟨48, _⟩ => ⟨S1x2048, .f32⟩
  | .hbm, ⟨49, _⟩ => ⟨S9216x2048, .f32⟩
  | .hbm, ⟨50, _⟩ => ⟨S9216x2048, .f32⟩
  | .hbm, ⟨51, _⟩ => ⟨S_, .f32⟩
  | .hbm, ⟨52, _⟩ => ⟨S9216x2048, .f32⟩
  | .hbm, ⟨53, _⟩ => ⟨S9216x2048, .f32⟩
  | .hbm, ⟨54, _⟩ => ⟨S9216x2048, .f32⟩
  | .hbm, ⟨55, _⟩ => ⟨S8192x2048, .f32⟩
  | .hbm, ⟨56, _⟩ => ⟨S1024x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== Proof.AttnClaims.lean ====
/-
  The sample attention's claims beside the value claim: its reference's frame, and the constants its idealization
  names.
-/
module

public import proofs.«01_k».proof.Defs
public import proofs.«01_k».proof.Proof.Gen.ReferenceIdeal.Run
public import Idealize.ShloMosaic.Lib.Claim
public import Idealize.ShloMosaic.Lib.Quiescent

@[expose] public section

noncomputable section

open Idealize.ShloMosaic Idealize.ShloMosaic.TcCoe Idealize.SL.Sem

namespace Cert.Proof.AttnClaims

/-- The attention reference's frame: its run, which leaves the arguments as they were; it has no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Each named constant of the idealized attention is the value the certificate's table gives it. -/
theorem preserves : Cert.preserves_Kernel_KernelIdeal :=
  ⟨IdealRules.named_const.statement _ _ .f32 _ _ rfl, IdealRules.named_const.statement _ _ .f32 _ _ rfl,
    IdealRules.named_const.statement _ _ .f32 _ _ rfl⟩

end Cert.Proof.AttnClaims

end
-- ==== Proof.AttnBlocks.lean ====
/-
  The decode attention kernel: what the blocks of a grid point hold, in terms of the kernel's arguments. The host lays the
  keys and values of the new positions out by rows, the caches by columns, and pads the new log forget values with zeros.
-/
module

public import proofs.«01_k».proof.Defs
public import proofs.«01_k».proof.Proof.Gen.KernelIdeal.Frame
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen

variable (m : (ℓ : Loc nD τ sig) → Buf (Elt Ideal) ℓ)

/-- Every window's block index at every grid point: a point takes its sequence's part of every array. -/
theorem idx : ∀ t : Fin cfg0.N, win0_0.index t = ![256 + t.val, 0]
    ∧ win0_1.index t = ![0, t.val, 0]
    ∧ win0_2.index t = ![0, t.val, 0]
    ∧ win0_3.index t = ![0, t.val, 0, 0, 0]
    ∧ win0_4.index t = ![0, t.val, 0, 0, 0]
    ∧ win0_5.index t = ![t.val, 0, 0]
    ∧ win0_6.index t = ![t.val, 0, 0]
    ∧ win0_7.index t = ![t.val, 0] :=
  (by decide +kernel : ∀ t : Fin grid0.N, _)

/-- The kernel's argument arrays at their own types. -/
abbrev Q (c : Dev nD) : FVec Ideal S9216x1024 .f32 := m ((c.tc : Thread nD τ).loc main_arg0)
abbrev Kn (c : Dev nD) : FVec Ideal S4x32x32x16x64 .f32 := m ((c.tc : Thread nD τ).loc main_arg1)
abbrev Vn (c : Dev nD) : FVec Ideal S4x32x32x16x64 .f32 := m ((c.tc : Thread nD τ).loc main_arg2)
abbrev Fn (c : Dev nD) : FVec Ideal S32x32x16 .f32 := m ((c.tc : Thread nD τ).loc main_arg3)
abbrev Kc (c : Dev nD) : FVec Ideal S4x32x1024x16x64 .f32 := m ((c.tc : Thread nD τ).loc main_arg4)
abbrev Vc (c : Dev nD) : FVec Ideal S4x32x1024x16x64 .f32 := m ((c.tc : Thread nD τ).loc main_arg5)
abbrev Fc (c : Dev nD) : FVec Ideal S4x32x1024x16 .f32 := m ((c.tc : Thread nD τ).loc main_arg6)

theorem points : cfg0.N = 32 := by decide

/-- The sequence a grid point is at. -/
abbrev seq (t : Fin cfg0.N) : Fin 32 := ⟨t.val, t.isLt.trans_eq points⟩

/-! ## The arrays the host prepares -/

theorem V0 (c : Dev nD) (b k : Fin 32) (h : Fin 16) (x : Fin 64) :
    V m c main_v0 (ix3 0 ⟨32 * b.val + k.val, by omega⟩ ⟨64 * h.val + x.val, by omega⟩) = Kn m c (ix5 0 b k h x) := by
  simp only [V, hostOps0, hostOps0_1, hostOps0_2, List.flatten_cons, List.flatten_nil, List.append_nil, List.cons_append, List.nil_append]
  after_reads_at

theorem V1 (c : Dev nD) (b k : Fin 32) (h : Fin 16) (x : Fin 64) :
    V m c main_v1 (ix3 0 ⟨32 * b.val + k.val, by omega⟩ ⟨64 * h.val + x.val, by omega⟩) = Vn m c (ix5 0 b k h x) := by
  simp only [V, hostOps0, hostOps0_1, hostOps0_2, List.flatten_cons, List.flatten_nil, List.append_nil, List.cons_append, List.nil_append]
  after_reads_at

theorem V2 (c : Dev nD) (b : Fin 32) (k : Fin 1024) (h : Fin 16) (x : Fin 64) :
    V m c main_v2 (ix5 0 b h x k) = Kc m c (ix5 0 b k h x) := by
  simp only [V, hostOps0, hostOps0_1, hostOps0_2, List.flatten_cons, List.flatten_nil, List.append_nil, List.cons_append, List.nil_append]
  after_reads_at

theorem V3 (c : Dev nD) (b : Fin 32) (k : Fin 1024) (h : Fin 16) (x : Fin 64) :
    V m c main_v3 (ix5 0 b h x k) = Vc m c (ix5 0 b k h x) := by
  simp only [V, hostOps0, hostOps0_1, hostOps0_2, List.flatten_cons, List.flatten_nil, List.append_nil, List.cons_append, List.nil_append]
  after_reads_at

theorem V8 (c : Dev nD) (b : Fin 32) (k : Fin 1024) (h : Fin 16) :
    V m c main_v8 (ix3 b h k) = Fc m c (ix4 0 b k h) := by
  simp only [V, hostOps0, hostOps0_1, hostOps0_2, List.flatten_cons, List.flatten_nil, List.append_nil, List.cons_append, List.nil_append]
  after_reads_at

/-- The integer zero the host pads with is the real zero. -/
theorem pad_zero : (FloatOps.sitofp FTy.f32 0#32 : Ideal FTy.f32) = (0 : EReal) := by
  show (((0#32 : BitVec 32).toInt : ℝ) : EReal) = 0
  simp

theorem V6 (c : Dev nD) (b : Fin 32) (k : Fin 128) (h : Fin 16) :
    V m c main_v6 (ix3 b h k) = if hk : k.val < 32 then Fn m c (ix3 b ⟨k.val, hk⟩ h) else 0 := by
  simp only [V, hostOps0, hostOps0_1, hostOps0_2, List.flatten_cons, List.flatten_nil, List.append_nil, List.cons_append, List.nil_append]
  after_reads_at
  rw [pad_zero]

/-! ## The blocks -/

theorem blk0 (c : Dev nD) (t : Fin cfg0.N) (r : Fin 32) (j : Fin 1024) :
    (show FVec Ideal S32x1024 .f32 from iblk m c 0 t) (ix2 r j) = Q m c (ix2 ⟨8192 + (32 * (seq t).val + r.val), by omega⟩ j) := by
  blk_point [iblk, V, idx t]

theorem blk1 (c : Dev nD) (t : Fin cfg0.N) (k : Fin 32) (h : Fin 16) (x : Fin 64) :
    (show FVec Ideal S1x32x1024 .f32 from iblk m c 1 t) (ix3 0 k ⟨64 * h.val + x.val, by omega⟩) = Kn m c (ix5 0 (seq t) k h x) := by
  rw [← V0]; blk_ext [iblk, idx t]

theorem blk2 (c : Dev nD) (t : Fin cfg0.N) (k : Fin 32) (h : Fin 16) (x : Fin 64) :
    (show FVec Ideal S1x32x1024 .f32 from iblk m c 2 t) (ix3 0 k ⟨64 * h.val + x.val, by omega⟩) = Vn m c (ix5 0 (seq t) k h x) := by
  rw [← V1]; blk_ext [iblk, idx t]

theorem blk3 (c : Dev nD) (t : Fin cfg0.N) (k : Fin 1024) (h : Fin 16) (x : Fin 64) :
    (show FVec Ideal S1x1x16x64x1024 .f32 from iblk m c 3 t) (ix5 0 0 h x k) = Kc m c (ix5 0 (seq t) k h x) := by
  rw [← V2]; blk_ext [iblk, idx t]

theorem blk4 (c : Dev nD) (t : Fin cfg0.N) (k : Fin 1024) (h : Fin 16) (x : Fin 64) :
    (show FVec Ideal S1x1x16x64x1024 .f32 from iblk m c 4 t) (ix5 0 0 h x k) = Vc m c (ix5 0 (seq t) k h x) := by
  rw [← V3]; blk_ext [iblk, idx t]

theorem blk5 (c : Dev nD) (t : Fin cfg0.N) (k : Fin 1024) (h : Fin 16) :
    (show FVec Ideal S1x16x1024 .f32 from iblk m c 5 t) (ix3 0 h k) = Fc m c (ix4 0 (seq t) k h) := by
  rw [← V8]; blk_ext [iblk, idx t]

theorem blk6 (c : Dev nD) (t : Fin cfg0.N) (k : Fin 128) (h : Fin 16) :
    (show FVec Ideal S1x16x128 .f32 from iblk m c 6 t) (ix3 0 h k) = if hk : k.val < 32 then Fn m c (ix3 (seq t) ⟨k.val, hk⟩ h) else 0 := by
  rw [← V6]; blk_ext [iblk, idx t]

/-! ## The run -/

/-- The run with the result array named and the arguments unchanged. -/
theorem run_named (ρ : Dev nD → PrngReg) :
    θ_run defs (onTc (τ := τ) (main (F := Ideal))) ⟨m, fun _ => 0, ρ⟩ fun r => ∀ c : Dev nD,
      r.2.mem ((c : Thread nD τ).loc main_v9) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  have both := θ_run_and (run_main m ρ) (unchanged m ρ)
  exact (θ_run defs _ _).mono (fun r h c => ⟨(h.1 c).1 7, h.2 c⟩) both

end Cert.KernelIdeal.Blocks

end
-- ==== Proof.AttnFinite.lean ====
/-
  What the precondition says of each argument: every query, key of either kind and log forget value is a real number.
-/
module

public import proofs.«01_k».proof.Defs
public import proofs.«01_k».proof.Proof.AttnBlocks
public import Idealize.ShloMosaic.Lib.WordCmp
public import Idealize.ShloMosaic.Lib.ReduceAll

@[expose] public section

set_option maxRecDepth 16384

noncomputable section

namespace Cert.Pre_finite_scores

open Idealize.ShloMosaic Idealize.SL.Sem

/-- The side conditions of the precondition's operations, which hold by their shapes alone. -/
instance facts : Cert.Pre_finite_scores.Facts where
  bcast_S_S9216x1024 := by decide
  reducesTo_S9216x1024_S_d0_1 := by decide
  h_S_ := by decide
  bcast_S_S4x32x32x16x64 := by decide
  reducesTo_S4x32x32x16x64_S_d0_1_2_3_4 := by decide
  bcast_S_S32x32x16 := by decide
  reducesTo_S32x32x16_S_d0_1_2 := by decide
  bcast_S_S4x32x1024x16x64 := by decide
  reducesTo_S4x32x1024x16x64_S_d0_1_2_3_4 := by decide
  bcast_S_S4x32x1024x16 := by decide
  reducesTo_S4x32x1024x16_S_d0_1_2_3 := by decide

/-- The bit pattern the precondition compares with is infinity. -/
theorem infinite : Ideal.ofBits FTy.f32 0x7F800000#32 = (⊤ : EReal) := by simp [Ideal.ofBits, Ideal.ieee]

/-- A value whose size is below infinity is a real number. -/
theorem real_of_abs {x : EReal} (h : max x (-x) < ⊤) : ∃ r : ℝ, x = r := by
  induction x with
  | bot => simp at h
  | top => simp at h
  | coe r => exact ⟨r, rfl⟩

/-- Only two bits that are both one have one as their `and`. -/
theorem both_one : ∀ a b : BitVec 1, a &&& b = 1#1 → a = 1#1 ∧ b = 1#1 := by decide

/-- If the `and` over an array of the comparisons of its sizes with infinity is one, then each entry is a real number. -/
theorem entry {s u : Shape} [Subsingleton u.Idx] {ax : List (Fin s.rank)} (x : FVec Ideal s .f32)
    {a0 : Fin 0 → Fin s.rank} (hb : Shape.BroadcastsInDim ⟨0, ![]⟩ s a0) (init : IVec u 1) (h : s.ReducesTo ax u) (hu : 0 < u.numel) (j : u.Idx)
    (e : Host.reduce IntOp.andi (cmpf .olt (Host.absf x)
      (broadcastInDim s a0 hb (constant (F := Ideal) ⟨0, ![]⟩ .f32 0x7F800000#32))) init h hu j = 1#1) (i : s.Idx) :
    ∃ r : ℝ, x i = (r : EReal) := by
  have k := Host.reduce_andi_all _ init h hu j e i
  refine real_of_abs ?_
  have k' : BitVec.ofBool (decide (max (x i) (-x i) < Ideal.ofBits FTy.f32 0x7F800000#32)) = 1#1 := k
  rw [infinite] at k'
  by_contra hn
  rw [decide_eq_false hn] at k'
  exact absurd k' (by decide)

instance : Subsingleton S_.Idx := ⟨fun a b => funext fun k => k.elim0⟩

theorem all {a0 : FVec Ideal S9216x1024 .f32} {a1 a2 : FVec Ideal S4x32x32x16x64 .f32} {a3 : FVec Ideal S32x32x16 .f32}
    {a4 a5 : FVec Ideal S4x32x1024x16x64 .f32} {a6 : FVec Ideal S4x32x1024x16 .f32}
    (h : fn (F := Ideal) a0 a1 a2 a3 a4 a5 a6 = constantI S_ 1 1#1) :
    (∀ i, ∃ r : ℝ, a0 i = (r : EReal)) ∧ (∀ i, ∃ r : ℝ, a1 i = (r : EReal)) ∧ (∀ i, ∃ r : ℝ, a3 i = (r : EReal))
      ∧ (∀ i, ∃ r : ℝ, a4 i = (r : EReal)) ∧ ∀ i, ∃ r : ℝ, a6 i = (r : EReal) := by
  have e := congrFun h (fun k => k.elim0)
  unfold fn fn_part1 at e
  obtain ⟨e, e6⟩ := both_one _ _ e
  obtain ⟨e, e4⟩ := both_one _ _ e
  obtain ⟨e, e3⟩ := both_one _ _ e
  obtain ⟨e0, e1⟩ := both_one _ _ e
  exact ⟨entry a0 _ _ _ _ _ e0, entry a1 _ _ _ _ _ e1, entry a3 _ _ _ _ _ e3, entry a4 _ _ _ _ _ e4, entry a6 _ _ _ _ _ e6⟩

end Cert.Pre_finite_scores

end
-- ==== Proof.AttnSpec.lean ====
/-
  One row of the decode attention as plain mathematics over the extended reals: the softmax of a row of scores, in base
  two with the division last, and in base e with the division first. No program is mentioned here.
-/
module

public import Idealize.ShloMosaic.PureOps.Ideal
public import Mathlib.Algebra.BigOperators.Fin

@[expose] public section

noncomputable section

open Idealize.ShloMosaic

namespace AttnSpec

/-- The largest score of a row whose keys are the cached ones and the new ones. -/
def top (sc : Fin 1024 → EReal) (sn : Fin 32 → EReal) : EReal := max (Finset.univ.sup sc) (Finset.univ.sup sn)

/-- A row's result with weights in base two: the weighted values are summed first and divided once. -/
def row (sc : Fin 1024 → EReal) (sn : Fin 32 → EReal) (vc : Fin 1024 → EReal) (vn : Fin 32 → EReal) : EReal :=
  Ideal.div ((∑ x, Ideal.exp2 (sc x - top sc sn) * vc x) + ∑ x, Ideal.exp2 (sn x - top sc sn) * vn x)
    ((∑ x, Ideal.exp2 (sc x - top sc sn)) + ∑ x, Ideal.exp2 (sn x - top sc sn))

/-- A row's result with weights in base e: every weight is divided by the sum of the weights before it meets its value. -/
def soft (sc : Fin 1024 → EReal) (sn : Fin 32 → EReal) (vc : Fin 1024 → EReal) (vn : Fin 32 → EReal) : EReal :=
  (∑ x, Ideal.div (Ideal.exp (sc x - top sc sn))
      ((∑ i, Ideal.exp (sc i - top sc sn)) + ∑ i, Ideal.exp (sn i - top sc sn)) * vc x)
    + ∑ x, Ideal.div (Ideal.exp (sn x - top sc sn))
      ((∑ i, Ideal.exp (sc i - top sc sn)) + ∑ i, Ideal.exp (sn i - top sc sn)) * vn x

/-- The change of base of a score: it is multiplied by the logarithm of two and shifted. -/
def chg (δ : ℝ) (x : EReal) : EReal := x * (Real.log 2 : ℝ) + δ

theorem log2_pos : (0 : ℝ) < Real.log 2 := Real.log_pos (by norm_num)

theorem chg_bot (δ : ℝ) : chg δ ⊥ = ⊥ := by
  rw [chg, EReal.bot_mul_coe_of_pos log2_pos, EReal.bot_add]

theorem chg_coe (δ r : ℝ) : chg δ r = ((r * Real.log 2 + δ : ℝ) : EReal) := by
  rw [chg]; push_cast; rfl

theorem chg_mono (δ : ℝ) : Monotone (chg δ) := fun _ _ h =>
  add_le_add_left (mul_le_mul_of_nonneg_right h (by exact_mod_cast log2_pos.le)) _

theorem chg_max (δ : ℝ) (a b : EReal) : chg δ (max a b) = max (chg δ a) (chg δ b) := (chg_mono δ).map_max

theorem chg_sup {n : ℕ} (δ : ℝ) (f : Fin n → EReal) :
    chg δ (Finset.univ.sup f) = Finset.univ.sup fun x => chg δ (f x) :=
  Finset.comp_sup_eq_sup_comp_of_is_total (chg δ) (chg_mono δ) (chg_bot δ)

theorem chg_top (δ : ℝ) (sc : Fin 1024 → EReal) (sn : Fin 32 → EReal) :
    chg δ (top sc sn) = top (fun x => chg δ (sc x)) fun x => chg δ (sn x) := by
  rw [top, chg_max, chg_sup, chg_sup]; rfl

/-- The weight of a score that is not infinite upwards is a nonnegative real, the same in both bases. -/
theorem weight (δ M : ℝ) (s : EReal) (hs : s ≠ ⊤) :
    ∃ p : ℝ, 0 ≤ p ∧ Ideal.exp2 (s - M) = p ∧ Ideal.exp (chg δ s - chg δ M) = p := by
  induction s with
  | top => exact absurd rfl hs
  | bot =>
    refine ⟨0, le_rfl, ?_, ?_⟩
    · rw [EReal.bot_sub]; rfl
    · rw [chg_bot, EReal.bot_sub]; rfl
  | coe r =>
    refine ⟨Real.rpow 2 (r - M), (Real.rpow_pos_of_pos (by norm_num) _).le, ?_, ?_⟩
    · rw [← EReal.coe_sub]; rfl
    · rw [chg_coe, chg_coe, ← EReal.coe_sub, Ideal.exp_coe]
      congr 1
      show Real.exp _ = (2 : ℝ) ^ (r - M)
      rw [Real.rpow_def_of_pos (by norm_num)]
      congr 1; ring

theorem weight_pos (r M : ℝ) : ∃ p : ℝ, 0 < p ∧ Ideal.exp2 ((r : EReal) - M) = p :=
  ⟨Real.rpow 2 (r - M), Real.rpow_pos_of_pos (by norm_num) _, by rw [← EReal.coe_sub]; rfl⟩

theorem coe_sum {n : ℕ} (f : Fin n → ℝ) : ((∑ x, f x : ℝ) : EReal) = ∑ x, (f x : EReal) := by
  induction n with
  | zero => simp
  | succ n ih => rw [Fin.sum_univ_succ, Fin.sum_univ_succ, EReal.coe_add, ih]

theorem sup_ne_top {n : ℕ} (f : Fin n → EReal) (h : ∀ x, f x ≠ ⊤) : Finset.univ.sup f ≠ ⊤ := by
  refine ne_of_lt ((Finset.sup_lt_iff (bot_lt_top)).2 fun x _ => lt_top_iff_ne_top.2 (h x))

/-- A factor that is a nonnegative real comes out of a sum of extended reals. -/
theorem mul_sum_real {n : ℕ} (c : ℝ) (hc : 0 ≤ c) (f : Fin n → EReal) : (c : EReal) * ∑ x, f x = ∑ x, (c : EReal) * f x := by
  induction n with
  | zero => simp
  | succ n ih =>
    rw [Fin.sum_univ_succ, Fin.sum_univ_succ,
      EReal.left_distrib_of_nonneg_of_ne_top (by exact_mod_cast hc) (EReal.coe_ne_top c), ih]

/-- Dividing by a positive real is multiplying by its reciprocal. -/
theorem div_pos_real (x : EReal) (l : ℝ) (hl : 0 < l) : Ideal.div x l = ((l⁻¹ : ℝ) : EReal) * x := by
  rw [Ideal.div, if_neg (by exact_mod_cast hl.ne'), EReal.coe_inv, mul_comm]

/-- THE LAW. Where the cached scores are real and the new ones are real or masked out, the softmax in base two with one
    division at the end is the softmax in base e of the scores changed to base e and shifted. -/
theorem row_eq_soft (δ : ℝ) (sc : Fin 1024 → EReal) (sn : Fin 32 → EReal) (vc : Fin 1024 → EReal) (vn : Fin 32 → EReal)
    (hc : ∀ x, ∃ r : ℝ, sc x = r) (hn : ∀ x, sn x ≠ ⊤) :
    row sc sn vc vn = soft (fun x => chg δ (sc x)) (fun x => chg δ (sn x)) vc vn := by
  have hct : ∀ x, sc x ≠ ⊤ := fun x => by obtain ⟨r, hr⟩ := hc x; rw [hr]; exact EReal.coe_ne_top r
  have hM : ∃ M : ℝ, top sc sn = M := by
    have h1 : top sc sn ≠ ⊤ := by
      rw [top]
      exact ne_of_lt (max_lt (lt_top_iff_ne_top.2 (sup_ne_top sc hct)) (lt_top_iff_ne_top.2 (sup_ne_top sn hn)))
    have h2 : top sc sn ≠ ⊥ := by
      obtain ⟨r, hr⟩ := hc 0
      refine ne_of_gt (lt_of_lt_of_le (EReal.bot_lt_coe r) ?_)
      rw [← hr]
      exact le_max_of_le_left (Finset.le_sup (f := sc) (Finset.mem_univ 0))
    exact ⟨(top sc sn).toReal, (EReal.coe_toReal h1 h2).symm⟩
  obtain ⟨M, hM⟩ := hM
  choose pc hpc0 hpc hpc' using fun x => weight δ M (sc x) (hct x)
  choose pn hpn0 hpn hpn' using fun x => weight δ M (sn x) (hn x)
  have hl : 0 < (∑ x, pc x) + ∑ x, pn x := by
    obtain ⟨r, hr⟩ := hc 0
    obtain ⟨p, hp, hp'⟩ := weight_pos r M
    have h0 : pc 0 = p := by
      have := hpc 0
      rw [hr, hp'] at this
      exact_mod_cast this.symm
    have h1 : 0 < ∑ x, pc x := Finset.sum_pos' (fun x _ => hpc0 x) ⟨0, Finset.mem_univ _, h0 ▸ hp⟩
    exact add_pos_of_pos_of_nonneg h1 (Finset.sum_nonneg fun x _ => hpn0 x)
  rw [row, soft, ← chg_top, hM]
  simp only [hpc, hpn, hpc', hpn']
  rw [← coe_sum, ← coe_sum, ← EReal.coe_add]
  simp only [div_pos_real _ _ hl]
  rw [EReal.left_distrib_of_nonneg_of_ne_top (by exact_mod_cast (inv_pos.2 hl).le) (EReal.coe_ne_top _),
    mul_sum_real _ (inv_pos.2 hl).le, mul_sum_real _ (inv_pos.2 hl).le]
  simp only [mul_assoc]

end AttnSpec

end
-- ==== Proof.AttnScan.lean ====
/-
  The running sums the decode attention forms along the lanes by doubling: each round adds the array to itself rotated by
  twice the previous distance, with the lanes that wrapped around left out.
-/
module

public import proofs.«01_k».proof.Proof.Gen.KernelIdeal.Frame
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.KernelIdeal.Scan

open Cert.KernelIdeal Cert.KernelIdeal.Gen

/-- `v` holds, at every lane, the sum of the `w` entries of `X` from that lane on. -/
def Rev (v : FVec Ideal S16x1024 .f32) (X : Fin 16 → ℕ → EReal) (w : ℕ) : Prop :=
  ∀ (h : Fin 16) (p : Fin 1024), v (ix2 h p) = ∑ i ∈ Finset.range w, X h (p.val + i)

/-- One doubling round towards the higher lanes. -/
theorem Rev.step {v : FVec Ideal S16x1024 .f32} {X : Fin 16 → ℕ → EReal} {w : ℕ} (hv : Rev v X w)
    (hX : ∀ h p, 1024 ≤ p → X h p = 0) (b : BitVec 32) (w' : ℕ) (hw2 : w' = w + w) (hw : 0 < w) (hw' : w ≤ 512)
    (hb : b = BitVec.ofNat 32 (1024 - w))
    (hi : S16x1024.Iotas .tc 32 [1]) (hr : S16x1024.Rotates 1 none) :
    Rev (addf v (select (cmpi .slt (iota .tc S16x1024 32 [1] hi) (broadcast S16x1024 b))
      (dynamicRotate 1 b none v hr) (broadcast S16x1024 (Scalar.ofBits (F := Ideal) .f32 0x00000000#32)))) X w' := by
  intro h p
  have hp := p.isLt
  pointwise
  subst hb hw2
  have hbn : (BitVec.ofNat 32 (1024 - w)).toNat = 1024 - w := by
    rw [BitVec.toNat_ofNat, Nat.mod_eq_of_lt (by omega)]
  rw [WordCmp.cmpi_slt_ofNat (by omega) (by omega), hv, Finset.sum_range_add]
  refine congrArg (fun z => _ + z) ?_
  by_cases hlt : p.val < 1024 - w
  · rw [show decide (p.val < 1024 - w) = true from decide_eq_true hlt]
    show v _ = _
    rw [hv]
    refine Finset.sum_congr rfl fun i _ => congrArg (X h) ?_
    show (p.val + 1024 - (BitVec.ofNat 32 (1024 - w)).toNat % 1024) % 1024 + i = p.val + (w + i)
    rw [hbn]; omega
  · rw [show decide (p.val < 1024 - w) = false from decide_eq_false hlt]
    show (0 : EReal) = _
    exact (Finset.sum_eq_zero fun i _ => hX h _ (by omega)).symm

/-- `v` holds, at every lane, the sum of the `w` entries of `Y` that end at that lane. -/
def Fwd (v : FVec Ideal S16x128 .f32) (Y : Fin 16 → ℕ → EReal) (w : ℕ) : Prop :=
  ∀ (h : Fin 16) (p : Fin 128), v (ix2 h p) = ∑ i ∈ Finset.range w, if i ≤ p.val then Y h (p.val - i) else 0

/-- One doubling round towards the lower lanes. -/
theorem Fwd.step {v : FVec Ideal S16x128 .f32} {Y : Fin 16 → ℕ → EReal} {w : ℕ} (hv : Fwd v Y w)
    (b : BitVec 32) (w' : ℕ) (hw2 : w' = w + w) (hw' : w ≤ 64) (hb : b = BitVec.ofNat 32 w)
    (hi : S16x128.Iotas .tc 32 [1]) (hr : S16x128.Rotates 1 none) :
    Fwd (addf v (select (cmpi .sge (iota .tc S16x128 32 [1] hi) (broadcast S16x128 b))
      (dynamicRotate 1 b none v hr) (broadcast S16x128 (Scalar.ofBits (F := Ideal) .f32 0x00000000#32)))) Y w' := by
  intro h p
  have hp := p.isLt
  pointwise
  subst hb hw2
  have hbn : (BitVec.ofNat 32 w).toNat = w := by
    rw [BitVec.toNat_ofNat, Nat.mod_eq_of_lt (by omega)]
  rw [WordCmp.cmpi_sge_ofNat (by omega) (by omega), hv, Finset.sum_range_add]
  refine congrArg (fun z => _ + z) ?_
  by_cases hle : w ≤ p.val
  · rw [show decide (w ≤ p.val) = true from decide_eq_true hle]
    show v _ = _
    rw [hv]
    refine Finset.sum_congr rfl fun i _ => ?_
    have e : (p.val + 128 - (BitVec.ofNat 32 w).toNat % 128) % 128 = p.val - w := by rw [hbn]; omega
    show (if i ≤ (p.val + 128 - (BitVec.ofNat 32 w).toNat % 128) % 128 then
      Y h ((p.val + 128 - (BitVec.ofNat 32 w).toNat % 128) % 128 - i) else 0) = _
    rw [e, Nat.sub_sub]
    by_cases hh : i ≤ p.val - w
    · rw [if_pos hh, if_pos (by omega)]
    · rw [if_neg hh, if_neg (by omega)]
  · rw [show decide (w ≤ p.val) = false from decide_eq_false hle]
    show (0 : EReal) = _
    exact (Finset.sum_eq_zero fun i _ => if_neg (by omega)).symm

/-- A row of the cached log forget values, zero past its end. -/
def ext (x : FVec Ideal S1x16x1024 .f32) (h : Fin 16) (p : ℕ) : EReal :=
  if hp : p < 1024 then x (ix3 0 h ⟨p, hp⟩) else 0

/-- A row of the new log forget values, zero past its end. -/
def extn (x : FVec Ideal S1x16x128 .f32) (h : Fin 16) (p : ℕ) : EReal :=
  if hp : p < 128 then x (ix3 0 h ⟨p, hp⟩) else 0

theorem ext_past (x : FVec Ideal S1x16x1024 .f32) (h : Fin 16) (p : ℕ) (hp : 1024 ≤ p) : ext x h p = 0 :=
  dif_neg (by omega)

/-- The base-two logarithm of e as the table names it. -/
theorem log2e_named : Named.named (F := Ideal) κ "log2e" (φ := .f32) 0x3FB8AA3B#32 = (((Real.log 2)⁻¹ : ℝ) : EReal) :=
  IdealRules.named_const.ideal_named_scalar κ "log2e" _ _ rfl

theorem scale_named : Named.named (F := Ideal) κ "scale" (φ := .f32) 0x3E38AA3B#32 = ((8⁻¹ * (Real.log 2)⁻¹ : ℝ) : EReal) :=
  IdealRules.named_const.ideal_named_scalar κ "scale" _ _ rfl

theorem mask_named : Named.named (F := Ideal) κ "mask" (φ := .f32) 0xF149F2CA#32 = ⊥ :=
  IdealRules.named_const.ideal_named_scalar κ "mask" _ _ rfl

/-- What the scores against the cached keys have subtracted: the cached log forget values' sum to the end, with the
    entry itself taken back out, in base two. -/
theorem cached_at (x : FVec Ideal S1x16x1024 .f32) (h : Fin 16) (p : Fin 1024) :
    k0_pay11 (F := Ideal) (k0_pay6 x) (iota .tc S16x1024 32 [1] iota_S16x1024_d1_w32) (k0_pay7 x) k0_pay8 (k0_pay9 x)
        (k0_pay10 (F := Ideal)) (ix2 h p)
      = (ext x h p - ∑ i ∈ Finset.range 1024, ext x h (p.val + i)) * (((Real.log 2)⁻¹ : ℝ) : EReal) := by
  have h0 : Rev (k0_pay6 (F := Ideal) x) (ext x) 1 := by
    intro h p
    pointwise [k0_pay6]
    rw [Finset.sum_range_one, ext, dif_pos (by have := p.isLt; omega)]
    rfl
  have hX := ext_past x
  have h1 := h0.step hX 1023#32 2 (by norm_num) (by norm_num) (by norm_num) rfl iota_S16x1024_d1_w32 rotates_S16x1024_d1
  have h2 := h1.step hX 1022#32 4 (by norm_num) (by norm_num) (by norm_num) rfl iota_S16x1024_d1_w32 rotates_S16x1024_d1
  have h3 := h2.step hX 1020#32 8 (by norm_num) (by norm_num) (by norm_num) rfl iota_S16x1024_d1_w32 rotates_S16x1024_d1
  have h4 := h3.step hX 1016#32 16 (by norm_num) (by norm_num) (by norm_num) rfl iota_S16x1024_d1_w32 rotates_S16x1024_d1
  have h5 := h4.step hX 1008#32 32 (by norm_num) (by norm_num) (by norm_num) rfl iota_S16x1024_d1_w32 rotates_S16x1024_d1
  have h6 := h5.step hX 992#32 64 (by norm_num) (by norm_num) (by norm_num) rfl iota_S16x1024_d1_w32 rotates_S16x1024_d1
  have h7 := h6.step hX 960#32 128 (by norm_num) (by norm_num) (by norm_num) rfl iota_S16x1024_d1_w32 rotates_S16x1024_d1
  have h8 := h7.step hX 896#32 256 (by norm_num) (by norm_num) (by norm_num) rfl iota_S16x1024_d1_w32 rotates_S16x1024_d1
  have h9 := h8.step hX 768#32 512 (by norm_num) (by norm_num) (by norm_num) rfl iota_S16x1024_d1_w32 rotates_S16x1024_d1
  have h10 := h9.step hX 512#32 1024 (by norm_num) (by norm_num) (by norm_num) rfl iota_S16x1024_d1_w32 rotates_S16x1024_d1
  have e := h10 h p
  have e0 := h0 h p
  rw [Finset.sum_range_one] at e0
  rw [← log2e_named, ← e]
  show (k0_pay6 (F := Ideal) x (ix2 h p) - _) * _ = _
  rw [e0]
  rfl

/-- What the scores against the new keys have subtracted: the new log forget values' running sum, in base two. -/
theorem new_at (x : FVec Ideal S1x16x128 .f32) (h : Fin 16) (p : Fin 32) :
    k0_pay13 (F := Ideal) (iota .tc S16x128 32 [1] iota_S16x128_d1_w32) (k0_pay12 x) (ix2 h p)
      = (∑ i ∈ Finset.range 128, if i ≤ p.val then extn x h (p.val - i) else 0) * (((Real.log 2)⁻¹ : ℝ) : EReal) := by
  have h0 : Fwd (shapeCast S16x128 x shapeCasts_S1x16x128_S16x128) (extn x) 1 := by
    intro h p
    pointwise
    rw [Finset.sum_range_one, extn, if_pos (by omega), dif_pos (by have := p.isLt; omega)]
    rfl
  have h1 := h0.step 1#32 2 (by norm_num) (by norm_num) rfl iota_S16x128_d1_w32 rotates_S16x128_d1
  have h2 := h1.step 2#32 4 (by norm_num) (by norm_num) rfl iota_S16x128_d1_w32 rotates_S16x128_d1
  have h3 := h2.step 4#32 8 (by norm_num) (by norm_num) rfl iota_S16x128_d1_w32 rotates_S16x128_d1
  have h4 := h3.step 8#32 16 (by norm_num) (by norm_num) rfl iota_S16x128_d1_w32 rotates_S16x128_d1
  have h5 := h4.step 16#32 32 (by norm_num) (by norm_num) rfl iota_S16x128_d1_w32 rotates_S16x128_d1
  have h6 := h5.step 32#32 64 (by norm_num) (by norm_num) rfl iota_S16x128_d1_w32 rotates_S16x128_d1
  have h7 := h6.step 64#32 128 (by norm_num) (by norm_num) rfl iota_S16x128_d1_w32 rotates_S16x128_d1
  have e := h7 h ⟨p.val, by have := p.isLt; omega⟩
  rw [← log2e_named, ← e]
  have hs : ∀ v : FVec Ideal S16x128 .f32, mulf (extractStridedSlice S16x32 ![0, 0] v slices_S16x128_o0_0_S16x32)
      (broadcast S16x32 (Named.named (F := Ideal) κ "log2e" (φ := .f32) 0x3FB8AA3B#32)) (ix2 h p)
      = v (ix2 h ⟨p.val, by have := p.isLt; omega⟩) * Named.named (F := Ideal) κ "log2e" (φ := .f32) 0x3FB8AA3B#32 := by
    intro v
    pointwise
  exact hs _

end Cert.KernelIdeal.Scan

end
-- ==== Proof.AttnHead.lean ====
/-
  One head of the decode attention's body read entry by entry: its scores against the cached and the new keys, and the
  row of its result.
-/
module

public import proofs.«01_k».proof.Proof.AttnSpec
public import proofs.«01_k».proof.Proof.AttnScan

@[expose] public section

set_option maxRecDepth 16384

noncomputable section

open Idealize.ShloMosaic Idealize.ShloMosaic.TcCoe Idealize.SL.Sem

namespace Cert.KernelIdeal.Head

open Cert.KernelIdeal Cert.KernelIdeal.Gen

/-- The scores of one head against the cached keys. -/
def scoreC (q : FVec Ideal S32x64 .bf16) (kc : FVec Ideal S64x1024 .bf16) (ck : FVec Ideal S1x1024 .f32) :
    FVec Ideal S32x1024 .f32 :=
  subf (matmul dot_S32x64_S64x1024_S32x1024_1_0_0_1_n_n none q kc (constant S32x1024 .f32 0x00000000#32))
    (broadcastTo S32x1024 ck broadcasts_S1x1024_S32x1024)

/-- The scores of one head against the new keys, masked. -/
def scoreN (q kn : FVec Ideal S32x64 .bf16) (cn : FVec Ideal S1x32 .f32) (mk : IVec S32x32 1) : FVec Ideal S32x32 .f32 :=
  select mk (subf (matmul dot_S32x64_S32x64_S32x32_1_1_0_0_n_n none q kn (constant S32x32 .f32 0x00000000#32))
    (broadcastTo S32x32 cn broadcasts_S1x32_S32x32))
    (broadcast S32x32 (Named.named (F := Ideal) κ "mask" (φ := .f32) 0xF149F2CA#32))

/-- The rows' largest scores. -/
def big (sc : FVec Ideal S32x1024 .f32) (sn : FVec Ideal S32x32 .f32) : FVec Ideal S32x1 .f32 :=
  maximumf (shapeCast S32x1 (multiReduction .maximumf [1] S32 sc 0xFF800000#32 reduces_S32x1024_S32 (.inl rfl) rfl) shapeCasts_S32_S32x1)
    (shapeCast S32x1 (multiReduction .maximumf [1] S32 sn 0xFF800000#32 reduces_S32x32_S32 (.inl rfl) rfl) shapeCasts_S32_S32x1)

/-- The weights of the cached keys. -/
def wtC (sc : FVec Ideal S32x1024 .f32) (mx : FVec Ideal S32x1 .f32) : FVec Ideal S32x1024 .f32 :=
  exp2 (subf sc (broadcastTo S32x1024 mx broadcasts_S32x1_S32x1024))

/-- The weights of the new keys. -/
def wtN (sn : FVec Ideal S32x32 .f32) (mx : FVec Ideal S32x1 .f32) : FVec Ideal S32x32 .f32 :=
  exp2 (subf sn (broadcastTo S32x32 mx broadcasts_S32x1_S32x32))

/-- The weighted values divided by the sum of the weights. -/
def mixed (pc : FVec Ideal S32x1024 .f32) (pn : FVec Ideal S32x32 .f32) (vc : FVec Ideal S64x1024 .bf16)
    (vn : FVec Ideal S32x64 .bf16) : FVec Ideal S32x64 .f32 :=
  divf (addf (matmul dot_S32x1024_S64x1024_S32x64_1_1_0_0_n_n none (truncf .bf16 pc bitsLt_bf16_f32) vc
        (constant S32x64 .f32 0x00000000#32))
      (matmul dot_S32x32_S32x64_S32x64_1_0_0_1_n_n none (truncf .bf16 pn bitsLt_bf16_f32) vn
        (constant S32x64 .f32 0x00000000#32)))
    (broadcastTo S32x64 (addf
      (shapeCast S32x1 (multiReduction .add [1] S32 pc 0x00000000#32 reduces_S32x1024_S32 (.inl rfl) rfl) shapeCasts_S32_S32x1)
      (shapeCast S32x1 (multiReduction .add [1] S32 pn 0x00000000#32 reduces_S32x32_S32 (.inl rfl) rfl) shapeCasts_S32_S32x1))
      broadcasts_S32x1_S32x64)

/-- One head's rows of the result, from its scores and its values. -/
def headOut (sc : FVec Ideal S32x1024 .f32) (sn : FVec Ideal S32x32 .f32) (vc : FVec Ideal S64x1024 .bf16)
    (vn : FVec Ideal S32x64 .bf16) : FVec Ideal S32x64 .f32 :=
  mixed (wtC sc (big sc sn)) (wtN sn (big sc sn)) vc vn

theorem scoreC_at (q : FVec Ideal S32x64 .bf16) (kc : FVec Ideal S64x1024 .bf16) (ck : FVec Ideal S1x1024 .f32)
    (t : Fin 32) (k : Fin 1024) :
    scoreC q kc ck (ix2 t k) = (∑ x, q (ix2 t x) * kc (ix2 x k)) - ck (ix2 0 k) := by
  unfold scoreC
  pointwise

theorem scoreN_at (q kn : FVec Ideal S32x64 .bf16) (cn : FVec Ideal S1x32 .f32) (mk : IVec S32x32 1) (t k : Fin 32) :
    scoreN q kn cn mk (ix2 t k)
      = Scalar.select (mk (ix2 t k)) ((∑ x, q (ix2 t x) * kn (ix2 k x)) - cn (ix2 0 k)) (⊥ : EReal) := by
  unfold scoreN
  pointwise
  rw [Scan.mask_named]

theorem fold_max_bot {n : ℕ} (f : Fin n → EReal) :
    Finset.fold max (Ideal.ofBits .f32 0xFF800000#32) f Finset.univ = Finset.univ.sup f := by
  rw [show Ideal.ofBits .f32 0xFF800000#32 = ⊥ by simp [Ideal.ofBits, Ideal.ieee]]
  rfl

theorem big_at (sc : FVec Ideal S32x1024 .f32) (sn : FVec Ideal S32x32 .f32) (t : Fin 32) :
    big sc sn (ix2 t 0) = AttnSpec.top (fun x => sc (ix2 t x)) (fun x => sn (ix2 t x)) := by
  unfold big AttnSpec.top
  rw [← fold_max_bot, ← fold_max_bot]
  pointwise

theorem wtC_at (sc : FVec Ideal S32x1024 .f32) (mx : FVec Ideal S32x1 .f32) (t : Fin 32) (k : Fin 1024) :
    wtC sc mx (ix2 t k) = Ideal.exp2 (sc (ix2 t k) - mx (ix2 t 0)) := by
  unfold wtC
  pointwise
  rfl

theorem wtN_at (sn : FVec Ideal S32x32 .f32) (mx : FVec Ideal S32x1 .f32) (t k : Fin 32) :
    wtN sn mx (ix2 t k) = Ideal.exp2 (sn (ix2 t k) - mx (ix2 t 0)) := by
  unfold wtN
  pointwise
  rfl

theorem mixed_at (pc : FVec Ideal S32x1024 .f32) (pn : FVec Ideal S32x32 .f32) (vc : FVec Ideal S64x1024 .bf16)
    (vn : FVec Ideal S32x64 .bf16) (t : Fin 32) (d : Fin 64) :
    mixed pc pn vc vn (ix2 t d)
      = Ideal.div ((∑ x, pc (ix2 t x) * vc (ix2 d x)) + ∑ x, pn (ix2 t x) * vn (ix2 x d))
          ((∑ x, pc (ix2 t x)) + ∑ x, pn (ix2 t x)) := by
  unfold mixed
  pointwise

/-- One head's result at a row and a column is the row's softmax in base two over its scores. -/
theorem headOut_at (sc : FVec Ideal S32x1024 .f32) (sn : FVec Ideal S32x32 .f32) (vc : FVec Ideal S64x1024 .bf16)
    (vn : FVec Ideal S32x64 .bf16) (t : Fin 32) (d : Fin 64) :
    headOut sc sn vc vn (ix2 t d)
      = AttnSpec.row (fun x => sc (ix2 t x)) (fun x => sn (ix2 t x)) (fun x => vc (ix2 d x)) (fun x => vn (ix2 x d)) := by
  rw [headOut, mixed_at]
  simp only [wtC_at, wtN_at, big_at]
  rfl

end Cert.KernelIdeal.Head

end
-- ==== Proof.AttnOut.lean ====
/-
  The decode attention kernel: what one grid point leaves in its block, entry by entry, as the softmax in base two of the
  rows the point's blocks hold.
-/
module

public import proofs.«01_k».proof.Proof.AttnHead
public import Idealize.ShloMosaic.Lib.Pipeline.ValueKit

@[expose] public section

set_option maxRecDepth 16384

noncomputable section

open Idealize.ShloMosaic Idealize.ShloMosaic.TcCoe Idealize.SL.Sem

namespace Cert.KernelIdeal.Head

open Cert.KernelIdeal Cert.KernelIdeal.Gen

/-- One head cut out of the arrays of all heads: columns `o` on of the queries, keys and values, row `h` of what the
    scores have subtracted, and the head's own block of the caches. -/
def head (q kn vn : FVec Ideal S32x1024 .bf16) (ck : FVec Ideal S16x1024 .f32) (cn : FVec Ideal S16x32 .f32)
    (mk : IVec S32x32 1) (o h : ℕ) (hq : S32x1024.Slices ![0, o] S32x64) (hc : S16x1024.Slices ![h, 0] S1x1024)
    (hn : S16x32.Slices ![h, 0] S1x32) (kc vc : Vec Ideal S1x1x1x64x1024 .f32) : FVec Ideal S32x64 .f32 :=
  headOut (scoreC (extractStridedSlice S32x64 ![0, o] q hq) (k0_pay15 kc) (extractStridedSlice S1x1024 ![h, 0] ck hc))
    (scoreN (extractStridedSlice S32x64 ![0, o] q hq) (extractStridedSlice S32x64 ![0, o] kn hq)
      (extractStridedSlice S1x32 ![h, 0] cn hn) mk)
    (k0_pay15 vc) (extractStridedSlice S32x64 ![0, o] vn hq)

/-- All heads side by side. -/
def heads (q kn vn : FVec Ideal S32x1024 .bf16) (ck : FVec Ideal S16x1024 .f32) (cn : FVec Ideal S16x32 .f32)
    (mk : IVec S32x32 1) (x3 x4 : Vec Ideal S1x1x16x64x1024 .f32) : FVec Ideal S32x1024 .bf16 :=
  k0_pay2
    (head q kn vn ck cn mk 0 0 slices_S32x1024_o0_0_S32x64 slices_S16x1024_o0_0_S1x1024 slices_S16x32_o0_0_S1x32 (View.ld x3 r0_4) (View.ld x4 r0_4))
    (head q kn vn ck cn mk 64 1 slices_S32x1024_o0_64_S32x64 slices_S16x1024_o1_0_S1x1024 slices_S16x32_o1_0_S1x32 (View.ld x3 r0_5) (View.ld x4 r0_5))
    (head q kn vn ck cn mk 128 2 slices_S32x1024_o0_128_S32x64 slices_S16x1024_o2_0_S1x1024 slices_S16x32_o2_0_S1x32 (View.ld x3 r0_6) (View.ld x4 r0_6))
    (head q kn vn ck cn mk 192 3 slices_S32x1024_o0_192_S32x64 slices_S16x1024_o3_0_S1x1024 slices_S16x32_o3_0_S1x32 (View.ld x3 r0_7) (View.ld x4 r0_7))
    (head q kn vn ck cn mk 256 4 slices_S32x1024_o0_256_S32x64 slices_S16x1024_o4_0_S1x1024 slices_S16x32_o4_0_S1x32 (View.ld x3 r0_8) (View.ld x4 r0_8))
    (head q kn vn ck cn mk 320 5 slices_S32x1024_o0_320_S32x64 slices_S16x1024_o5_0_S1x1024 slices_S16x32_o5_0_S1x32 (View.ld x3 r0_9) (View.ld x4 r0_9))
    (head q kn vn ck cn mk 384 6 slices_S32x1024_o0_384_S32x64 slices_S16x1024_o6_0_S1x1024 slices_S16x32_o6_0_S1x32 (View.ld x3 r0_10) (View.ld x4 r0_10))
    (head q kn vn ck cn mk 448 7 slices_S32x1024_o0_448_S32x64 slices_S16x1024_o7_0_S1x1024 slices_S16x32_o7_0_S1x32 (View.ld x3 r0_11) (View.ld x4 r0_11))
    (head q kn vn ck cn mk 512 8 slices_S32x1024_o0_512_S32x64 slices_S16x1024_o8_0_S1x1024 slices_S16x32_o8_0_S1x32 (View.ld x3 r0_12) (View.ld x4 r0_12))
    (head q kn vn ck cn mk 576 9 slices_S32x1024_o0_576_S32x64 slices_S16x1024_o9_0_S1x1024 slices_S16x32_o9_0_S1x32 (View.ld x3 r0_13) (View.ld x4 r0_13))
    (head q kn vn ck cn mk 640 10 slices_S32x1024_o0_640_S32x64 slices_S16x1024_o10_0_S1x1024 slices_S16x32_o10_0_S1x32 (View.ld x3 r0_14) (View.ld x4 r0_14))
    (head q kn vn ck cn mk 704 11 slices_S32x1024_o0_704_S32x64 slices_S16x1024_o11_0_S1x1024 slices_S16x32_o11_0_S1x32 (View.ld x3 r0_15) (View.ld x4 r0_15))
    (head q kn vn ck cn mk 768 12 slices_S32x1024_o0_768_S32x64 slices_S16x1024_o12_0_S1x1024 slices_S16x32_o12_0_S1x32 (View.ld x3 r0_16) (View.ld x4 r0_16))
    (head q kn vn ck cn mk 832 13 slices_S32x1024_o0_832_S32x64 slices_S16x1024_o13_0_S1x1024 slices_S16x32_o13_0_S1x32 (View.ld x3 r0_17) (View.ld x4 r0_17))
    (head q kn vn ck cn mk 896 14 slices_S32x1024_o0_896_S32x64 slices_S16x1024_o14_0_S1x1024 slices_S16x32_o14_0_S1x32 (View.ld x3 r0_18) (View.ld x4 r0_18))
    (head q kn vn ck cn mk 960 15 slices_S32x1024_o0_960_S32x64 slices_S16x1024_o15_0_S1x1024 slices_S16x32_o15_0_S1x32 (View.ld x3 r0_19) (View.ld x4 r0_19))

set_option maxHeartbeats 2000000 in
/-- What a point leaves in its block is all heads side by side. -/
theorem out_eq (x0 : Vec Ideal S32x1024 .f32) (x1 x2 : Vec Ideal S1x32x1024 .f32) (x3 x4 : Vec Ideal S1x1x16x64x1024 .f32)
    (x5 : Vec Ideal S1x16x1024 .f32) (x6 : Vec Ideal S1x16x128 .f32) :
    out0_7 (F := Ideal) x0 x1 x2 x3 x4 x5 x6 = View.canon [⟨r0_0, heads (k0_pay3 (View.ld x0 r0_0)) (k0_pay4 (View.ld x1 r0_1))
      (k0_pay5 (View.ld x2 r0_1))
      (k0_pay11 (F := Ideal) (k0_pay6 (View.ld x5 r0_2)) (iota .tc S16x1024 32 [1] iota_S16x1024_d1_w32) (k0_pay7 (View.ld x5 r0_2)) k0_pay8
        (k0_pay9 (View.ld x5 r0_2)) (k0_pay10 (F := Ideal)))
      (k0_pay13 (F := Ideal) (iota .tc S16x128 32 [1] iota_S16x128_d1_w32) (k0_pay12 (View.ld x6 r0_3))) k0_pay14 x3 x4⟩] := rfl

/-- A head read at a row and a column. -/
theorem head_at (q kn vn : FVec Ideal S32x1024 .bf16) (ck : FVec Ideal S16x1024 .f32) (cn : FVec Ideal S16x32 .f32)
    (mk : IVec S32x32 1) (o : ℕ) (h : Fin 16) (ho : o = 64 * h.val) (hq : S32x1024.Slices ![0, o] S32x64)
    (hc : S16x1024.Slices ![h.val, 0] S1x1024)
    (hn : S16x32.Slices ![h.val, 0] S1x32) (kc vc : Vec Ideal S1x1x1x64x1024 .f32) (t : Fin 32) (d : Fin 64) :
    head q kn vn ck cn mk o h.val hq hc hn kc vc (ix2 t d)
      = AttnSpec.row
        (fun k => (∑ x : Fin 64, q (ix2 t ⟨64 * h.val + x.val, by omega⟩) * kc (ix5 0 0 0 x k)) - ck (ix2 h k))
        (fun k => Scalar.select (mk (ix2 t k)) ((∑ x : Fin 64, q (ix2 t ⟨64 * h.val + x.val, by omega⟩)
          * kn (ix2 k ⟨64 * h.val + x.val, by omega⟩)) - cn (ix2 h k)) (⊥ : EReal))
        (fun k => vc (ix5 0 0 0 d k)) (fun k => vn (ix2 k ⟨64 * h.val + d.val, by omega⟩)) := by
  subst ho
  have es : ∀ (v : FVec Ideal S32x1024 .bf16) (t : Fin 32) (x : Fin 64),
      extractStridedSlice S32x64 ![0, 64 * h.val] v hq (ix2 t x) = v (ix2 t ⟨64 * h.val + x.val, by omega⟩) := by
    intro v t x
    refine extractStridedSlice_apply _ v hq _ _ fun a => ?_
    fin_cases a
    · exact (Nat.zero_add _).symm
    · rfl
  have ec : ∀ k : Fin 1024, extractStridedSlice S1x1024 ![h.val, 0] ck hc (ix2 0 k) = ck (ix2 h k) := by
    intro k
    refine extractStridedSlice_apply _ ck hc _ _ fun a => ?_
    fin_cases a
    · rfl
    · exact (Nat.zero_add _).symm
  have en : ∀ k : Fin 32, extractStridedSlice S1x32 ![h.val, 0] cn hn (ix2 0 k) = cn (ix2 h k) := by
    intro k
    refine extractStridedSlice_apply _ cn hn _ _ fun a => ?_
    fin_cases a
    · rfl
    · exact (Nat.zero_add _).symm
  have ek : ∀ (v : Vec Ideal S1x1x1x64x1024 .f32) (x : Fin 64) (k : Fin 1024),
      k0_pay15 (F := Ideal) v (ix2 x k) = v (ix5 0 0 0 x k) := by
    intro v x k
    pointwise [k0_pay15]
  rw [head, headOut_at]
  simp only [scoreC_at, scoreN_at, es, ec, en, ek]

/-- Sixteen blocks of columns side by side, read at a column of block `h`. -/
theorem side_at (f : Fin 16 → FVec Ideal S32x64 .f32) (h : Fin 16) (t : Fin 32) (d : Fin 64) :
    k0_pay2 (F := Ideal) (f 0) (f 1) (f 2) (f 3) (f 4) (f 5) (f 6) (f 7) (f 8) (f 9) (f 10) (f 11) (f 12) (f 13) (f 14) (f 15)
      (ix2 t ⟨64 * h.val + d.val, by omega⟩) = f h (ix2 t d) := by
  have e : k0_pay2 (F := Ideal) (f 0) (f 1) (f 2) (f 3) (f 4) (f 5) (f 6) (f 7) (f 8) (f 9) (f 10) (f 11) (f 12) (f 13) (f 14) (f 15)
      = concatenate S32x1024 1 (List.ofFn fun n : Fin 16 => (⟨S32x64, f n⟩ : (s : Shape) × (s.Idx → EReal)))
        concatenates_S32x64_S32x64_S32x64_S32x64_S32x64_S32x64_S32x64_S32x64_S32x64_S32x64_S32x64_S32x64_S32x64_S32x64_S32x64_S32x64_S32x1024_d1 := rfl
  rw [e]
  refine concatenate_ofFn_apply (t := S32x1024) 1 f _ rfl 64 rfl _ h ?_ (ix2 t d) ?_ fun b hb => ?_
  · show (64 * h.val + d.val) / 64 = h.val
    omega
  · show d.val = (64 * h.val + d.val) % 64
    omega
  · fin_cases b
    · rfl
    · exact absurd rfl hb

end Cert.KernelIdeal.Head

end
-- ==== Proof.AttnHost.lean ====
/-
  Two operations of the reference read at an index, for shapes of any size: the largest entry along the last axis of a
  rank-four array, and the running sum along the middle axis of a rank-three array.
-/
module

public import Idealize.ShloMosaic.Lib.Pointwise
public import Idealize.ShloMosaic.Lib.Claim
public import Idealize.ShloMosaic.Lib.WordCmp

@[expose] public section

set_option maxRecDepth 16384

noncomputable section

open Idealize.ShloMosaic Idealize.ShloMosaic.TcCoe Idealize.SL.Sem

namespace HostReadings

/-- The largest entry along the last axis, started at `⊥`. -/
theorem largest_at {n0 n1 n2 n3 : ℕ} {u : Shape} (x : FVec Ideal ⟨4, ![n0, n1, n2, n3]⟩ .f32) (init : u.Idx → Ideal .f32)
    (h : (⟨4, ![n0, n1, n2, n3]⟩ : Shape).ReducesTo [3] ⟨3, ![n0, n1, n2]⟩) (hu : 0 < u.numel)
    (hi : init (Shape.Idx.first hu) = (⊥ : EReal)) (a : Fin n0) (b : Fin n1) (c : Fin n2) :
    Host.reduce FloatOps.maximumf x init h hu (ix3 a b c) = Finset.univ.sup (fun k : Fin n3 => x (ix4 a b c k)) := by
  rw [Ideal.maximumf_eq_max, Host.reduce_eq_fold, Shape.ReducesTo.fold_fiber_r4_a3, hi]
  rfl

/-- The larger of two arrays, entry by entry. -/
theorem larger_at {s : Shape} (x y : FVec Ideal s .f32) (i : s.Idx) : maximumf x y i = (max (x i) (y i) : EReal) := rfl

/-- A window's positions are the positions of its long axis. -/
def along (n : ℕ) : (⟨3, ![1, n + 1, 1]⟩ : Shape).Idx ≃ Fin (n + 1) where
  toFun w := w 1
  invFun i := ix3 0 i 0
  left_inv w := by
    funext a
    fin_cases a
    · exact (Fin.eq_zero (show Fin 1 from w 0)).symm
    · rfl
    · exact (Fin.eq_zero (show Fin 1 from w 2)).symm
  right_inv i := rfl

/-- The running sum along the middle axis, as a window reaching back over the whole axis. -/
theorem running_at {n0 n n2 : ℕ} (x : FVec Ideal ⟨3, ![n0, n + 1, n2]⟩ .f32) (v : EReal)
    (h : (⟨3, ![n0, n + 1, n2]⟩ : Shape).ReduceWindows ![1, n + 1, 1] ![1, 1, 1] ![0, n, 0] ![0, 0, 0] ⟨3, ![n0, n + 1, n2]⟩)
    (hv : v = 0) (a : Fin n0) (k : Fin (n + 1)) (c : Fin n2) :
    Ideal.hostReduceWindowAdd ![1, n + 1, 1] ![1, 1, 1] ![0, n, 0] ![0, 0, 0] h x v (ix3 a k c)
      = ∑ j ∈ Finset.range (k.val + 1), if hj : j < n + 1 then x (ix3 a ⟨j, hj⟩ c) else 0 := by
  subst hv
  set g : ℕ → EReal := fun j => if hj : j < n + 1 then x (ix3 a ⟨j, hj⟩ c) else 0 with hg
  have key : ∀ (w : (⟨3, ![1, n + 1, 1]⟩ : Shape).Idx) (D : Decidable (∀ b : Fin 3, (![0, n, 0] : Fin 3 → ℕ) b ≤ ((ix3 a k c : (⟨3, ![n0, n + 1, n2]⟩ : Shape).Idx) b).val * (![1, 1, 1] : Fin 3 → ℕ) b + (w b).val
          ∧ ((ix3 a k c : (⟨3, ![n0, n + 1, n2]⟩ : Shape).Idx) b).val * (![1, 1, 1] : Fin 3 → ℕ) b + (w b).val - (![0, n, 0] : Fin 3 → ℕ) b < (⟨3, ![n0, n + 1, n2]⟩ : Shape).size b)),
      @dite EReal (∀ b : Fin 3, (![0, n, 0] : Fin 3 → ℕ) b ≤ ((ix3 a k c : (⟨3, ![n0, n + 1, n2]⟩ : Shape).Idx) b).val * (![1, 1, 1] : Fin 3 → ℕ) b + (w b).val
          ∧ ((ix3 a k c : (⟨3, ![n0, n + 1, n2]⟩ : Shape).Idx) b).val * (![1, 1, 1] : Fin 3 → ℕ) b + (w b).val - (![0, n, 0] : Fin 3 → ℕ) b < (⟨3, ![n0, n + 1, n2]⟩ : Shape).size b) D (fun hin => x (fun b => ⟨_, (hin b).2⟩)) (fun _ => 0)
      = if n ≤ k.val + (along n w).val then g (k.val + (along n w).val - n) else 0 := by
    intro w D
    have w0 : (w 0).val = 0 := by have := (show Fin 1 from w 0).isLt; exact Nat.lt_one_iff.1 this
    have w2 : (w 2).val = 0 := by have := (show Fin 1 from w 2).isLt; exact Nat.lt_one_iff.1 this
    have w1 : (along n w).val = (w 1).val := rfl
    have wl : (along n w).val < n + 1 := (along n w).isLt
    by_cases hk : n ≤ k.val + (along n w).val
    · rw [if_pos hk]
      have hin : ∀ b : Fin 3, (![0, n, 0] : Fin 3 → ℕ) b ≤ ((ix3 a k c : (⟨3, ![n0, n + 1, n2]⟩ : Shape).Idx) b).val * (![1, 1, 1] : Fin 3 → ℕ) b + (w b).val
          ∧ ((ix3 a k c : (⟨3, ![n0, n + 1, n2]⟩ : Shape).Idx) b).val * (![1, 1, 1] : Fin 3 → ℕ) b + (w b).val - (![0, n, 0] : Fin 3 → ℕ) b < (⟨3, ![n0, n + 1, n2]⟩ : Shape).size b := by
        intro b
        fin_cases b
        · show 0 ≤ a.val * 1 + (w 0).val ∧ a.val * 1 + (w 0).val - 0 < n0
          have := a.isLt
          omega
        · show n ≤ k.val * 1 + (w 1).val ∧ k.val * 1 + (w 1).val - n < n + 1
          have := k.isLt
          omega
        · show 0 ≤ c.val * 1 + (w 2).val ∧ c.val * 1 + (w 2).val - 0 < n2
          have := c.isLt
          omega
      rw [dif_pos hin, hg]
      have hl : k.val + (along n w).val - n < n + 1 := by have := k.isLt; omega
      simp only [dif_pos hl]
      congr 1
      funext b
      apply Fin.ext
      fin_cases b
      · show a.val * 1 + (w 0).val - 0 = a.val
        omega
      · show k.val * 1 + (w 1).val - n = k.val + (along n w).val - n
        omega
      · show c.val * 1 + (w 2).val - 0 = c.val
        omega
    · rw [if_neg hk, dif_neg]
      intro hin
      have := (hin 1).1
      have : n ≤ k.val * 1 + (w 1).val := this
      omega
  have fold : Ideal.hostReduceWindowAdd ![1, n + 1, 1] ![1, 1, 1] ![0, n, 0] ![0, 0, 0] h x 0 (ix3 a k c)
      = ∑ w : (⟨3, ![1, n + 1, 1]⟩ : Shape).Idx, if n ≤ k.val + (along n w).val then g (k.val + (along n w).val - n) else 0 := by
    rw [← Equiv.sum_comp (⟨3, ![1, n + 1, 1]⟩ : Shape).rowMajor.symm, Fin.sum_univ_def, List.sum_eq_foldl, List.foldl_map]
    unfold Ideal.hostReduceWindowAdd Host.reduceWindow
    refine congrArg (fun f => List.foldl f (0 : EReal) (List.finRange (⟨3, ![1, n + 1, 1]⟩ : Shape).numel)) ?_
    funext r i
    exact congrArg (r + ·) (key _ _)
  rw [fold, Equiv.sum_comp (along n) (fun i : Fin (n + 1) => if n ≤ k.val + i.val then g (k.val + i.val - n) else 0),
    Fin.sum_univ_eq_sum_range (fun i => if n ≤ k.val + i then g (k.val + i - n) else 0) (n + 1)]
  have hk := k.isLt
  have sp : Finset.range (n + 1) = Finset.range ((n - k.val) + (k.val + 1)) := congrArg Finset.range (by omega)
  rw [sp, Finset.sum_range_add, Finset.sum_eq_zero, zero_add]
  · refine Finset.sum_congr rfl fun i hi => ?_
    have := Finset.mem_range.1 hi
    rw [if_pos (by omega), show k.val + (n - k.val + i) - n = i by omega]
  · intro i hi
    have := Finset.mem_range.1 hi
    rw [if_neg (by omega)]

/-- Small words add as numbers. -/
theorem words_add (a b : ℕ) : IntOp.addi (BitVec.ofNat 32 a) (BitVec.ofNat 32 b) = BitVec.ofNat 32 (a + b) :=
  (BitVec.ofNat_add a b).symm

/-- Small words compare as numbers. -/
theorem words_le (a b : ℕ) (ha : a < 4096) (hb : b < 4096) :
    IntOp.cmpi .sle (BitVec.ofNat 32 a) (BitVec.ofNat 32 b) = if a ≤ b then 1#1 else 0#1 := by
  rw [WordCmp.cmpi_sle_ofNat (lt_of_lt_of_le ha (by decide)) (lt_of_lt_of_le hb (by decide))]
  split <;> simp [*]

/-- A sum along an axis made of two parts. -/
theorem sum_parts {n k N : ℕ} (hN : N = n + k) (f : Fin N → EReal) :
    ∑ i, f i = (∑ i : Fin n, f ⟨i.val, by omega⟩) + ∑ i : Fin k, f ⟨n + i.val, by omega⟩ := by
  subst hN
  exact Fin.sum_univ_add f

/-- The largest entry along an axis made of two parts. -/
theorem sup_parts {n k N : ℕ} (hN : N = n + k) (f : Fin N → EReal) :
    Finset.univ.sup f
      = max (Finset.univ.sup fun i : Fin n => f ⟨i.val, by omega⟩) (Finset.univ.sup fun i : Fin k => f ⟨n + i.val, by omega⟩) := by
  refine le_antisymm (Finset.sup_le fun i _ => ?_) (max_le (Finset.sup_le fun i _ => ?_) (Finset.sup_le fun i _ => ?_))
  · by_cases hi : i.val < n
    · exact le_max_of_le_left (Finset.le_sup (f := fun i : Fin n => f ⟨i.val, by omega⟩) (Finset.mem_univ ⟨i.val, hi⟩))
    · refine le_max_of_le_right ?_
      have e : f i = f ⟨n + (⟨i.val - n, by omega⟩ : Fin k).val, by omega⟩ := congrArg f (Fin.ext (by show i.val = n + (i.val - n); omega))
      rw [e]
      exact Finset.le_sup (f := fun i : Fin k => f ⟨n + i.val, by omega⟩) (Finset.mem_univ (⟨i.val - n, by omega⟩ : Fin k))
  · exact Finset.le_sup (f := f) (Finset.mem_univ _)
  · exact Finset.le_sup (f := f) (Finset.mem_univ _)

end HostReadings

end
-- ==== Proof.AttnPoint.lean ====
/-
  The decode attention kernel: the block a grid point leaves, entry by entry, from the blocks the point reads.
-/
module

public import proofs.«01_k».proof.Proof.AttnOut
public import proofs.«01_k».proof.Proof.AttnScan
public import proofs.«01_k».proof.Proof.AttnHost

@[expose] public section

set_option maxRecDepth 16384

noncomputable section

open Idealize.ShloMosaic Idealize.ShloMosaic.TcCoe Idealize.SL.Sem

namespace Cert.KernelIdeal.Head

open Cert.KernelIdeal Cert.KernelIdeal.Gen

/-- The cached keys or values of every head of a block. -/
def cut (x : Vec Ideal S1x1x16x64x1024 .f32) : Fin 16 → Vec Ideal S1x1x1x64x1024 .f32 :=
  ![View.ld x r0_4, View.ld x r0_5, View.ld x r0_6, View.ld x r0_7, View.ld x r0_8, View.ld x r0_9, View.ld x r0_10, View.ld x r0_11, View.ld x r0_12, View.ld x r0_13, View.ld x r0_14, View.ld x r0_15, View.ld x r0_16, View.ld x r0_17, View.ld x r0_18, View.ld x r0_19]

theorem cut_at (x : Vec Ideal S1x1x16x64x1024 .f32) (h : Fin 16) (d : Fin 64) (k : Fin 1024) :
    cut x h (ix5 0 0 0 d k) = x (ix5 0 0 h d k) := by
  fin_cases h <;> refine congrArg x (funext fun a => Fin.ext ?_) <;> fin_cases a <;> simp [ix5]

theorem cols : ∀ h : Fin 16, S32x1024.Slices ![0, 64 * h.val] S32x64 := by decide

theorem rowsC : ∀ h : Fin 16, S16x1024.Slices ![h.val, 0] S1x1024 := by decide

theorem rowsN : ∀ h : Fin 16, S16x32.Slices ![h.val, 0] S1x32 := by decide

/-- Head `h` of the block. -/
def one (q kn vn : FVec Ideal S32x1024 .bf16) (ck : FVec Ideal S16x1024 .f32) (cn : FVec Ideal S16x32 .f32)
    (mk : IVec S32x32 1) (x3 x4 : Vec Ideal S1x1x16x64x1024 .f32) (h : Fin 16) : FVec Ideal S32x64 .f32 :=
  head q kn vn ck cn mk (64 * h.val) h.val (cols h) (rowsC h) (rowsN h) (cut x3 h) (cut x4 h)

theorem heads_eq (q kn vn : FVec Ideal S32x1024 .bf16) (ck : FVec Ideal S16x1024 .f32) (cn : FVec Ideal S16x32 .f32)
    (mk : IVec S32x32 1) (x3 x4 : Vec Ideal S1x1x16x64x1024 .f32) :
    heads q kn vn ck cn mk x3 x4 = k0_pay2 (F := Ideal) (one q kn vn ck cn mk x3 x4 0) (one q kn vn ck cn mk x3 x4 1) (one q kn vn ck cn mk x3 x4 2) (one q kn vn ck cn mk x3 x4 3) (one q kn vn ck cn mk x3 x4 4) (one q kn vn ck cn mk x3 x4 5) (one q kn vn ck cn mk x3 x4 6) (one q kn vn ck cn mk x3 x4 7) (one q kn vn ck cn mk x3 x4 8) (one q kn vn ck cn mk x3 x4 9) (one q kn vn ck cn mk x3 x4 10) (one q kn vn ck cn mk x3 x4 11) (one q kn vn ck cn mk x3 x4 12) (one q kn vn ck cn mk x3 x4 13) (one q kn vn ck cn mk x3 x4 14) (one q kn vn ck cn mk x3 x4 15) := rfl

/-- The mask on the new positions: a position sees itself and the positions before it. -/
theorem mask_at (t k : Fin 32) : k0_pay14 (ix2 t k) = if k.val ≤ t.val then 1#1 else 0#1 := by
  have e : k0_pay14 (ix2 t k) = IntOp.cmpi .sle (BitVec.ofNat 32 k.val) (BitVec.ofNat 32 t.val) := by
    pointwise [k0_pay14]
  rw [e, HostReadings.words_le _ _ (by omega) (by omega)]

theorem queries_at (x0 : Vec Ideal S32x1024 .f32) (t : Fin 32) (j : Fin 1024) :
    k0_pay3 (F := Ideal) (View.ld x0 r0_0) (ix2 t j) = x0 (ix2 t j) * ((8⁻¹ * (Real.log 2)⁻¹ : ℝ) : EReal) := by
  rw [← Scan.scale_named]
  pointwise [k0_pay3]

theorem keys_at (x : Vec Ideal S1x32x1024 .f32) (t : Fin 32) (j : Fin 1024) :
    k0_pay4 (F := Ideal) (View.ld x r0_1) (ix2 t j) = x (ix3 0 t j) := by
  pointwise [k0_pay4]

theorem values_at (x : Vec Ideal S1x32x1024 .f32) (t : Fin 32) (j : Fin 1024) :
    k0_pay5 (F := Ideal) (View.ld x r0_1) (ix2 t j) = x (ix3 0 t j) := by
  pointwise [k0_pay5]

theorem whole_cached (x : Vec Ideal S1x16x1024 .f32) : View.ld x r0_2 = x :=
  View.ld_unit_zero (by funext a; fin_cases a <;> rfl) _ _

theorem whole_new (x : Vec Ideal S1x16x128 .f32) : View.ld x r0_3 = x :=
  View.ld_unit_zero (by funext a; fin_cases a <;> rfl) _ _

/-- The kernel's score of a cached position, from the blocks. -/
def ksC (x0 : Vec Ideal S32x1024 .f32) (x3 : Vec Ideal S1x1x16x64x1024 .f32) (x5 : Vec Ideal S1x16x1024 .f32)
    (t : Fin 32) (h : Fin 16) (k : Fin 1024) : EReal :=
  (∑ x : Fin 64, x0 (ix2 t ⟨64 * h.val + x.val, by omega⟩) * ((8⁻¹ * (Real.log 2)⁻¹ : ℝ) : EReal) * x3 (ix5 0 0 h x k))
    - (Scan.ext x5 h k.val - ∑ i ∈ Finset.range 1024, Scan.ext x5 h (k.val + i)) * (((Real.log 2)⁻¹ : ℝ) : EReal)

/-- The kernel's score of a new position, from the blocks. -/
def ksN (x0 : Vec Ideal S32x1024 .f32) (x1 : Vec Ideal S1x32x1024 .f32) (x6 : Vec Ideal S1x16x128 .f32)
    (t : Fin 32) (h : Fin 16) (k : Fin 32) : EReal :=
  if k.val ≤ t.val then
    (∑ x : Fin 64, x0 (ix2 t ⟨64 * h.val + x.val, by omega⟩) * ((8⁻¹ * (Real.log 2)⁻¹ : ℝ) : EReal)
      * x1 (ix3 0 k ⟨64 * h.val + x.val, by omega⟩))
      - (∑ i ∈ Finset.range 128, if i ≤ k.val then Scan.extn x6 h (k.val - i) else 0) * (((Real.log 2)⁻¹ : ℝ) : EReal)
  else ⊥

/-- The block a point leaves, as one array. -/
def left (x0 : Vec Ideal S32x1024 .f32) (x1 x2 : Vec Ideal S1x32x1024 .f32) (x3 x4 : Vec Ideal S1x1x16x64x1024 .f32)
    (x5 : Vec Ideal S1x16x1024 .f32) (x6 : Vec Ideal S1x16x128 .f32) : FVec Ideal S32x1024 .bf16 :=
  heads (k0_pay3 (View.ld x0 r0_0)) (k0_pay4 (View.ld x1 r0_1))
      (k0_pay5 (View.ld x2 r0_1))
      (k0_pay11 (F := Ideal) (k0_pay6 (View.ld x5 r0_2)) (iota .tc S16x1024 32 [1] iota_S16x1024_d1_w32) (k0_pay7 (View.ld x5 r0_2)) k0_pay8
        (k0_pay9 (View.ld x5 r0_2)) (k0_pay10 (F := Ideal)))
      (k0_pay13 (F := Ideal) (iota .tc S16x128 32 [1] iota_S16x128_d1_w32) (k0_pay12 (View.ld x6 r0_3))) k0_pay14 x3 x4

theorem left_at (x0 : Vec Ideal S32x1024 .f32) (x1 x2 : Vec Ideal S1x32x1024 .f32) (x3 x4 : Vec Ideal S1x1x16x64x1024 .f32)
    (x5 : Vec Ideal S1x16x1024 .f32) (x6 : Vec Ideal S1x16x128 .f32) (t : Fin 32) (h : Fin 16) (d : Fin 64) :
    left x0 x1 x2 x3 x4 x5 x6 (ix2 t ⟨64 * h.val + d.val, by omega⟩)
      = AttnSpec.row (ksC x0 x3 x5 t h) (ksN x0 x1 x6 t h) (fun k => x4 (ix5 0 0 h d k))
        (fun k => x2 (ix3 0 k ⟨64 * h.val + d.val, by omega⟩)) := by
  rw [left, heads_eq, side_at (fun h => one _ _ _ _ _ _ x3 x4 h), one, head_at _ _ _ _ _ _ _ h rfl, whole_cached, whole_new]
  congr 1
  · funext k
    rw [Scan.cached_at, ksC]
    simp only [queries_at, cut_at]
  · funext k
    rw [Scan.new_at, ksN, mask_at]
    simp only [queries_at, keys_at]
    split <;> rfl
  · funext k
    exact cut_at x4 h d k
  · funext k
    exact values_at x2 k _

end Cert.KernelIdeal.Head

end
-- ==== Proof.AttnScore.lean ====
/-
  Scores in base two against scores in base e, over the reals. The kernel subtracts from a product of a query and a key a
  sum of log forget values counted from the join of the cached and the new positions; the reference adds the difference of
  two running sums counted from the first cached position. Times the logarithm of two, and moved by the running sum of the
  new values, which all positions of a row share, the first is the second.
-/
module

public import proofs.«01_k».proof.Proof.AttnSpec

@[expose] public section

noncomputable section

namespace AttnScore

/-- A sum of products in the extended reals whose factors are real. -/
theorem coe_dot {n : ℕ} (a b : Fin n → ℝ) : (∑ x, (a x : EReal) * (b x : EReal)) = ((∑ x, a x * b x : ℝ) : EReal) := by
  rw [AttnSpec.coe_sum]
  exact Finset.sum_congr rfl fun x _ => (EReal.coe_mul _ _).symm

/-- The sum over a range of real values. -/
theorem coe_range (f : ℕ → ℝ) (n : ℕ) : (∑ i ∈ Finset.range n, (f i : EReal)) = ((∑ i ∈ Finset.range n, f i : ℝ) : EReal) := by
  induction n with
  | zero => simp
  | succ n ih => rw [Finset.sum_range_succ, Finset.sum_range_succ, ih, EReal.coe_add]

/-- The cached values followed by the new ones. -/
def both (F G : ℕ → ℝ) (j : ℕ) : ℝ := if j < 1024 then F j else G (j - 1024)

theorem both_sum (F G : ℕ → ℝ) (n : ℕ) :
    ∑ j ∈ Finset.range (1024 + n), both F G j = (∑ j ∈ Finset.range 1024, F j) + ∑ j ∈ Finset.range n, G j := by
  rw [Finset.sum_range_add]
  refine congrArg₂ (· + ·) ?_ ?_
  · exact Finset.sum_congr rfl fun j hj => if_pos (Finset.mem_range.1 hj)
  · refine Finset.sum_congr rfl fun j _ => ?_
    rw [both, if_neg (by omega), Nat.add_sub_cancel_left]

theorem both_small (F G : ℕ → ℝ) (n : ℕ) (hn : n ≤ 1024) :
    ∑ j ∈ Finset.range n, both F G j = ∑ j ∈ Finset.range n, F j :=
  Finset.sum_congr rfl fun j hj => if_pos (lt_of_lt_of_le (Finset.mem_range.1 hj) hn)

/-- The sum from a position to the end, of values zero past the end. -/
theorem tail_sum (F : ℕ → ℝ) (hF : ∀ j, 1024 ≤ j → F j = 0) (p : ℕ) (hp : p ≤ 1024) :
    ∑ i ∈ Finset.range 1024, F (p + i) = (∑ j ∈ Finset.range 1024, F j) - ∑ j ∈ Finset.range p, F j := by
  have e1 : ∑ j ∈ Finset.range (p + 1024), F j = (∑ j ∈ Finset.range p, F j) + ∑ i ∈ Finset.range 1024, F (p + i) :=
    Finset.sum_range_add _ _ _
  have e2 : ∑ j ∈ Finset.range (1024 + p), F j = (∑ j ∈ Finset.range 1024, F j) + ∑ i ∈ Finset.range p, F (1024 + i) :=
    Finset.sum_range_add _ _ _
  have e3 : ∑ i ∈ Finset.range p, F (1024 + i) = 0 := Finset.sum_eq_zero fun i _ => hF _ (by omega)
  rw [Nat.add_comm p 1024, e2, e3] at e1
  linarith

/-- The sum back from a position. -/
theorem head_sum (G : ℕ → ℝ) (p : ℕ) (hp : p < 128) :
    (∑ i ∈ Finset.range 128, if i ≤ p then G (p - i) else 0) = ∑ j ∈ Finset.range (p + 1), G j := by
  have sp : Finset.range 128 = Finset.range ((p + 1) + (127 - p)) := congrArg Finset.range (by omega)
  rw [sp, Finset.sum_range_add, Finset.sum_eq_zero (s := Finset.range (127 - p)) fun i _ => if_neg (by omega), add_zero,
    ← Finset.sum_range_reflect G (p + 1)]
  refine Finset.sum_congr rfl fun i hi => ?_
  have := Finset.mem_range.1 hi
  rw [if_pos (by omega)]
  exact congrArg G (by omega)

theorem log_ne : Real.log 2 ≠ 0 := (Real.log_pos (by norm_num)).ne'

/-- The two products of a query and a key, the kernel's with its factor on the query. -/
theorem dot_scaled {n : ℕ} (q k : Fin n → ℝ) :
    (∑ x, q x * (8⁻¹ * (Real.log 2)⁻¹) * k x) * Real.log 2 = (∑ x, q x * k x) * 8⁻¹ := by
  rw [Finset.sum_mul, Finset.sum_mul]
  refine Finset.sum_congr rfl fun x _ => ?_
  have := log_ne
  field_simp

/-- A cached position's score, in the kernel. -/
def kerC (q k : Fin 64 → ℝ) (F : ℕ → ℝ) (p : ℕ) : ℝ :=
  (∑ x, q x * (8⁻¹ * (Real.log 2)⁻¹) * k x) - (F p - ∑ i ∈ Finset.range 1024, F (p + i)) * (Real.log 2)⁻¹

/-- A new position's score, in the kernel. -/
def kerN (q k : Fin 64 → ℝ) (G : ℕ → ℝ) (p : ℕ) : ℝ :=
  (∑ x, q x * (8⁻¹ * (Real.log 2)⁻¹) * k x) - (∑ i ∈ Finset.range 128, if i ≤ p then G (p - i) else 0) * (Real.log 2)⁻¹

/-- Position `j`'s score in a row at position `n`, in the reference. -/
def ref (q k : Fin 64 → ℝ) (F G : ℕ → ℝ) (n j : ℕ) : ℝ :=
  (∑ x, q x * k x) * 8⁻¹ + ((∑ i ∈ Finset.range (n + 1), both F G i) - ∑ i ∈ Finset.range (j + 1), both F G i)

theorem kerC_eq (q k : Fin 64 → ℝ) (F G : ℕ → ℝ) (hF : ∀ j, 1024 ≤ j → F j = 0) (t p : ℕ) (hp : p < 1024) :
    kerC q k F p * Real.log 2 + ∑ j ∈ Finset.range (t + 1), G j = ref q k F G (1024 + t) p := by
  rw [kerC, ref, sub_mul, dot_scaled, mul_assoc, inv_mul_cancel₀ log_ne, mul_one, tail_sum F hF p hp.le, Nat.add_assoc, both_sum,
    both_small F G (p + 1) hp, Finset.sum_range_succ F p]
  ring

theorem kerN_eq (q k : Fin 64 → ℝ) (F G : ℕ → ℝ) (t p : ℕ) (hp : p < 128) :
    kerN q k G p * Real.log 2 + ∑ j ∈ Finset.range (t + 1), G j = ref q k F G (1024 + t) (1024 + p) := by
  rw [kerN, ref, sub_mul, dot_scaled, mul_assoc, inv_mul_cancel₀ log_ne, mul_one, head_sum G p hp, Nat.add_assoc, Nat.add_assoc,
    both_sum, both_sum]
  ring

end AttnScore

end
-- ==== Proof.AttnRef.lean ====
/-
  The reference's decode attention read entry by entry: its running sum of the log forget values, its scores, its softmax
  and its weighted sum of the values, each from arrays held as variables.
-/
module

public import proofs.«01_k».proof.Defs
public import proofs.«01_k».proof.Proof.AttnSpec
public import proofs.«01_k».proof.Proof.Gen.ReferenceIdeal.Run
public import Idealize.ShloMosaic.Lib.Pointwise
public import proofs.«01_k».proof.Proof.AttnHost
public import proofs.«01_k».proof.Proof.AttnSpec
public import Idealize.ShloMosaic.Lib.WordCmp

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen

/-- The reference's running sum along the keys. -/
def scan (x : FVec Ideal S32x1056x16 .f32) : FVec Ideal S32x1056x16 .f32 :=
  Host.reduceWindowAdd ![1, 1056, 1] ![1, 1, 1] ![0, 1055, 0] ![0, 0, 0] x (broadcastInDim S_ ![] bcast_S_S_ (constant S_ .f32 0x00000000#32)) reduceWindows_S32x1056x16_S32x1056x16_w1s1p0_0_w1056s1p1055_0_w1s1p0_0 h_S_

/-- The reference's masked scores, from the queries, the keys and the running sum. -/
def scores (Q : FVec Ideal S32x32x16x64 .f32) (K : FVec Ideal S32x1056x16x64 .f32) (C : FVec Ideal S32x1056x16 .f32) :
    FVec Ideal S32x16x32x1056 .f32 :=
  select (broadcastInDim S32x16x32x1056 ![0, 1, 2, 3] bcast_S1x1x32x1056_S32x16x32x1056_0_1_2_3 (broadcastInDim S1x1x32x1056 ![2, 3] bcast_S32x1056_S1x1x32x1056_2_3 (cmpi .sle (broadcastInDim S32x1056 ![0, 1] bcast_S1x1056_S32x1056_0_1 (broadcastInDim S1x1056 ![1] bcast_S1056_S1x1056_1 (iotaInDim S1056 32 0))) (broadcastInDim S32x1056 ![0, 1] bcast_S32x1_S32x1056_0_1 (broadcastInDim S32x1 ![0] bcast_S32_S32x1_0 (addi (broadcastInDim S32 ![] bcast_S_S32 (constantI S_ 32 1024#32)) (iotaInDim S32 32 0))))))) (addf (mulf (Host.dotGeneral dot_S32x32x16x64_S32x1056x16x64_S32x16x32x1056_3_3_1_1_02_02 none Q K) (broadcastInDim S32x16x32x1056 ![] bcast_S_S32x16x32x1056 (constant S_ .f32 0x3E000000#32))) (subf (broadcastInDim S32x16x32x1056 ![0, 1, 2, 3] bcast_S32x16x32x1_S32x16x32x1056_0_1_2_3 (broadcastInDim S32x16x32x1 ![0, 1, 2] bcast_S32x16x32_S32x16x32x1_0_1_2 (transpose S32x16x32 [0, 2, 1] (extractStridedSlice S32x32x16 ![0, 1024, 0] C slices_S32x1056x16_S32x32x16_0_1024_0) transposes_S32x32x16_S32x16x32_0_2_1))) (broadcastInDim S32x16x32x1056 ![0, 1, 2, 3] bcast_S32x16x1x1056_S32x16x32x1056_0_1_2_3 (broadcastInDim S32x16x1x1056 ![0, 1, 3] bcast_S32x16x1056_S32x16x1x1056_0_1_3 (transpose S32x16x1056 [0, 2, 1] C transposes_S32x1056x16_S32x16x1056_0_2_1))))) (broadcastInDim S32x16x32x1056 ![] bcast_S_S32x16x32x1056 (id (constant S_ .f32 0xFF800000#32)))

/-- The largest score of every row, in the reference. -/
def tops (S : FVec Ideal S32x16x32x1056 .f32) : FVec Ideal S32x16x32 .f32 :=
  maximumf (broadcastInDim S32x16x32 ![] bcast_S_S32x16x32 (constant S_ .f32 0xFF800000#32)) (Host.reduce FloatOps.maximumf S (constant S_ .f32 0xFF800000#32) reducesTo_S32x16x32x1056_S32x16x32_d3 h_S_)

/-- The unnormalized weights, in the reference, from the scores and their rows' largest. -/
def expo (S : FVec Ideal S32x16x32x1056 .f32) (M : FVec Ideal S32x16x32 .f32) : FVec Ideal S32x16x32x1056 .f32 :=
  Host.exp (subf S (broadcastInDim S32x16x32x1056 ![0, 1, 2, 3] bcast_S32x16x32x1_S32x16x32x1056_0_1_2_3 (broadcastInDim S32x16x32x1 ![0, 1, 2] bcast_S32x16x32_S32x16x32x1_0_1_2 M)))

/-- The rows' sums of the unnormalized weights, in the reference. -/
def sums (E : FVec Ideal S32x16x32x1056 .f32) : FVec Ideal S32x16x32 .f32 :=
  Host.reduceAdd E (constant S_ .f32 0x00000000#32) reducesTo_S32x16x32x1056_S32x16x32_d3 h_S_

/-- The weights, in the reference. -/
def quot (E : FVec Ideal S32x16x32x1056 .f32) (L : FVec Ideal S32x16x32 .f32) : FVec Ideal S32x16x32x1056 .f32 :=
  Host.divf E (broadcastInDim S32x16x32x1056 ![0, 1, 2, 3] bcast_S32x16x32x1_S32x16x32x1056_0_1_2_3 (broadcastInDim S32x16x32x1 ![0, 1, 2] bcast_S32x16x32_S32x16x32x1_0_1_2 L))

/-- The softmax of the scores, in the reference. -/
def softmax (S : FVec Ideal S32x16x32x1056 .f32) : FVec Ideal S32x16x32x1056 .f32 :=
  quot (expo S (tops S)) (sums (expo S (tops S)))

/-- The weighted sum of the values, in the reference. -/
def mix (P : FVec Ideal S32x16x32x1056 .f32) (V : FVec Ideal S32x1056x16x64 .f32) : FVec Ideal S32x16x64x32 .f32 :=
  Host.dotGeneral dot_S32x1056x16x64_S32x16x32x1056_S32x16x64x32_1_3_3_2_02_01 none V P

/-- The result's rows and columns, in the reference. -/
def rows (D : FVec Ideal S32x16x64x32 .f32) : FVec Ideal S1024x1024 .bf16 :=
  truncf .bf16 (shapeCast _ (transpose S32x32x16x64 [0, 3, 1, 2] D transposes_S32x16x64x32_S32x32x16x64_0_3_1_2) shapeCasts_S32x32x16x64_S1024x1024) bitsLt_bf16_f32

/-- The cached rows followed by the new ones. -/
def joined (a4 : FVec Ideal S4x32x1024x16x64 .f32) (a1 : FVec Ideal S4x32x32x16x64 .f32) : FVec Ideal S32x1056x16x64 .f32 :=
  concatenate S32x1056x16x64 1 [⟨S32x1024x16x64, (shapeCast _ (extractStridedSlice S1x32x1024x16x64 ![0, 0, 0, 0, 0] a4 slices_S4x32x1024x16x64_S1x32x1024x16x64_0_0_0_0_0) shapeCasts_S1x32x1024x16x64_S32x1024x16x64)⟩, ⟨S32x32x16x64, (shapeCast _ (extractStridedSlice S1x32x32x16x64 ![0, 0, 0, 0, 0] a1 slices_S4x32x32x16x64_S1x32x32x16x64_0_0_0_0_0) shapeCasts_S1x32x32x16x64_S32x32x16x64)⟩] concatenates_S32x1024x16x64_S32x32x16x64_S32x1056x16x64_d1

/-- The cached log forget values followed by the new ones. -/
def joinedf (a6 : FVec Ideal S4x32x1024x16 .f32) (a3 : FVec Ideal S32x32x16 .f32) : FVec Ideal S32x1056x16 .f32 :=
  concatenate S32x1056x16 1 [⟨S32x1024x16, (shapeCast _ (extractStridedSlice S1x32x1024x16 ![0, 0, 0, 0] a6 slices_S4x32x1024x16_S1x32x1024x16_0_0_0_0) shapeCasts_S1x32x1024x16_S32x1024x16)⟩, ⟨S32x32x16, a3⟩] concatenates_S32x1024x16_S32x32x16_S32x1056x16_d1

/-- The sample rows of the queries, by sequence, position, head and width. -/
def queries (a0 : FVec Ideal S9216x1024 .f32) : FVec Ideal S32x32x16x64 .f32 :=
  shapeCast _ (extractStridedSlice S1024x1024 ![8192, 0] a0 slices_S9216x1024_S1024x1024_8192_0) shapeCasts_S1024x1024_S32x32x16x64

variable (m : (ℓ : Loc nD τ sig) → Buf (Elt Ideal) ℓ)

/-- The reference's result is these pieces put together. -/
theorem res_eq (c : Dev nD) : Value.res_main_v53 m c
    = rows (mix (softmax (scores (queries (m ((c.tc : Thread nD τ).loc main_arg0)))
        (joined (m ((c.tc : Thread nD τ).loc main_arg4)) (m ((c.tc : Thread nD τ).loc main_arg1)))
        (scan (joinedf (m ((c.tc : Thread nD τ).loc main_arg6)) (m ((c.tc : Thread nD τ).loc main_arg3))))))
      (joined (m ((c.tc : Thread nD τ).loc main_arg5)) (m ((c.tc : Thread nD τ).loc main_arg2)))) := rfl

theorem expo_at (S : FVec Ideal S32x16x32x1056 .f32) (M : FVec Ideal S32x16x32 .f32) (b t : Fin 32) (h : Fin 16)
    (k : Fin 1056) : expo S M (ix4 b h t k) = Ideal.exp (S (ix4 b h t k) - M (ix3 b h t)) := by
  unfold expo
  pointwise

theorem sums_at (E : FVec Ideal S32x16x32x1056 .f32) (b t : Fin 32) (h : Fin 16) :
    sums E (ix3 b h t) = ∑ x, E (ix4 b h t x) := by
  unfold sums
  pointwise

theorem quot_at (E : FVec Ideal S32x16x32x1056 .f32) (L : FVec Ideal S32x16x32 .f32) (b t : Fin 32) (h : Fin 16)
    (k : Fin 1056) : quot E L (ix4 b h t k) = Ideal.div (E (ix4 b h t k)) (L (ix3 b h t)) := by
  unfold quot
  pointwise

theorem mix_at (P : FVec Ideal S32x16x32x1056 .f32) (V : FVec Ideal S32x1056x16x64 .f32) (b t : Fin 32) (h : Fin 16)
    (d : Fin 64) : mix P V (ix4 b h d t) = ∑ x, V (ix4 b x h d) * P (ix4 b h t x) := by
  unfold mix
  pointwise

theorem rows_at (D : FVec Ideal S32x16x64x32 .f32) (b t : Fin 32) (h : Fin 16) (d : Fin 64) :
    rows D (ix2 ⟨32 * b.val + t.val, by omega⟩ ⟨64 * h.val + d.val, by omega⟩) = D (ix4 b h d t) := by
  unfold rows
  pointwise

/-- An entry of the joined keys or values by its position. -/
theorem joined_at (a4 : FVec Ideal S4x32x1024x16x64 .f32) (a1 : FVec Ideal S4x32x32x16x64 .f32) (b : Fin 32) (k : Fin 1056)
    (h : Fin 16) (d : Fin 64) : joined a4 a1 (ix4 b k h d)
      = if hk : k.val < 1024 then a4 (ix5 0 b ⟨k.val, hk⟩ h d) else a1 (ix5 0 b ⟨k.val - 1024, by omega⟩ h d) := by
  unfold joined
  pointwise

theorem joinedf_at (a6 : FVec Ideal S4x32x1024x16 .f32) (a3 : FVec Ideal S32x32x16 .f32) (b : Fin 32) (k : Fin 1056)
    (h : Fin 16) : joinedf a6 a3 (ix3 b k h)
      = if hk : k.val < 1024 then a6 (ix4 0 b ⟨k.val, hk⟩ h) else a3 (ix3 b ⟨k.val - 1024, by omega⟩ h) := by
  unfold joinedf
  pointwise

theorem queries_at (a0 : FVec Ideal S9216x1024 .f32) (b t : Fin 32) (h : Fin 16) (d : Fin 64) :
    queries a0 (ix4 b t h d) = a0 (ix2 ⟨8192 + (32 * b.val + t.val), by omega⟩ ⟨64 * h.val + d.val, by omega⟩) := by
  unfold queries
  pointwise
  congr 3 <;> omega

theorem scores_at (Q : FVec Ideal S32x32x16x64 .f32) (K : FVec Ideal S32x1056x16x64 .f32) (C : FVec Ideal S32x1056x16 .f32)
    (b t : Fin 32) (h : Fin 16) (k : Fin 1056) : scores Q K C (ix4 b h t k)
      = Scalar.select (IntOp.cmpi .sle (BitVec.ofNat 32 k) (IntOp.addi 1024#32 (BitVec.ofNat 32 t)))
        ((∑ x, Q (ix4 b t h x) * K (ix4 b k h x)) * Ideal.ofBits .f32 0x3E000000#32
          + (C (ix3 b ⟨1024 + t.val, by omega⟩ h) - C (ix3 b k h))) (⊥ : EReal) := by
  unfold scores
  pointwise
  have e : ∀ j, id (constant S_ .f32 0xFF800000#32 : FVec Ideal S_ .f32) j = (⊥ : EReal) := fun j => by
    simp [constant, Ideal.ofBits, Ideal.ieee]
  rw [e]

theorem tops_at (S : FVec Ideal S32x16x32x1056 .f32) (b t : Fin 32) (h : Fin 16) :
    tops S (ix3 b h t) = Finset.univ.sup (fun k : Fin 1056 => S (ix4 b h t k)) := by
  have e : ∀ u, (constant S_ .f32 0xFF800000#32 : FVec Ideal S_ .f32) u = (⊥ : EReal) := fun u => by
    simp [constant, Ideal.ofBits, Ideal.ieee]
  rw [tops, HostReadings.larger_at, HostReadings.largest_at S _ _ _ (e _)]
  exact max_eq_right ((e _).trans_le bot_le)

theorem scan_at (x : FVec Ideal S32x1056x16 .f32) (b : Fin 32) (k : Fin 1056) (h : Fin 16) :
    scan x (ix3 b k h) = ∑ j ∈ Finset.range (k.val + 1), if hj : j < 1056 then x (ix3 b ⟨j, hj⟩ h) else 0 := by
  unfold scan Host.reduceWindowAdd
  rw [Ideal.hostReduceWindowAdd_def]
  refine HostReadings.running_at (n := 1055) x _ _ ?_ b k h
  show (constant S_ .f32 0x00000000#32 : FVec Ideal S_ .f32) _ = (0 : EReal)
  simp [constant, Ideal.ofBits, Ideal.ieee]

/-- The running sum of the cached, then the new, log forget values of one sequence and head. -/
def run (a6 : FVec Ideal S4x32x1024x16 .f32) (a3 : FVec Ideal S32x32x16 .f32) (b : Fin 32) (h : Fin 16) (n : ℕ) : EReal :=
  ∑ j ∈ Finset.range (n + 1), if hj : j < 1024 then a6 (ix4 0 b ⟨j, hj⟩ h)
    else if hj' : j - 1024 < 32 then a3 (ix3 b ⟨j - 1024, hj'⟩ h) else 0

theorem run_at (a6 : FVec Ideal S4x32x1024x16 .f32) (a3 : FVec Ideal S32x32x16 .f32) (b : Fin 32) (k : Fin 1056) (h : Fin 16) :
    scan (joinedf a6 a3) (ix3 b k h) = run a6 a3 b h k.val := by
  rw [scan_at, run]
  refine Finset.sum_congr rfl fun j hj => ?_
  have hj' : j < 1056 := by have := Finset.mem_range.1 hj; have := k.isLt; omega
  rw [dif_pos hj', joinedf_at]
  by_cases h1 : j < 1024
  · rw [dif_pos h1, dif_pos h1]
  · rw [dif_neg h1, dif_neg h1, dif_pos (by omega)]

/-- The reference's score of a cached position. -/
def scC (a0 : FVec Ideal S9216x1024 .f32) (a4 : FVec Ideal S4x32x1024x16x64 .f32) (a6 : FVec Ideal S4x32x1024x16 .f32)
    (a3 : FVec Ideal S32x32x16 .f32) (b t : Fin 32) (h : Fin 16) (k : Fin 1024) : EReal :=
  (∑ x : Fin 64, a0 (ix2 ⟨8192 + (32 * b.val + t.val), by omega⟩ ⟨64 * h.val + x.val, by omega⟩) * a4 (ix5 0 b k h x))
    * Ideal.ofBits .f32 0x3E000000#32 + (run a6 a3 b h (1024 + t.val) - run a6 a3 b h k.val)

/-- The reference's score of a new position. -/
def scN (a0 : FVec Ideal S9216x1024 .f32) (a1 : FVec Ideal S4x32x32x16x64 .f32) (a6 : FVec Ideal S4x32x1024x16 .f32)
    (a3 : FVec Ideal S32x32x16 .f32) (b t : Fin 32) (h : Fin 16) (k : Fin 32) : EReal :=
  if k.val ≤ t.val then
    (∑ x : Fin 64, a0 (ix2 ⟨8192 + (32 * b.val + t.val), by omega⟩ ⟨64 * h.val + x.val, by omega⟩) * a1 (ix5 0 b k h x))
      * Ideal.ofBits .f32 0x3E000000#32 + (run a6 a3 b h (1024 + t.val) - run a6 a3 b h (1024 + k.val))
  else ⊥

theorem sums_parts (E : FVec Ideal S32x16x32x1056 .f32) (b t : Fin 32) (h : Fin 16) : sums E (ix3 b h t)
    = (∑ k : Fin 1024, E (ix4 b h t ⟨k.val, by omega⟩)) + ∑ k : Fin 32, E (ix4 b h t ⟨1024 + k.val, by omega⟩) := by
  rw [sums_at]
  exact HostReadings.sum_parts (n := 1024) (k := 32) rfl fun x => E (ix4 b h t x)

theorem tops_parts (S : FVec Ideal S32x16x32x1056 .f32) (b t : Fin 32) (h : Fin 16) : tops S (ix3 b h t)
    = AttnSpec.top (fun k : Fin 1024 => S (ix4 b h t ⟨k.val, by omega⟩)) (fun k : Fin 32 => S (ix4 b h t ⟨1024 + k.val, by omega⟩)) := by
  rw [tops_at]
  exact HostReadings.sup_parts (n := 1024) (k := 32) rfl fun x => S (ix4 b h t x)

/-- The weighted sum of the values, over the two parts of the keys. -/
theorem mixed_at (S : FVec Ideal S32x16x32x1056 .f32) (V : FVec Ideal S32x1056x16x64 .f32) (b t : Fin 32) (h : Fin 16) (d : Fin 64) :
    mix (softmax S) V (ix4 b h d t)
      = AttnSpec.soft (fun k : Fin 1024 => S (ix4 b h t ⟨k.val, by omega⟩)) (fun k : Fin 32 => S (ix4 b h t ⟨1024 + k.val, by omega⟩))
        (fun k => V (ix4 b ⟨k.val, by omega⟩ h d)) (fun k => V (ix4 b ⟨1024 + k.val, by omega⟩ h d)) := by
  rw [mix_at]
  refine (HostReadings.sum_parts (n := 1024) (k := 32) rfl _).trans ?_
  unfold softmax AttnSpec.soft
  simp only [quot_at, expo_at, sums_parts, tops_parts, mul_comm (V _)]

theorem cached_score (a0 : FVec Ideal S9216x1024 .f32) (a4 : FVec Ideal S4x32x1024x16x64 .f32) (a1 : FVec Ideal S4x32x32x16x64 .f32)
    (a6 : FVec Ideal S4x32x1024x16 .f32) (a3 : FVec Ideal S32x32x16 .f32) (b t : Fin 32) (h : Fin 16) (k : Fin 1024) :
    scores (queries a0) (joined a4 a1) (scan (joinedf a6 a3)) (ix4 b h t ⟨k.val, by omega⟩) = scC a0 a4 a6 a3 b t h k := by
  rw [scores_at, scC, run_at, run_at]
  have e : IntOp.cmpi .sle (BitVec.ofNat 32 k.val) (IntOp.addi (BitVec.ofNat 32 1024) (BitVec.ofNat 32 t.val)) = 1#1 := by
    rw [HostReadings.words_add, HostReadings.words_le _ _ (by omega) (by omega), if_pos (by omega)]
  have ej : ∀ x : Fin 64, joined a4 a1 (ix4 b ⟨k.val, by omega⟩ h x) = a4 (ix5 0 b k h x) := fun x => by
    rw [joined_at, dif_pos k.isLt]
  rw [e]
  simp only [queries_at, ej]
  rfl

theorem new_score (a0 : FVec Ideal S9216x1024 .f32) (a4 : FVec Ideal S4x32x1024x16x64 .f32) (a1 : FVec Ideal S4x32x32x16x64 .f32)
    (a6 : FVec Ideal S4x32x1024x16 .f32) (a3 : FVec Ideal S32x32x16 .f32) (b t : Fin 32) (h : Fin 16) (k : Fin 32) :
    scores (queries a0) (joined a4 a1) (scan (joinedf a6 a3)) (ix4 b h t ⟨1024 + k.val, by omega⟩) = scN a0 a1 a6 a3 b t h k := by
  rw [scores_at, scN, run_at, run_at]
  have ej : ∀ x : Fin 64, joined a4 a1 (ix4 b ⟨1024 + k.val, by omega⟩ h x) = a1 (ix5 0 b k h x) := fun x => by
    rw [joined_at, dif_neg (by show ¬ 1024 + k.val < 1024; omega)]
    exact congrArg (fun z : Fin 32 => a1 (ix5 0 b z h x)) (Fin.ext (Nat.add_sub_cancel_left 1024 k.val))
  rw [show IntOp.addi 1024#32 (BitVec.ofNat 32 t.val) = BitVec.ofNat 32 (1024 + t.val) from HostReadings.words_add 1024 t.val,
    HostReadings.words_le _ _ (by show 1024 + k.val < _; omega) (by omega)]
  simp only [queries_at, ej]
  by_cases hk : k.val ≤ t.val
  · rw [if_pos hk, if_pos (by show 1024 + k.val ≤ 1024 + t.val; omega)]
    rfl
  · rw [if_neg hk, if_neg (by show ¬ 1024 + k.val ≤ 1024 + t.val; omega)]
    rfl

/-- The reference's result, entry by entry. -/
theorem result_at (c : Dev nD) (b t : Fin 32) (h : Fin 16) (d : Fin 64) :
    Value.res_main_v53 m c (ix2 ⟨32 * b.val + t.val, by omega⟩ ⟨64 * h.val + d.val, by omega⟩)
      = AttnSpec.soft
        (scC (m ((c.tc : Thread nD τ).loc main_arg0)) (m ((c.tc : Thread nD τ).loc main_arg4)) (m ((c.tc : Thread nD τ).loc main_arg6))
          (m ((c.tc : Thread nD τ).loc main_arg3)) b t h)
        (scN (m ((c.tc : Thread nD τ).loc main_arg0)) (m ((c.tc : Thread nD τ).loc main_arg1)) (m ((c.tc : Thread nD τ).loc main_arg6))
          (m ((c.tc : Thread nD τ).loc main_arg3)) b t h)
        (fun k => m ((c.tc : Thread nD τ).loc main_arg5) (ix5 0 b k h d))
        (fun k => m ((c.tc : Thread nD τ).loc main_arg2) (ix5 0 b k h d)) := by
  rw [res_eq, rows_at, mixed_at]
  congr 1
  · funext k; exact cached_score _ _ _ _ _ b t h k
  · funext k; exact new_score _ _ _ _ _ b t h k
  · funext k
    rw [joined_at, dif_pos k.isLt]
  · funext k
    rw [joined_at, dif_neg (by show ¬ 1024 + k.val < 1024; omega)]
    exact congrArg (fun z : Fin 32 => m ((c.tc : Thread nD τ).loc main_arg2) (ix5 0 b z h d)) (Fin.ext (Nat.add_sub_cancel_left 1024 k.val))

end Cert.ReferenceIdeal.Attn

end
-- ==== Proof.AttnValue.lean ====
/-
  The decode attention kernel computes its reference's result: at every grid point the scores in base two, shifted and
  brought to base e, are the reference's, so by the law of `AttnSpec` the two softmaxes agree.
-/
module

public import proofs.«01_k».proof.Defs
public import proofs.«01_k».proof.Proof.AttnBlocks
public import proofs.«01_k».proof.Proof.AttnFinite
public import proofs.«01_k».proof.Proof.AttnPoint
public import proofs.«01_k».proof.Proof.AttnScore
public import proofs.«01_k».proof.Proof.AttnRef
public import proofs.«01_k».proof.Proof.Gen.ReferenceIdeal.Run
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.KernelIdeal.Blocks
open Cert.ReferenceIdeal.Attn (scC scN run)

/-! ## The scores, over real arguments -/

section Real

variable (x0 : Vec Ideal S32x1024 .f32) (x1 : Vec Ideal S1x32x1024 .f32) (x3 : Vec Ideal S1x1x16x64x1024 .f32)
  (x5 : Vec Ideal S1x16x1024 .f32) (x6 : Vec Ideal S1x16x128 .f32)
  (a0 : FVec Ideal S9216x1024 .f32) (a1 : FVec Ideal S4x32x32x16x64 .f32) (a3 : FVec Ideal S32x32x16 .f32)
  (a4 : FVec Ideal S4x32x1024x16x64 .f32) (a6 : FVec Ideal S4x32x1024x16 .f32)
  (b t : Fin 32) (h : Fin 16) (q : Fin 64 → ℝ) (kc : Fin 1024 → Fin 64 → ℝ) (kn : Fin 32 → Fin 64 → ℝ) (F G : ℕ → ℝ)

/-- The factor of a score in the reference. -/
theorem eighth : Ideal.ofBits .f32 0x3E000000#32 = ((8⁻¹ : ℝ) : EReal) := by
  simp [Ideal.ofBits, Ideal.ieee, Nat.shiftRight_eq_div_pow]
  rw [← EReal.coe_mul]
  norm_num

/-- The running sum of the log forget values up to a position, where the values are real. -/
theorem run_real (hF : ∀ p (hp : p < 1024), a6 (ix4 0 b ⟨p, hp⟩ h) = (F p : EReal))
    (hG : ∀ p (hp : p < 32), a3 (ix3 b ⟨p, hp⟩ h) = (G p : EReal)) (n : ℕ) (hn : n < 1056) :
    run a6 a3 b h n = ((∑ j ∈ Finset.range (n + 1), AttnScore.both F G j : ℝ) : EReal) := by
  rw [run, ← AttnScore.coe_range]
  refine Finset.sum_congr rfl fun j hj => ?_
  have hj' := Finset.mem_range.1 hj
  rw [AttnScore.both]
  by_cases h1 : j < 1024
  · rw [dif_pos h1, if_pos h1, hF]
  · rw [dif_neg h1, if_neg h1, dif_pos (by omega : j - 1024 < 32), hG]

/-- The scaled product of a query and a key, where both are real. -/
theorem dot_real {n : ℕ} (κ : ℝ) (u v : Fin n → EReal) (a b : Fin n → ℝ) (hu : ∀ x, u x = a x) (hv : ∀ x, v x = b x) :
    (∑ x, u x * (κ : EReal) * v x) = ((∑ x, a x * κ * b x : ℝ) : EReal) := by
  rw [AttnSpec.coe_sum]
  refine Finset.sum_congr rfl fun x _ => ?_
  rw [hu, hv, EReal.coe_mul, EReal.coe_mul]

/-- The kernel's score of a cached position. -/
theorem ksC_real (hq : ∀ x : Fin 64, x0 (ix2 t ⟨64 * h.val + x.val, by omega⟩) = (q x : EReal))
    (hk : ∀ k x, x3 (ix5 0 0 h x k) = (kc k x : EReal)) (hF : ∀ p, Scan.ext x5 h p = (F p : EReal)) (k : Fin 1024) :
    Head.ksC x0 x3 x5 t h k = ((AttnScore.kerC q (kc k) F k.val : ℝ) : EReal) := by
  rw [Head.ksC, AttnScore.kerC]
  simp only [hF]
  rw [dot_real _ (fun x : Fin 64 => x0 (ix2 t ⟨64 * h.val + x.val, by omega⟩)) (fun x => x3 (ix5 0 0 h x k)) q (kc k) hq (hk k),
    AttnScore.coe_range (fun i => F (k.val + i))]
  push_cast
  rfl

/-- The kernel's score of a new position the row may look at. -/
theorem ksN_real (hq : ∀ x : Fin 64, x0 (ix2 t ⟨64 * h.val + x.val, by omega⟩) = (q x : EReal))
    (hk : ∀ (k : Fin 32) (x : Fin 64), x1 (ix3 0 k ⟨64 * h.val + x.val, by omega⟩) = (kn k x : EReal))
    (hG : ∀ p, Scan.extn x6 h p = (G p : EReal)) (k : Fin 32) (hk' : k.val ≤ t.val) :
    Head.ksN x0 x1 x6 t h k = ((AttnScore.kerN q (kn k) G k.val : ℝ) : EReal) := by
  rw [Head.ksN, if_pos hk', AttnScore.kerN]
  have e : ∀ i, (if i ≤ k.val then Scan.extn x6 h (k.val - i) else 0 : EReal)
      = ((if i ≤ k.val then G (k.val - i) else 0 : ℝ) : EReal) := fun i => by
    by_cases hi : i ≤ k.val
    · rw [if_pos hi, if_pos hi, hG]
    · rw [if_neg hi, if_neg hi]; rfl
  simp only [e]
  rw [dot_real _ (fun x : Fin 64 => x0 (ix2 t ⟨64 * h.val + x.val, by omega⟩))
      (fun x : Fin 64 => x1 (ix3 0 k ⟨64 * h.val + x.val, by omega⟩)) q (kn k) hq (hk k),
    AttnScore.coe_range]
  push_cast
  rfl

/-- The reference's score from real arguments. -/
theorem ref_real (u v : Fin 64 → EReal) (k : Fin 64 → ℝ) (hu : ∀ x, u x = q x) (hv : ∀ x, v x = k x)
    (hF : ∀ p (hp : p < 1024), a6 (ix4 0 b ⟨p, hp⟩ h) = (F p : EReal))
    (hG : ∀ p (hp : p < 32), a3 (ix3 b ⟨p, hp⟩ h) = (G p : EReal)) (n j : ℕ) (hn : n < 1056) (hj : j < 1056) :
    (∑ x, u x * v x) * Ideal.ofBits .f32 0x3E000000#32 + (run a6 a3 b h n - run a6 a3 b h j)
      = ((AttnScore.ref q k F G n j : ℝ) : EReal) := by
  rw [run_real a3 a6 b h F G hF hG n hn, run_real a3 a6 b h F G hF hG j hj, eighth, AttnScore.ref]
  simp only [hu, hv]
  rw [AttnScore.coe_dot]
  push_cast
  rfl

end Real

/-! ## A grid point -/

variable (m : (ℓ : Loc nD τ sig) → Buf (Elt Ideal) ℓ)

/-- The memory of the reference at its own types. -/
abbrev RMem := (ℓ : Loc Cert.ReferenceIdeal.nD Cert.ReferenceIdeal.τ Cert.ReferenceIdeal.sig) → Buf (Elt Ideal) ℓ

/-- The block a point leaves, of the kernel's own blocks. -/
abbrev leftAt (c : Dev nD) (t : Fin cfg0.N) : FVec Ideal S32x1024 .bf16 :=
  Head.left (iblk m c 0 t) (iblk m c 1 t) (iblk m c 2 t) (iblk m c 3 t) (iblk m c 4 t) (iblk m c 5 t) (iblk m c 6 t)

/-- The row of a head at a point is the reference's softmax of the reference's scores. -/
theorem row_at (hpre : Cert.Pre_KernelIdeal_finite_scores m) (c : Dev nD) (t : Fin cfg0.N) (r : Fin 32) (h : Fin 16) (d : Fin 64) :
    leftAt m c t (ix2 r ⟨64 * h.val + d.val, by omega⟩)
      = AttnSpec.soft (scC (Q m c) (Kc m c) (Fc m c) (Fn m c) (seq t) r h) (scN (Q m c) (Kn m c) (Fc m c) (Fn m c) (seq t) r h)
        (fun k => Vc m c (ix5 0 (seq t) k h d)) (fun k => Vn m c (ix5 0 (seq t) k h d)) := by
  obtain ⟨f0, f1, f3, f4, f6⟩ := Cert.Pre_finite_scores.all (hpre c)
  choose q0 hq0 using f0
  choose k1 hk1 using f1
  choose g3 hg3 using f3
  choose k4 hk4 using f4
  choose g6 hg6 using f6
  let b := seq t
  let q : Fin 64 → ℝ := fun x => q0 (ix2 ⟨8192 + (32 * b.val + r.val), by omega⟩ ⟨64 * h.val + x.val, by omega⟩)
  let kc : Fin 1024 → Fin 64 → ℝ := fun k x => k4 (ix5 0 b k h x)
  let kn : Fin 32 → Fin 64 → ℝ := fun k x => k1 (ix5 0 b k h x)
  let F : ℕ → ℝ := fun p => if hp : p < 1024 then g6 (ix4 0 b ⟨p, hp⟩ h) else 0
  let G : ℕ → ℝ := fun p => if hp : p < 32 then g3 (ix3 b ⟨p, hp⟩ h) else 0
  let δ : ℝ := ∑ j ∈ Finset.range (r.val + 1), G j
  have hq : ∀ x : Fin 64, (show FVec Ideal S32x1024 .f32 from iblk m c 0 t) (ix2 r ⟨64 * h.val + x.val, by omega⟩) = (q x : EReal) :=
    fun x => (blk0 m c t r _).trans (hq0 _)
  have hkn : ∀ (k : Fin 32) (x : Fin 64),
      (show FVec Ideal S1x32x1024 .f32 from iblk m c 1 t) (ix3 0 k ⟨64 * h.val + x.val, by omega⟩) = (kn k x : EReal) :=
    fun k x => (blk1 m c t k h x).trans (hk1 _)
  have hkc : ∀ (k : Fin 1024) (x : Fin 64), (show FVec Ideal S1x1x16x64x1024 .f32 from iblk m c 3 t) (ix5 0 0 h x k) = (kc k x : EReal) :=
    fun k x => (blk3 m c t k h x).trans (hk4 _)
  have hF : ∀ p (hp : p < 1024), Fc m c (ix4 0 b ⟨p, hp⟩ h) = (F p : EReal) := fun p hp => by
    show _ = (((if hp : p < 1024 then g6 (ix4 0 b ⟨p, hp⟩ h) else 0 : ℝ)) : EReal)
    rw [dif_pos hp]; exact hg6 _
  have hG : ∀ p (hp : p < 32), Fn m c (ix3 b ⟨p, hp⟩ h) = (G p : EReal) := fun p hp => by
    show _ = (((if hp : p < 32 then g3 (ix3 b ⟨p, hp⟩ h) else 0 : ℝ)) : EReal)
    rw [dif_pos hp]; exact hg3 _
  have hF0 : ∀ p, 1024 ≤ p → F p = 0 := fun p hp => dif_neg (by omega)
  have hG0 : ∀ p, 32 ≤ p → G p = 0 := fun p hp => dif_neg (by omega)
  have hxF : ∀ p, Scan.ext (show FVec Ideal S1x16x1024 .f32 from iblk m c 5 t) h p = (F p : EReal) := fun p => by
    rw [Scan.ext]
    by_cases hp : p < 1024
    · rw [dif_pos hp]; exact (blk5 m c t ⟨p, hp⟩ h).trans (hF p hp)
    · rw [dif_neg hp, hF0 p (by omega)]; rfl
  have hxG : ∀ p, Scan.extn (show FVec Ideal S1x16x128 .f32 from iblk m c 6 t) h p = (G p : EReal) := fun p => by
    rw [Scan.extn]
    by_cases hp : p < 128
    · rw [dif_pos hp]
      refine (blk6 m c t ⟨p, hp⟩ h).trans ?_
      by_cases hp' : p < 32
      · rw [dif_pos hp']; exact hG p hp'
      · rw [dif_neg hp', hG0 p (by omega)]; rfl
    · rw [dif_neg hp, hG0 p (by omega)]; rfl
  have eC : ∀ k : Fin 1024, Head.ksC (iblk m c 0 t) (iblk m c 3 t) (iblk m c 5 t) r h k
      = ((AttnScore.kerC q (kc k) F k.val : ℝ) : EReal) := ksC_real _ _ _ r h q kc F hq hkc hxF
  have eN : ∀ k : Fin 32, k.val ≤ r.val → Head.ksN (iblk m c 0 t) (iblk m c 1 t) (iblk m c 6 t) r h k
      = ((AttnScore.kerN q (kn k) G k.val : ℝ) : EReal) := ksN_real _ _ _ r h q kn G hq hkn hxG
  have eM : ∀ k : Fin 32, ¬ k.val ≤ r.val → Head.ksN (iblk m c 0 t) (iblk m c 1 t) (iblk m c 6 t) r h k = (⊥ : EReal) :=
    fun k hk => if_neg hk
  have rC : (fun k => AttnSpec.chg δ (Head.ksC (iblk m c 0 t) (iblk m c 3 t) (iblk m c 5 t) r h k))
      = scC (Q m c) (Kc m c) (Fc m c) (Fn m c) b r h := funext fun k => by
    rw [eC k, AttnSpec.chg_coe, AttnScore.kerC_eq q (kc k) F G hF0 r.val k.val k.isLt, scC]
    exact (ref_real (Fn m c) (Fc m c) b h q F G _ _ (kc k) (fun x => hq0 _) (fun x => hk4 _) hF hG _ _ (by omega) (by omega)).symm
  have rN : (fun k => AttnSpec.chg δ (Head.ksN (iblk m c 0 t) (iblk m c 1 t) (iblk m c 6 t) r h k))
      = scN (Q m c) (Kn m c) (Fc m c) (Fn m c) b r h := funext fun k => by
    rw [scN]
    by_cases hk : k.val ≤ r.val
    · rw [if_pos hk, eN k hk, AttnSpec.chg_coe, AttnScore.kerN_eq q (kn k) F G r.val k.val (by omega)]
      exact (ref_real (Fn m c) (Fc m c) b h q F G _ _ (kn k) (fun x => hq0 _) (fun x => hk1 _) hF hG _ _ (by omega) (by omega)).symm
    · rw [if_neg hk, eM k hk, AttnSpec.chg_bot]
  rw [leftAt, Head.left_at, AttnSpec.row_eq_soft δ _ _ _ _ (fun k => ⟨_, eC k⟩) (fun k => by
    by_cases hk : k.val ≤ r.val
    · rw [eN k hk]; exact EReal.coe_ne_top _
    · rw [eM k hk]; exact bot_ne_top), rC, rN]
  exact congrArg₂ (AttnSpec.soft _ _) (funext fun k => blk4 m c t k h d) (funext fun k => blk2 m c t k h d)

/-- Where a point's block lies in the result. -/
theorem place (t : Fin cfg0.N) (r : Fin 32) (j : Fin 1024) :
    ((cfg0.win 7).blk t).view.emb (show S32x1024.Idx from ix2 r j) = (show S1024x1024.Idx from ix2 ⟨32 * (seq t).val + r.val, by omega⟩ j) := by
  blk_ext [idx t]

/-- What a point leaves at an index of its block is the reference at the array index it sits at. -/
theorem point (hpre : Cert.Pre_KernelIdeal_finite_scores m) (c : Dev nD) (t : Fin cfg0.N) (y : S32x1024.Idx) (m' : RMem)
    (c' : Dev Cert.ReferenceIdeal.nD)
    (h0 : m' ((c'.tc : Thread Cert.ReferenceIdeal.nD Cert.ReferenceIdeal.τ).loc Cert.ReferenceIdeal.main_arg0) = m ((c.tc : Thread nD τ).loc main_arg0))
    (h1 : m' ((c'.tc : Thread Cert.ReferenceIdeal.nD Cert.ReferenceIdeal.τ).loc Cert.ReferenceIdeal.main_arg1) = m ((c.tc : Thread nD τ).loc main_arg1))
    (h2 : m' ((c'.tc : Thread Cert.ReferenceIdeal.nD Cert.ReferenceIdeal.τ).loc Cert.ReferenceIdeal.main_arg2) = m ((c.tc : Thread nD τ).loc main_arg2))
    (h3 : m' ((c'.tc : Thread Cert.ReferenceIdeal.nD Cert.ReferenceIdeal.τ).loc Cert.ReferenceIdeal.main_arg3) = m ((c.tc : Thread nD τ).loc main_arg3))
    (h4 : m' ((c'.tc : Thread Cert.ReferenceIdeal.nD Cert.ReferenceIdeal.τ).loc Cert.ReferenceIdeal.main_arg4) = m ((c.tc : Thread nD τ).loc main_arg4))
    (h5 : m' ((c'.tc : Thread Cert.ReferenceIdeal.nD Cert.ReferenceIdeal.τ).loc Cert.ReferenceIdeal.main_arg5) = m ((c.tc : Thread nD τ).loc main_arg5))
    (h6 : m' ((c'.tc : Thread Cert.ReferenceIdeal.nD Cert.ReferenceIdeal.τ).loc Cert.ReferenceIdeal.main_arg6) = m ((c.tc : Thread nD τ).loc main_arg6)) :
    leftAt m c t y = Cert.ReferenceIdeal.Value.res_main_v53 m' c' (((cfg0.win 7).blk t).view.emb y) := by
  obtain ⟨r, j, rfl⟩ : ∃ r j, y = ix2 r j := ⟨y 0, y 1, by funext k; fin_cases k <;> rfl⟩
  obtain ⟨h, d, rfl⟩ : ∃ (h : Fin 16) (d : Fin 64), j = ⟨64 * h.val + d.val, by omega⟩ :=
    ⟨⟨j.val / 64, by have := j.isLt; omega⟩, ⟨j.val % 64, by omega⟩, Fin.ext (by show j.val = 64 * (j.val / 64) + j.val % 64; omega)⟩
  rw [row_at m hpre]
  refine Eq.trans ?_ (congrArg (Cert.ReferenceIdeal.Value.res_main_v53 m' c') (place t r ⟨64 * h.val + d.val, by omega⟩)).symm
  refine Eq.trans ?_ (Cert.ReferenceIdeal.Attn.result_at m' c' (seq t) r h d).symm
  rw [h0, h1, h2, h3, h4, h5, h6]

/-- A store of the whole block leaves what was stored. -/
theorem canon_whole (L : FVec Ideal S32x1024 .bf16) :
    View.canon (Val := Elt Ideal) (e := .bf16) [⟨r0_0, L⟩] = L := by
  funext y
  frame_out

/-- The one store of a point covers its block. -/
theorem out_left (x0 : Vec Ideal S32x1024 .f32) (x1 x2 : Vec Ideal S1x32x1024 .f32) (x3 x4 : Vec Ideal S1x1x16x64x1024 .f32)
    (x5 : Vec Ideal S1x16x1024 .f32) (x6 : Vec Ideal S1x16x128 .f32) :
    out0_7 (F := Ideal) x0 x1 x2 x3 x4 x5 x6 = Head.left x0 x1 x2 x3 x4 x5 x6 := by
  rw [Head.out_eq, Head.left]
  exact canon_whole _

/-- The kernel's result array after the run is the reference's term of the same arguments. -/
theorem final (hpre : Cert.Pre_KernelIdeal_finite_scores m) (c : Dev nD) (m' : RMem) (c' : Dev Cert.ReferenceIdeal.nD)
    (h0 : m' ((c'.tc : Thread Cert.ReferenceIdeal.nD Cert.ReferenceIdeal.τ).loc Cert.ReferenceIdeal.main_arg0) = m ((c.tc : Thread nD τ).loc main_arg0))
    (h1 : m' ((c'.tc : Thread Cert.ReferenceIdeal.nD Cert.ReferenceIdeal.τ).loc Cert.ReferenceIdeal.main_arg1) = m ((c.tc : Thread nD τ).loc main_arg1))
    (h2 : m' ((c'.tc : Thread Cert.ReferenceIdeal.nD Cert.ReferenceIdeal.τ).loc Cert.ReferenceIdeal.main_arg2) = m ((c.tc : Thread nD τ).loc main_arg2))
    (h3 : m' ((c'.tc : Thread Cert.ReferenceIdeal.nD Cert.ReferenceIdeal.τ).loc Cert.ReferenceIdeal.main_arg3) = m ((c.tc : Thread nD τ).loc main_arg3))
    (h4 : m' ((c'.tc : Thread Cert.ReferenceIdeal.nD Cert.ReferenceIdeal.τ).loc Cert.ReferenceIdeal.main_arg4) = m ((c.tc : Thread nD τ).loc main_arg4))
    (h5 : m' ((c'.tc : Thread Cert.ReferenceIdeal.nD Cert.ReferenceIdeal.τ).loc Cert.ReferenceIdeal.main_arg5) = m ((c.tc : Thread nD τ).loc main_arg5))
    (h6 : m' ((c'.tc : Thread Cert.ReferenceIdeal.nD Cert.ReferenceIdeal.τ).loc Cert.ReferenceIdeal.main_arg6) = m ((c.tc : Thread nD τ).loc main_arg6)) :
    (dats m 0 c).arrAt 7 (cfgs 0).N = Cert.ReferenceIdeal.Value.res_main_v53 m' c' := by
  refine (dats m 0 c).arrAt_eq_of_covers 7 _ (by decide +kernel) fun t hf y => ?_
  blk_simp; rw [after0_7, out_left]
  exact point m hpre c t y m' c' h0 h1 h2 h3 h4 h5 h6

end Cert.KernelIdeal.Attn

namespace Cert.Proof.AttnValue

/-- The kernel and its reference end with equal results. -/
theorem algebraic : Cert.algebraic_KernelIdeal_ReferenceIdeal_pre_finite_scores := by
  intro m g m' g' hpre hag
  refine ⟨fun c => (Cert.KernelIdeal.Gen.dats m 0 c).arrAt 7 Cert.KernelIdeal.cfg0.N,
    Cert.KernelIdeal.Blocks.run_named m g, ?_⟩
  refine (θ_run Cert.ReferenceIdeal.defs _ _).mono (fun _ h c => ⟨(h c).1.trans ?_, (h c).2⟩)
    (Cert.ReferenceIdeal.Value.run (F := Ideal) m' g')
  obtain ⟨h0, h1, h2, h3, h4, h5, h6⟩ := hag c
  exact (Cert.KernelIdeal.Attn.final m hpre c m' c h0 h1 h2 h3 h4 h5 h6).symm

end Cert.Proof.AttnValue

end
-- ==== Proof.FfnSpec.lean ====
/-
  The gated feed-forward block as plain mathematics over the extended reals, one row at a time, and the sums the
  kernel's tiles of the hidden axis add up to. No program is mentioned here.
-/
module

public import Idealize.ShloMosaic.PureOps.Ideal
public import Mathlib.Algebra.BigOperators.Fin

@[expose] public section

noncomputable section

open Idealize.ShloMosaic

namespace FfnSpec

/-- A row scaled by the reciprocal of its root mean square over 2048 entries, and by a gain. -/
def rms (x g : Fin 2048 → EReal) (k : Fin 2048) : EReal :=
  x k * Ideal.rsqrt (Ideal.div (∑ i, x i * x i) (Ideal.ofBits .f32 0x45000000#32) + Ideal.ofBits .f32 0x358637BD#32) * g k

/-- One hidden unit: the gate's product through its own logistic, times the other product. -/
def unit (n wg wu : Fin 2048 → EReal) : EReal :=
  (∑ k, n k * wg k) * Ideal.logistic (∑ k, n k * wg k) * ∑ k, n k * wu k

/-- One entry of the block's result. -/
def out (x gpre gpost : Fin 2048 → EReal) (wg wu : Fin 2048 → Fin 5504 → EReal) (wd : Fin 5504 → Fin 2048 → EReal)
    (j : Fin 2048) : EReal :=
  x j + Ideal.ofBits .f32 0x3F000000#32 *
    rms (fun j => ∑ l, unit (rms x gpre) (fun k => wg k l) (fun k => wu k l) * wd l j) gpost j

/-- A hidden unit both of whose columns are zero is zero, whatever the row holds. -/
theorem unit_zero (n : Fin 2048 → EReal) : unit n (fun _ => 0) (fun _ => 0) = 0 := by
  simp [unit]

/-- Eleven tiles of 512 add up to the 5504 entries when everything past them is zero. -/
theorem sum_tiles (f : ℕ → EReal) (hf : ∀ l, 5504 ≤ l → f l = 0) :
    ∑ s ∈ Finset.range 11, ∑ l : Fin 512, f (512 * s + l) = ∑ l : Fin 5504, f l := by
  have h1 : ∀ n : ℕ, ∑ s ∈ Finset.range n, ∑ l : Fin 512, f (512 * s + l) = ∑ l ∈ Finset.range (512 * n), f l := by
    intro n
    induction n with
    | zero => simp
    | succ n ih =>
      rw [Finset.sum_range_succ, ih, Nat.mul_succ, Finset.sum_range_add,
        ← Fin.sum_univ_eq_sum_range (fun l => f (512 * n + l)) 512]
  rw [h1 11, show 512 * 11 = 5504 + 128 from rfl, Finset.sum_range_add,
    Finset.sum_eq_zero (s := Finset.range 128) fun l _ => hf _ (by omega), add_zero, Finset.sum_range]

end FfnSpec

end
-- ==== Proof.FfnLastRun.lean ====
/-
  The body of the last half step's call, run at one grid point: what it leaves in the two results' blocks and in the two
  scratches (the normalised rows, and the sum over the hidden columns so far), as a function of what it found there and
  of the point's input blocks.
-/
module

public import proofs.«01_k».proof.Proof.Gen.FfnLastIdeal.Frame
public import proofs.«01_k».proof.Proof.Gen.FfnLastIdeal.Skeleton
public import Idealize.ShloMosaic.Lib.VecWindow

@[expose] public section

set_option maxRecDepth 16384

noncomputable section

namespace Cert.FfnLastIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FfnLastIdeal.Gen

variable {F : FTy → Type} [FloatOps F]

local notation "𝕄" => MT nD τ sig Unit (Elt F) ℕ (UR sig nD τ) ℕ

/-- Whether the point is the first of its row block, as the body computes it. -/
abbrev first (i : grid0.Coords) : BitVec 1 :=
  Scalar.cmpi .ne (Scalar.extui (Scalar.cmpi .eq (BitVec.ofNat 32 (i 1).val) 0#32) : BitVec 32) 0#32

/-- The normalised rows after the point. -/
def stepX (i : grid0.Coords) (x0 : Vec F S512x2048 .f32) (x1 : Vec F S1x2048 .f32) (xs : Vec F S512x2048 .bf16) : Vec F S512x2048 .bf16 :=
  if first i = 1#1 then k0_pay2 x0 x1 else xs
/-- The running sum after the point. -/
def stepA (i : grid0.Coords) (xs : Vec F S512x2048 .bf16) (x3 x4 : Vec F S2048x512 .bf16) (x5 : Vec F S512x2048 .bf16) (a : Vec F S512x2048 .f32) : Vec F S512x2048 .f32 :=
  k0_pay4 xs x3 x4 (if first i = 1#1 then k0_pay3 else a) x5
/-- The prompt rows' block after the point. -/
def step6 (i : grid0.Coords) (x0 a : Vec F S512x2048 .f32) (x2 : Vec F S1x2048 .f32) (y : Vec F S512x2048 .f32) : Vec F S512x2048 .f32 :=
  if k0_cond2 i = 1#1 then k0_pay5 x0 a x2 else y
/-- The sample rows' block after the point. -/
def step7 (i : grid0.Coords) (x0 a : Vec F S512x2048 .f32) (x2 : Vec F S1x2048 .f32) (y : Vec F S512x2048 .f32) : Vec F S512x2048 .f32 :=
  if k0_cond3 i = 1#1 then k0_pay1 x0 a x2 else y

/-- One point of the body, on whole staging buffers: from any contents of the results and the scratches to the point's. -/
def Runs (i : grid0.Coords) : Prop :=
  ∀ (c : Dev nD) (E : Set ℕ)
    (arg2 : Memref sig .tc .vmem S512x2048 .f32) (harg2 : arg2.IsWhole)
    (arg3 : Memref sig .tc .vmem S1x2048 .f32) (harg3 : arg3.IsWhole)
    (arg4 : Memref sig .tc .vmem S1x2048 .f32) (harg4 : arg4.IsWhole)
    (arg5 : Memref sig .tc .vmem S2048x512 .bf16) (harg5 : arg5.IsWhole)
    (arg6 : Memref sig .tc .vmem S2048x512 .bf16) (harg6 : arg6.IsWhole)
    (arg7 : Memref sig .tc .vmem S512x2048 .bf16) (harg7 : arg7.IsWhole)
    (arg8 : Memref sig .tc .vmem S512x2048 .f32) (harg8 : arg8.IsWhole)
    (arg9 : Memref sig .tc .vmem S512x2048 .f32) (harg9 : arg9.IsWhole)
    (arg10 : Memref sig .tc .vmem S512x2048 .bf16) (harg10 : arg10.IsWhole)
    (arg11 : Memref sig .tc .vmem S512x2048 .f32) (harg11 : arg11.IsWhole)
    (x0 : Vec F S512x2048 .f32)
    (x1 : Vec F S1x2048 .f32)
    (x2 : Vec F S1x2048 .f32)
    (x3 : Vec F S2048x512 .bf16)
    (x4 : Vec F S2048x512 .bf16)
    (x5 : Vec F S512x2048 .bf16)
    (y6 y7 : Vec F S512x2048 .f32) (xs : Vec F S512x2048 .bf16) (a : Vec F S512x2048 .f32) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
      ∗ owns (c : Thread nD τ) arg8 fullShare y6 ∗ owns (c : Thread nD τ) arg9 fullShare y7 ∗ owns (c : Thread nD τ) arg10 fullShare xs ∗ owns (c : Thread nD τ) arg11 fullShare a
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare (step6 i x0 (stepA i (stepX i x0 x1 xs) x3 x4 x5 a) x2 y6) ∗ owns (c : Thread nD τ) arg9 fullShare (step7 i x0 (stepA i (stepX i x0 x1 xs) x3 x4 x5 a) x2 y7)
        ∗ owns (c : Thread nD τ) arg10 fullShare (stepX i x0 x1 xs) ∗ owns (c : Thread nD τ) arg11 fullShare (stepA i (stepX i x0 x1 xs) x3 x4 x5 a)) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11) K

set_option maxHeartbeats 1600000 in
/-- The body at a point the first of its row block. -/
theorem start (i : grid0.Coords) (h1 : first i = 1#1) (h2 : ¬k0_cond2 i = 1#1) (h3 : ¬k0_cond3 i = 1#1) : Runs (F := F) i := by
  intro c E arg2 harg2 arg3 harg3 arg4 harg4 arg5 harg5 arg6 harg6 arg7 harg7 arg8 harg8 arg9 harg9 arg10 harg10 arg11 harg11 x0 x1 x2 x3 x4 x5 y6 y7 xs a K
  simp only [stepX, stepA, step6, step7, h1, h2, h3, if_true, if_false]
  simp only [cc0_ffn_eq_skeleton]; unfold cc0_ffn_skel; simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
  sl_exec (disch := first | sl_exact h1 | sl_exact h2 | sl_exact h3)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; refine (View.read_writes_full _ _ _ _ _).trans ?_
    rw [View.readAt_full, View.readAt_full, harg2.read_unread, harg3.read_unread]
  iexists _; isplitr; swap; · iexact H11
  ipureintro; refine (View.read_writes_full _ _ _ _ _).trans ?_
  have e10 : start.sl.v5 c arg2 harg2 arg3 harg3 arg10 x0 x1 = k0_pay2 x0 x1 := by
    unfold start.sl.v5
    exact (View.readCov_full _ _ _ _ _).trans (congrArg₂ k0_pay2 ((View.readAt_full _ _ _).trans (harg2.read_unread _)) ((View.readAt_full _ _ _).trans (harg3.read_unread _)))
  have e11 : start.sl.v16 (F := F) c arg11 = k0_pay3 := by
    unfold start.sl.v16
    exact View.readCov_full _ _ _ _ _
  rw [e10, e11, View.readAt_full, View.readAt_full, View.readAt_full, harg5.read_unread, harg6.read_unread, harg7.read_unread]

set_option maxHeartbeats 1600000 in
/-- The body at a point inside its row block. -/
theorem middle (i : grid0.Coords) (h1 : ¬first i = 1#1) (h2 : ¬k0_cond2 i = 1#1) (h3 : ¬k0_cond3 i = 1#1) : Runs (F := F) i := by
  intro c E arg2 harg2 arg3 harg3 arg4 harg4 arg5 harg5 arg6 harg6 arg7 harg7 arg8 harg8 arg9 harg9 arg10 harg10 arg11 harg11 x0 x1 x2 x3 x4 x5 y6 y7 xs a K
  simp only [stepX, stepA, step6, step7, h1, h2, h3, if_true, if_false]
  simp only [cc0_ffn_eq_skeleton]; unfold cc0_ffn_skel; simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
  sl_exec (disch := first | sl_exact h1 | sl_exact h2 | sl_exact h3)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  iexists _; isplitr; swap; · iexact H11
  ipureintro; refine (View.read_writes_full _ _ _ _ _).trans ?_
  rw [View.readAt_full, View.readAt_full, View.readAt_full, View.readAt_full, View.readAt_full, harg10.read_unread, harg5.read_unread, harg6.read_unread, harg11.read_unread, harg7.read_unread]

set_option maxHeartbeats 1600000 in
/-- The body at a point the last of a row block of the prompt. -/
theorem endPrompt (i : grid0.Coords) (h1 : ¬first i = 1#1) (h2 : k0_cond2 i = 1#1) (h3 : ¬k0_cond3 i = 1#1) : Runs (F := F) i := by
  intro c E arg2 harg2 arg3 harg3 arg4 harg4 arg5 harg5 arg6 harg6 arg7 harg7 arg8 harg8 arg9 harg9 arg10 harg10 arg11 harg11 x0 x1 x2 x3 x4 x5 y6 y7 xs a K
  simp only [stepX, stepA, step6, step7, h1, h2, h3, if_true, if_false]
  simp only [cc0_ffn_eq_skeleton]; unfold cc0_ffn_skel; simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
  sl_exec (disch := first | sl_exact h1 | sl_exact h2 | sl_exact h3)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; refine (View.read_writes_full _ _ _ _ _).trans ?_
    have e11 : endPrompt.sl.v33 c arg5 harg5 arg6 harg6 arg7 harg7 arg10 harg10 arg11 harg11 x3 x4 x5 xs a = k0_pay4 xs x3 x4 a x5 := by
      unfold endPrompt.sl.v33
      refine (View.readCov_full _ _ _ _ _).trans ?_
      rw [View.readAt_full, View.readAt_full, View.readAt_full, View.readAt_full, View.readAt_full, harg10.read_unread, harg5.read_unread, harg6.read_unread, harg11.read_unread, harg7.read_unread]
    rw [e11]
    refine congrArg₂ (fun p q => k0_pay5 p (k0_pay4 xs x3 x4 a x5) q) ?_ ?_
    · exact (View.readAt_full _ _ _).trans (harg2.read_unread _)
    · exact (View.readAt_full _ _ _).trans (harg4.read_unread _)
  isplitl [H9]
  · iexists _; isplitr; swap; · iexact H9
    ipureintro; exact harg9.read_unread _
  isplitl [H10]
  · iexists _; isplitr; swap; · iexact H10
    ipureintro; exact harg10.read_unread _
  iexists _; isplitr; swap; · iexact H11
  ipureintro; refine (View.read_writes_full _ _ _ _ _).trans ?_
  rw [View.readAt_full, View.readAt_full, View.readAt_full, View.readAt_full, View.readAt_full, harg10.read_unread, harg5.read_unread, harg6.read_unread, harg11.read_unread, harg7.read_unread]

set_option maxHeartbeats 1600000 in
/-- The body at a point the last of a row block of a sample. -/
theorem endSample (i : grid0.Coords) (h1 : ¬first i = 1#1) (h2 : ¬k0_cond2 i = 1#1) (h3 : k0_cond3 i = 1#1) : Runs (F := F) i := by
  intro c E arg2 harg2 arg3 harg3 arg4 harg4 arg5 harg5 arg6 harg6 arg7 harg7 arg8 harg8 arg9 harg9 arg10 harg10 arg11 harg11 x0 x1 x2 x3 x4 x5 y6 y7 xs a K
  simp only [stepX, stepA, step6, step7, h1, h2, h3, if_true, if_false]
  simp only [cc0_ffn_eq_skeleton]; unfold cc0_ffn_skel; simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
  sl_exec (disch := first | sl_exact h1 | sl_exact h2 | sl_exact h3)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; refine (View.read_writes_full _ _ _ _ _).trans ?_
    have e11 : endSample.sl.v33 c arg5 harg5 arg6 harg6 arg7 harg7 arg10 harg10 arg11 harg11 x3 x4 x5 xs a = k0_pay4 xs x3 x4 a x5 := by
      unfold endSample.sl.v33
      refine (View.readCov_full _ _ _ _ _).trans ?_
      rw [View.readAt_full, View.readAt_full, View.readAt_full, View.readAt_full, View.readAt_full, harg10.read_unread, harg5.read_unread, harg6.read_unread, harg11.read_unread, harg7.read_unread]
    rw [e11]
    refine congrArg₂ (fun p q => k0_pay1 p (k0_pay4 xs x3 x4 a x5) q) ?_ ?_
    · exact (View.readAt_full _ _ _).trans (harg2.read_unread _)
    · exact (View.readAt_full _ _ _).trans (harg4.read_unread _)
  isplitl [H10]
  · iexists _; isplitr; swap; · iexact H10
    ipureintro; exact harg10.read_unread _
  iexists _; isplitr; swap; · iexact H11
  ipureintro; refine (View.read_writes_full _ _ _ _ _).trans ?_
  rw [View.readAt_full, View.readAt_full, View.readAt_full, View.readAt_full, View.readAt_full, harg10.read_unread, harg5.read_unread, harg6.read_unread, harg11.read_unread, harg7.read_unread]

end Cert.FfnLastIdeal.Body

end
-- ==== Proof.FfnLastFrame.lean ====
/-
  The last half step's pipeline: what each of its points does to every block, as a relation between what the point
  finds and what it leaves, and the run of the whole program from that: every array at contents those relations allow,
  every other buffer as the call finds it, and every semaphore's counter at zero.
-/
module

public import proofs.«01_k».proof.Proof.FfnLastRun
public import Idealize.ShloMosaic.Lib.Pipeline.FrameBody
public import Idealize.ShloMosaic.Lib.Pipeline.ArrRel

@[expose] public section

set_option maxRecDepth 16384

noncomputable section

namespace Cert.FfnLastIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.FfnLastIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem points (t : Fin cfg0.N) : t.val < 198 := Nat.lt_of_lt_of_eq t.isLt N_0

/-- The first point of the row block that `t` is in. -/
abbrev row (t : Fin cfg0.N) : Fin cfg0.N := ⟨t.val / 11 * 11, Nat.lt_of_le_of_lt (Nat.div_mul_le_self _ _) t.isLt⟩

/-- The normalised rows of the row block that `t` is in. -/
abbrev xn (c : Dev nD) (t : Fin cfg0.N) : Vec F S512x2048 .bf16 := k0_pay2 (iblk m c 0 (row t)) (iblk m c 1 (row t))

theorem row_eq {t : Fin cfg0.N} (h : t.val % 11 = 0) : row t = t := Fin.ext (show t.val / 11 * 11 = t.val by omega)

theorem row_prev {t u : Fin cfg0.N} (h : u.val + 1 = t.val) (ht : ¬t.val % 11 = 0) : row u = row t :=
  Fin.ext (show u.val / 11 * 11 = t.val / 11 * 11 by omega)

theorem xn_prev (c : Dev nD) {t u : Fin cfg0.N} (h : u.val + 1 = t.val) (ht : ¬t.val % 11 = 0) : xn m c u = xn m c t := by
  unfold xn; rw [row_prev h ht]

/-- The point `s` after `r`, the last one at most. -/
def later (r : Fin cfg0.N) (s : ℕ) : Fin cfg0.N := ⟨min (r.val + s) 197, by have := N_0; show min (r.val + s) 197 < grid0.N; omega⟩

theorem later_row (t : Fin cfg0.N) : later (row t) (t.val % 11) = t := by
  have := points t
  exact Fin.ext (show min (t.val / 11 * 11 + t.val % 11) 197 = t.val by omega)

/-- The running sum `s` points after the first point of a row block. -/
def accFrom (c : Dev nD) (r : Fin cfg0.N) : ℕ → Vec F S512x2048 .f32
  | 0 => k0_pay4 (xn m c r) (iblk m c 3 r) (iblk m c 4 r) k0_pay3 (iblk m c 5 r)
  | s + 1 => k0_pay4 (xn m c r) (iblk m c 3 (later r (s + 1))) (iblk m c 4 (later r (s + 1))) (accFrom c r s) (iblk m c 5 (later r (s + 1)))

/-- The running sum after the point. -/
def acc (c : Dev nD) (t : Fin cfg0.N) : Vec F S512x2048 .f32 := accFrom m c (row t) (t.val % 11)

theorem acc_first (c : Dev nD) (t : Fin cfg0.N) (h : t.val % 11 = 0) :
    acc m c t = k0_pay4 (xn m c t) (iblk m c 3 t) (iblk m c 4 t) k0_pay3 (iblk m c 5 t) := by
  unfold acc
  rw [h, row_eq h]
  rfl

theorem xn_row (c : Dev nD) (t : Fin cfg0.N) : xn m c (row t) = xn m c t := by
  have e : row (row t) = row t := row_eq (show t.val / 11 * 11 % 11 = 0 by omega)
  unfold xn; rw [e]

theorem acc_next (c : Dev nD) (u t : Fin cfg0.N) (hu : u.val + 1 = t.val) (h : ¬t.val % 11 = 0) :
    acc m c t = k0_pay4 (xn m c t) (iblk m c 3 t) (iblk m c 4 t) (acc m c u) (iblk m c 5 t) := by
  have hl := later_row t
  unfold acc
  rw [row_prev hu h, show t.val % 11 = u.val % 11 + 1 by omega] at *
  show k0_pay4 (xn m c (row t)) _ _ _ _ = _
  rw [xn_row, hl]

/-! ## Which branches a point takes -/

theorem branch1 (t : Fin cfg0.N) : first (grid0.coords t) = 1#1 ↔ t.val % 11 = 0 := by
  have ht : t.val < 198 := points t
  have e0 : (grid0.coords t 0).val = t.val / 11 % 18 := Pipeline.Grid.coords_val t 0 (by decide) rfl
  have e1 : (grid0.coords t 1).val = t.val / 1 % 11 := Pipeline.Grid.coords_val t 1 (by decide) rfl
  simp only [first, e0, e1]
  word_cmp

theorem branch2 (t : Fin cfg0.N) : k0_cond2 (grid0.coords t) = 1#1 ↔ (t.val % 11 = 10 ∧ t.val < 176) := by
  have ht : t.val < 198 := points t
  have e0 : (grid0.coords t 0).val = t.val / 11 % 18 := Pipeline.Grid.coords_val t 0 (by decide) rfl
  have e1 : (grid0.coords t 1).val = t.val / 1 % 11 := Pipeline.Grid.coords_val t 1 (by decide) rfl
  simp only [k0_cond2, e0, e1]
  word_cmp

theorem branch3 (t : Fin cfg0.N) : k0_cond3 (grid0.coords t) = 1#1 ↔ (t.val % 11 = 10 ∧ 176 ≤ t.val) := by
  have ht : t.val < 198 := points t
  have e0 : (grid0.coords t 0).val = t.val / 11 % 18 := Pipeline.Grid.coords_val t 0 (by decide) rfl
  have e1 : (grid0.coords t 1).val = t.val / 1 % 11 := Pipeline.Grid.coords_val t 1 (by decide) rfl
  simp only [k0_cond3, e0, e1]
  word_cmp

theorem runs (t : Fin cfg0.N) : Runs (F := F) (grid0.coords t) := by
  have ht : t.val < 198 := points t
  have hb : t.val % 11 = 0 ∨ (t.val % 11 ≠ 0 ∧ t.val % 11 ≠ 10) ∨ (t.val % 11 = 10 ∧ t.val < 176) ∨ (t.val % 11 = 10 ∧ 176 ≤ t.val) := by omega
  rcases hb with h | h | h | h
  · exact start (grid0.coords t) ((branch1 t).mpr (by omega)) (fun e => absurd ((branch2 t).mp e) (by omega)) (fun e => absurd ((branch3 t).mp e) (by omega))
  · exact middle (grid0.coords t) (fun e => absurd ((branch1 t).mp e) (by omega)) (fun e => absurd ((branch2 t).mp e) (by omega)) (fun e => absurd ((branch3 t).mp e) (by omega))
  · exact endPrompt (grid0.coords t) (fun e => absurd ((branch1 t).mp e) (by omega)) ((branch2 t).mpr (by omega)) (fun e => absurd ((branch3 t).mp e) (by omega))
  · exact endSample (grid0.coords t) (fun e => absurd ((branch1 t).mp e) (by omega)) (fun e => absurd ((branch2 t).mp e) (by omega)) ((branch3 t).mpr (by omega))

theorem stepX_eq (c : Dev nD) (t : Fin cfg0.N) (xs : Vec F S512x2048 .bf16) (h : ¬t.val % 11 = 0 → xs = xn m c t) :
    stepX (grid0.coords t) (iblk m c 0 t) (iblk m c 1 t) xs = xn m c t := by
  unfold stepX
  by_cases e : t.val % 11 = 0
  · rw [if_pos ((branch1 t).mpr e), xn, row_eq e]
  · rw [if_neg (fun e' => e ((branch1 t).mp e')), h e]

theorem stepA_eq (c : Dev nD) (t : Fin cfg0.N) (a : Vec F S512x2048 .f32)
    (h : ∀ u : Fin cfg0.N, u.val + 1 = t.val → a = acc m c u) :
    stepA (grid0.coords t) (xn m c t) (iblk m c 3 t) (iblk m c 4 t) (iblk m c 5 t) a = acc m c t := by
  unfold stepA
  by_cases e : t.val % 11 = 0
  · rw [if_pos ((branch1 t).mpr e), acc_first m c t e]
  · have hlt : t.val - 1 < cfg0.N := Nat.lt_of_le_of_lt (Nat.sub_le _ _) t.isLt
    have hu : (⟨t.val - 1, hlt⟩ : Fin cfg0.N).val + 1 = t.val := by
      show t.val - 1 + 1 = t.val
      have : t.val ≠ 0 := fun e0 => e (by rw [e0])
      omega
    rw [if_neg (fun e' => e ((branch1 t).mp e')), h _ hu, acc_next m c _ t hu e]

/-! ## The pipeline's proof data -/

/-- The scratch of normalised rows. -/
def rowsBuf : Memref sig .tc .vmem S512x2048 .bf16 := Memref.whole cc0_scratch0
/-- The scratch of the running sum. -/
def sumBuf : Memref sig .tc .vmem S512x2048 .f32 := Memref.whole cc0_scratch1

/-- Between points the scratches hold the normalised rows and the running sum of the point before. -/
def Inv (c : Dev nD) (n : Fin (cfg0.N + 1)) : sProp 𝕄 :=
  iprop(∃ d a, ⌜∀ t : Fin cfg0.N, t.val + 1 = n.val → d = xn m c t ∧ a = acc m c t⌝ ∗ owns (c : Thread nD τ) rowsBuf fullShare d
    ∗ owns (c : Thread nD τ) sumBuf fullShare a ∗ ∃ r, prngReg c r)

/-- How a point changes each block. -/
def leaves (c : Dev nD) : (w : Fin cfg0.W) → (t : Fin cfg0.N) → (Y X : (cfg0.win w).block.Idx → Elt F (cfg0.win w).elt) → Prop
  | ⟨0, _⟩ => fun t Y X => X = Y
  | ⟨1, _⟩ => fun t Y X => X = Y
  | ⟨2, _⟩ => fun t Y X => X = Y
  | ⟨3, _⟩ => fun t Y X => X = Y
  | ⟨4, _⟩ => fun t Y X => X = Y
  | ⟨5, _⟩ => fun t Y X => X = Y
  | ⟨6, _⟩ => fun t Y X => X = step6 (grid0.coords t) (iblk m c 0 t) (acc m c t) (iblk m c 2 t) Y
  | ⟨7, _⟩ => fun t Y X => X = step7 (grid0.coords t) (iblk m c 0 t) (acc m c t) (iblk m c 2 t) Y
  | ⟨_ + 8, h⟩ => absurd h (Nat.not_lt_of_le (Nat.le_add_left 8 _))

/-- The relational proof data of the call. -/
def data (c : Dev nD) : RDat τ (Elt F) Unit ℕ (UR sig nD τ) ℕ cfg0 c where
  A w := V m c (Pipeline.arrRef spec0 w)
  after := leaves m c
  Φ := Inv m c
  q _ := fullShare
  owed _ := 0

theorem found0 (c : Dev nD) (t : Fin cfg0.N) (Y) (h : (data m c).Finds 0 t Y) : Y = iblk m c 0 t := by
  obtain ⟨d, hd⟩ := RDat.finds_in_eq_fetched (data m c) 0 rfl (fun _ _ _ => rfl) (fun t Y X h => h) t Y h
  rw [hd]; unfold RDat.fetched RDat.blockOf iblk; rfl

theorem found1 (c : Dev nD) (t : Fin cfg0.N) (Y) (h : (data m c).Finds 1 t Y) : Y = iblk m c 1 t := by
  obtain ⟨d, hd⟩ := RDat.finds_in_eq_fetched (data m c) 1 rfl (fun _ _ _ => rfl) (fun t Y X h => h) t Y h
  rw [hd]; unfold RDat.fetched RDat.blockOf iblk; rfl

theorem found2 (c : Dev nD) (t : Fin cfg0.N) (Y) (h : (data m c).Finds 2 t Y) : Y = iblk m c 2 t := by
  obtain ⟨d, hd⟩ := RDat.finds_in_eq_fetched (data m c) 2 rfl (fun _ _ _ => rfl) (fun t Y X h => h) t Y h
  rw [hd]; unfold RDat.fetched RDat.blockOf iblk; rfl

theorem found3 (c : Dev nD) (t : Fin cfg0.N) (Y) (h : (data m c).Finds 3 t Y) : Y = iblk m c 3 t := by
  obtain ⟨d, hd⟩ := RDat.finds_in_eq_fetched (data m c) 3 rfl (fun _ _ _ => rfl) (fun t Y X h => h) t Y h
  rw [hd]; unfold RDat.fetched RDat.blockOf iblk; rfl

theorem found4 (c : Dev nD) (t : Fin cfg0.N) (Y) (h : (data m c).Finds 4 t Y) : Y = iblk m c 4 t := by
  obtain ⟨d, hd⟩ := RDat.finds_in_eq_fetched (data m c) 4 rfl (fun _ _ _ => rfl) (fun t Y X h => h) t Y h
  rw [hd]; unfold RDat.fetched RDat.blockOf iblk; rfl

theorem found5 (c : Dev nD) (t : Fin cfg0.N) (Y) (h : (data m c).Finds 5 t Y) : Y = iblk m c 5 t := by
  obtain ⟨d, hd⟩ := RDat.finds_in_eq_fetched (data m c) 5 rfl (fun _ _ _ => rfl) (fun t Y X h => h) t Y h
  rw [hd]; unfold RDat.fetched RDat.blockOf iblk; rfl

set_option maxHeartbeats 3200000 in
/-- The body at a point, from what it finds in the staging buffers. -/
theorem sound (c : Dev nD) (t : Fin cfg0.N) (Y : (w : Fin cfg0.W) → (cfg0.win w).block.Idx → Elt F (cfg0.win w).elt)
    (hY : ∀ w, (data m c).Finds w t (Y w)) :
    iprop((data m c).Φ t.castSucc ∗ (data m c).owesAt () t.castSucc ∗ owns (c : Thread nD τ) (win0_0.stage (cfg0.slots t 0)) fullShare (Y 0) ∗ owns (c : Thread nD τ) (win0_1.stage (cfg0.slots t 1)) fullShare (Y 1) ∗ owns (c : Thread nD τ) (win0_2.stage (cfg0.slots t 2)) fullShare (Y 2) ∗ owns (c : Thread nD τ) (win0_3.stage (cfg0.slots t 3)) fullShare (Y 3) ∗ owns (c : Thread nD τ) (win0_4.stage (cfg0.slots t 4)) fullShare (Y 4) ∗ owns (c : Thread nD τ) (win0_5.stage (cfg0.slots t 5)) fullShare (Y 5) ∗ owns (c : Thread nD τ) (win0_6.stage (cfg0.slots t 6)) fullShare (Y 6) ∗ owns (c : Thread nD τ) (win0_7.stage (cfg0.slots t 7)) fullShare (Y 7))
      ⊢ wp frame (wpE (defs₀ (F := F)) Variants.none c none) Set.univ (bodyAt0 t) (fun _ =>
        iprop((data m c).Φ t.succ ∗ (data m c).owesAt () t.succ ∗ (∃ X, ⌜(data m c).after 0 t (Y 0) X⌝ ∗ owns (c : Thread nD τ) (win0_0.stage (cfg0.slots t 0)) fullShare X) ∗ (∃ X, ⌜(data m c).after 1 t (Y 1) X⌝ ∗ owns (c : Thread nD τ) (win0_1.stage (cfg0.slots t 1)) fullShare X) ∗ (∃ X, ⌜(data m c).after 2 t (Y 2) X⌝ ∗ owns (c : Thread nD τ) (win0_2.stage (cfg0.slots t 2)) fullShare X) ∗ (∃ X, ⌜(data m c).after 3 t (Y 3) X⌝ ∗ owns (c : Thread nD τ) (win0_3.stage (cfg0.slots t 3)) fullShare X) ∗ (∃ X, ⌜(data m c).after 4 t (Y 4) X⌝ ∗ owns (c : Thread nD τ) (win0_4.stage (cfg0.slots t 4)) fullShare X) ∗ (∃ X, ⌜(data m c).after 5 t (Y 5) X⌝ ∗ owns (c : Thread nD τ) (win0_5.stage (cfg0.slots t 5)) fullShare X) ∗ (∃ X, ⌜(data m c).after 6 t (Y 6) X⌝ ∗ owns (c : Thread nD τ) (win0_6.stage (cfg0.slots t 6)) fullShare X) ∗ (∃ X, ⌜(data m c).after 7 t (Y 7) X⌝ ∗ owns (c : Thread nD τ) (win0_7.stage (cfg0.slots t 7)) fullShare X))) := by
  have e0 : Y 0 = iblk m c 0 t := found0 m c t _ (hY 0)
  have e1 : Y 1 = iblk m c 1 t := found1 m c t _ (hY 1)
  have e2 : Y 2 = iblk m c 2 t := found2 m c t _ (hY 2)
  have e3 : Y 3 = iblk m c 3 t := found3 m c t _ (hY 3)
  have e4 : Y 4 = iblk m c 4 t := found4 m c t _ (hY 4)
  have e5 : Y 5 = iblk m c 5 t := found5 m c t _ (hY 5)
  rw [show (data m c).owesAt () t.succ = (data m c).owesAt () t.castSucc from rfl,
    show (data m c).Φ t.succ = Inv m c t.succ from rfl, show (data m c).Φ t.castSucc = Inv m c t.castSucc from rfl]
  unfold Inv
  iintro ⟨⟨%d, %a, %hd, HS, HA, Hg⟩, Ho, H0, H1, H2, H3, H4, H5, H6, H7⟩
  have hS := stepX_eq m c t d (fun h => by
    have h' : t.val ≠ 0 := fun e => h (by rw [e])
    have hlt : t.val - 1 < cfg0.N := Nat.lt_of_le_of_lt (Nat.sub_le _ _) t.isLt
    rw [(hd ⟨t.val - 1, hlt⟩ (show t.val - 1 + 1 = t.val by omega)).1]
    exact xn_prev m c (u := ⟨t.val - 1, hlt⟩) (show t.val - 1 + 1 = t.val by omega) h)
  have hA := stepA_eq m c t a (fun u hu => (hd u hu).2)
  iapply (runs t c Set.univ (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) rowsBuf (Memref.isWhole_whole _) sumBuf (Memref.isWhole_whole _) (Y 0) (Y 1) (Y 2) (Y 3) (Y 4) (Y 5) (Y 6) (Y 7) d a _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  isplitl [HA]; · iexact HA
  rw [e0, e1, e2, e3, e4, e5, hS, hA]
  iintro ⟨H0, H1, H2, H3, H4, H5, H6, H7, HS, HA⟩
  isplitl [HS HA Hg]
  · iexists (xn m c t), (acc m c t); isplitr
    · ipureintro; intro u hu
      have eu : u = t := Fin.ext (by simpa using hu)
      rw [eu]; exact ⟨rfl, rfl⟩
    isplitl [HS]; · iexact HS
    isplitl [HA]; · iexact HA
    iexact Hg
  isplitl [Ho]; · iexact Ho
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  iexists _; isplitr; swap; · iexact H7
  ipureintro; exact rfl

theorem body_row (t : Fin cfg0.N) :
    defs₀ (F := F) .tc cfg0.body (cfg0.bodyArgs t (cfg0.slots t)) = bodyAt0 t := by
  unfold defs₀; rw [Defs.onTc_tc]

theorem obligation (c : Dev nD) : (data (F := F) m c).BodyObligation (defs₀ (F := F)) Variants.none () Set.univ := fun t Y hY => by
  rw [bigSep_W0, bigSep_W0, body_row]
  exact sound m c t Y hY

theorem around_eq (c : Dev nD) :
    (Pipeline.ΦA spec0 c : sProp 𝕄)
      = iprop(iprop((∃ d, owns (c : Thread nD τ) rowsBuf fullShare d) ∗ (∃ d, owns (c : Thread nD τ) sumBuf fullShare d)) ∗ (∃ r, prngReg c r)) := by
  unfold Pipeline.ΦA; rw [scopedRest0_eq]; simp only [rowsBuf, sumBuf, owns_whole]; try rfl

theorem inv_in (c : Dev nD) : (Pipeline.ΦA spec0 c : sProp 𝕄) ⊢ (data m c).Φ 0 := by
  rw [around_eq, show (data m c).Φ 0 = Inv m c 0 from rfl]; unfold Inv
  iintro ⟨⟨⟨%d, HS⟩, ⟨%a, HA⟩⟩, Hg⟩
  iexists d, a; isplitr
  · ipureintro; intro t h; exact absurd h (Nat.succ_ne_zero _)
  isplitl [HS]; · iexact HS
  isplitl [HA]; · iexact HA
  iexact Hg

theorem inv_out (c : Dev nD) : (data m c).Φ (Fin.last cfg0.N) ⊢ (Pipeline.ΦA spec0 c : sProp 𝕄) := by
  rw [around_eq, show (data m c).Φ (Fin.last cfg0.N) = Inv m c (Fin.last cfg0.N) from rfl]; unfold Inv
  iintro ⟨%d, %a, -, HS, HA, Hg⟩
  isplitl [HS HA]
  · isplitl [HS]
    · iexists d; iexact HS
    iexists a; iexact HA
  iexact Hg

/-! ## The run of the program -/

/-- The whole program runs: every array ends at contents the relations allow, every other buffer as the call finds it,
    and every semaphore's counter at zero. -/
theorem run_main : θ_run defs (onTc (τ := τ) (main (F := F))) ⟨m, fun _ => 0, ρ⟩
    (fun r => RDat.FramePost cfg0 (data m) (V m) r ∧ r.2.sem = fun _ => 0) :=
  Pipeline.RDat.θ_run_frame_track cfgs 0 launch0 defs₀ Variants.none (data m) m ρ main (obligation m)
    (fun c w => by unfold RDat.share; split <;> rfl) (fun _ _ => rfl) (V m) (hmain m Variants.none) (fun _ _ => rfl)
    (inv_in m) (inv_out m) _ (fun _ h => h)

/-- Every argument ends as launched. -/
theorem unchanged {r : PUnit × MemSt nD τ sig (Elt F)} (h : RDat.FramePost cfg0 (data m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨by
      have h0 := (h c).1 0
      rw [(data m c).ArrAt_in 0 rfl] at h0
      exact h0.trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- The frame: the program runs, leaves its arguments as they were, and every semaphore's counter at zero. -/
theorem frame_all : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c => unchanged m h.1 c, h.2⟩) (run_main m ρ)

end Cert.FfnLastIdeal.Body

end
-- ==== Proof.FfnLastValue.lean ====
/-
  The last half step's call: what it leaves in its two result arrays. The grid walks 18 tiles of 512 rows and, inside
  each, 11 tiles of 512 hidden units. The first point of a row tile normalises the rows and clears the running sum, every
  point adds its hidden units' share, the last writes the rows plus half the normalised sum: to the first result for the
  16 tiles of the prompt, to the second for the two tiles of the samples.
-/
module

public import proofs.«01_k».proof.Defs
public import proofs.«01_k».proof.Proof.FfnSpec
public import proofs.«01_k».proof.Proof.FfnLastFrame
public import proofs.«01_k».proof.Proof.FfnLastFrameFloat
public import proofs.«01_k».proof.Proof.Gen.FfnLastReferenceIdeal.Run
public import Idealize.ShloMosaic.Lib.Pipeline.ValueKit
public import Idealize.ShloMosaic.Lib.Pipeline.ValueKit.Partial
public import Idealize.ShloMosaic.Lib.Pointwise
public import Idealize.ShloMosaic.Lib.Claim
public import Idealize.ShloMosaic.Lib.StableHlo.ReadAt
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (RDat)

namespace Cert.FfnLastIdeal.RefValue

open Cert.FfnLastIdeal Cert.FfnLastIdeal.Gen Cert.FfnLastIdeal.Body

variable (m : (ℓ : Loc nD τ sig) → Buf (Elt Ideal) ℓ)

/-- Every window's block index at every grid point. -/
theorem idx : ∀ t : Fin cfg0.N, win0_0.index t = ![t.val / 11, 0]
    ∧ win0_1.index t = ![0, 0]
    ∧ win0_2.index t = ![0, 0]
    ∧ win0_3.index t = ![0, t.val % 11]
    ∧ win0_4.index t = ![0, t.val % 11]
    ∧ win0_5.index t = ![t.val % 11, 0]
    ∧ win0_6.index t = ![min (t.val / 11) 15, 0]
    ∧ win0_7.index t = ![t.val / 11 - 16, 0] :=
  (by decide +kernel : ∀ t : Fin grid0.N, _)

/-- The kernel's argument arrays at their own types. -/
abbrev X (c : Dev nD) : FVec Ideal S9216x2048 .f32 := m ((c.tc : Thread nD τ).loc main_arg0)
abbrev gpre (c : Dev nD) : FVec Ideal S2048 .f32 := m ((c.tc : Thread nD τ).loc main_arg1)
abbrev gpost (c : Dev nD) : FVec Ideal S2048 .f32 := m ((c.tc : Thread nD τ).loc main_arg2)
abbrev wg (c : Dev nD) : FVec Ideal S2048x5504 .f32 := m ((c.tc : Thread nD τ).loc main_arg3)
abbrev wu (c : Dev nD) : FVec Ideal S2048x5504 .f32 := m ((c.tc : Thread nD τ).loc main_arg4)
abbrev wd (c : Dev nD) : FVec Ideal S5504x2048 .f32 := m ((c.tc : Thread nD τ).loc main_arg5)

/-! ## The blocks, read at an index -/

theorem blk0 (c : Dev nD) (t : Fin cfg0.N) (r : Fin 512) (k : Fin 2048) (h : 512 * (t.val / 11) + r.val < 9216) :
    (show FVec Ideal S512x2048 .f32 from iblk m c 0 t) (ix2 r k) = X m c (ix2 ⟨512 * (t.val / 11) + r.val, h⟩ k) := by
  blk_point [iblk, V, idx t]

/-- The integer zero the host pads with is the real zero. -/
theorem pad_zero : (FloatOps.sitofp FTy.bf16 0#32 : Ideal FTy.bf16) = (0 : EReal) := by
  show (((0#32 : BitVec 32).toInt : ℝ) : EReal) = 0
  simp

theorem V2 (c : Dev nD) (k : Fin 2048) : V m c main_v2 (ix2 0 k) = gpre m c (ix1 k) := by
  simp only [V, hostOps0, hostOps0_1, hostOps0_2, hostOps0_3, hostOps0_4, hostOps0_5, List.flatten_cons, List.flatten_nil,
    List.append_nil, List.cons_append, List.nil_append]
  after_reads_at

theorem V3 (c : Dev nD) (k : Fin 2048) : V m c main_v3 (ix2 0 k) = gpost m c (ix1 k) := by
  simp only [V, hostOps0, hostOps0_1, hostOps0_2, hostOps0_3, hostOps0_4, hostOps0_5, List.flatten_cons, List.flatten_nil,
    List.append_nil, List.cons_append, List.nil_append]
  after_reads_at

/-- The padded gate weight: zero past column 5504. -/
theorem V5 (c : Dev nD) (k : Fin 2048) (l : Fin 5632) : V m c main_v5 (ix2 k l)
      = if h : l.val < 5504 then wg m c (ix2 k ⟨l.val, h⟩) else 0 := by
  simp only [V, hostOps0, hostOps0_1, hostOps0_2, hostOps0_3, hostOps0_4, hostOps0_5, List.flatten_cons, List.flatten_nil,
    List.append_nil, List.cons_append, List.nil_append]
  after_reads_at
  rw [pad_zero]

/-- The padded up weight: zero past column 5504. -/
theorem V7 (c : Dev nD) (k : Fin 2048) (l : Fin 5632) : V m c main_v7 (ix2 k l)
      = if h : l.val < 5504 then wu m c (ix2 k ⟨l.val, h⟩) else 0 := by
  simp only [V, hostOps0, hostOps0_1, hostOps0_2, hostOps0_3, hostOps0_4, hostOps0_5, List.flatten_cons, List.flatten_nil,
    List.append_nil, List.cons_append, List.nil_append]
  after_reads_at
  rw [pad_zero]

/-- The padded down weight: zero past row 5504. -/
theorem V1 (c : Dev nD) (l : Fin 5632) (j : Fin 2048) : V m c main_v1 (ix2 l j)
      = if h : l.val < 5504 then wd m c (ix2 ⟨l.val, h⟩ j) else 0 := by
  simp only [V, hostOps0, hostOps0_1, hostOps0_2, hostOps0_3, hostOps0_4, hostOps0_5, List.flatten_cons, List.flatten_nil,
    List.append_nil, List.cons_append, List.nil_append]
  after_reads_at
  rw [pad_zero]

theorem blk1 (c : Dev nD) (t : Fin cfg0.N) (k : Fin 2048) :
    (show FVec Ideal S1x2048 .f32 from iblk m c 1 t) (ix2 0 k) = gpre m c (ix1 k) := by
  rw [← V2]; blk_ext [iblk, idx t]

theorem blk2 (c : Dev nD) (t : Fin cfg0.N) (k : Fin 2048) :
    (show FVec Ideal S1x2048 .f32 from iblk m c 2 t) (ix2 0 k) = gpost m c (ix1 k) := by
  rw [← V3]; blk_ext [iblk, idx t]

theorem blk3 (c : Dev nD) (t : Fin cfg0.N) (k : Fin 2048) (l : Fin 512) (hb : 512 * (t.val % 11) + l.val < 5632) :
    (show FVec Ideal S2048x512 .bf16 from iblk m c 3 t) (ix2 k l) = V m c main_v5 (ix2 k ⟨512 * (t.val % 11) + l.val, hb⟩) := by
  blk_ext [iblk, idx t]

theorem blk4 (c : Dev nD) (t : Fin cfg0.N) (k : Fin 2048) (l : Fin 512) (hb : 512 * (t.val % 11) + l.val < 5632) :
    (show FVec Ideal S2048x512 .bf16 from iblk m c 4 t) (ix2 k l) = V m c main_v7 (ix2 k ⟨512 * (t.val % 11) + l.val, hb⟩) := by
  blk_ext [iblk, idx t]

theorem blk5 (c : Dev nD) (t : Fin cfg0.N) (l : Fin 512) (j : Fin 2048) (hb : 512 * (t.val % 11) + l.val < 5632) :
    (show FVec Ideal S512x2048 .bf16 from iblk m c 5 t) (ix2 l j) = V m c main_v1 (ix2 ⟨512 * (t.val % 11) + l.val, hb⟩ j) := by
  blk_ext [iblk, idx t]

/-! ## The payloads, read at an index -/

theorem pay2_at (x : FVec Ideal S512x2048 .f32) (g : FVec Ideal S1x2048 .f32) (r : Fin 512) (k : Fin 2048) :
    k0_pay2 (F := Ideal) x g (ix2 r k) = FfnSpec.rms (fun i => x (ix2 r i)) (fun i => g (ix2 0 i)) k := by
  pointwise [k0_pay2, FfnSpec.rms]

theorem pay3_at (j : S512x2048.Idx) : k0_pay3 (F := Ideal) j = (0 : EReal) := by
  pointwise [k0_pay3]

theorem pay4_at (n : FVec Ideal S512x2048 .bf16) (a b : FVec Ideal S2048x512 .bf16) (acc : FVec Ideal S512x2048 .f32)
    (d : FVec Ideal S512x2048 .bf16) (r : Fin 512) (j : Fin 2048) :
    k0_pay4 n a b acc d (ix2 r j) = acc (ix2 r j)
      + ∑ l : Fin 512, FfnSpec.unit (fun k => n (ix2 r k)) (fun k => a (ix2 k l)) (fun k => b (ix2 k l)) * d (ix2 l j) := by
  pointwise [k0_pay4, FfnSpec.unit]

theorem pay5_at (x y : FVec Ideal S512x2048 .f32) (g : FVec Ideal S1x2048 .f32) (r : Fin 512) (j : Fin 2048) :
    k0_pay5 x y g (ix2 r j) = x (ix2 r j)
      + Ideal.ofBits .f32 0x3F000000#32 * FfnSpec.rms (fun i => y (ix2 r i)) (fun i => g (ix2 0 i)) j := by
  pointwise [k0_pay5, FfnSpec.rms]

/-- Both results' blocks are the same function of the rows and the running sum. -/
theorem pay1_eq (x y : FVec Ideal S512x2048 .f32) (g : FVec Ideal S1x2048 .f32) :
    k0_pay1 (F := Ideal) x y g = k0_pay5 (F := Ideal) x y g := rfl

/-! ## The running sum over the tiles of the hidden axis -/

/-- The normalised row `R`. -/
def nrm (c : Dev nD) (R : Fin 9216) : Fin 2048 → EReal := FfnSpec.rms (fun i => X m c (ix2 R i)) (fun i => gpre m c (ix1 i))

/-- Hidden unit `l`'s share of entry `j` of row `R`, zero past the last unit. -/
def share (c : Dev nD) (R : Fin 9216) (j : Fin 2048) (l : ℕ) : EReal :=
  if h : l < 5504 then FfnSpec.unit (nrm m c R) (fun k => wg m c (ix2 k ⟨l, h⟩)) (fun k => wu m c (ix2 k ⟨l, h⟩)) * wd m c (ix2 ⟨l, h⟩ j)
  else 0

/-- What one point adds to the running sum, once its normalised rows are known. -/
theorem part_eq (c : Dev nD) (t : Fin cfg0.N) (n : FVec Ideal S512x2048 .bf16) (r : Fin 512) (j : Fin 2048)
    (h : 512 * (t.val / 11) + r.val < 9216) (hn : ∀ k, n (ix2 r k) = nrm m c ⟨512 * (t.val / 11) + r.val, h⟩ k) (s : ℕ) (hs : t.val % 11 = s) :
    ∑ l : Fin 512, FfnSpec.unit (fun k => n (ix2 r k))
        (fun k => (show FVec Ideal S2048x512 .bf16 from iblk m c 3 t) (ix2 k l))
        (fun k => (show FVec Ideal S2048x512 .bf16 from iblk m c 4 t) (ix2 k l))
        * (show FVec Ideal S512x2048 .bf16 from iblk m c 5 t) (ix2 l j)
      = ∑ l : Fin 512, share m c ⟨512 * (t.val / 11) + r.val, h⟩ j (512 * s + l) := by
  subst hs
  refine Finset.sum_congr rfl fun l _ => ?_
  have hb : 512 * (t.val % 11) + l.val < 5632 := by omega
  have e3 : (fun k => (show FVec Ideal S2048x512 .bf16 from iblk m c 3 t) (ix2 k l)) = fun k : Fin 2048 =>
      if h : 512 * (t.val % 11) + l.val < 5504 then wg m c (ix2 k ⟨512 * (t.val % 11) + l.val, h⟩) else (0 : EReal) :=
    funext fun k => (blk3 m c t k l hb).trans (V5 m c k ⟨512 * (t.val % 11) + l.val, hb⟩)
  have e4 : (fun k => (show FVec Ideal S2048x512 .bf16 from iblk m c 4 t) (ix2 k l)) = fun k : Fin 2048 =>
      if h : 512 * (t.val % 11) + l.val < 5504 then wu m c (ix2 k ⟨512 * (t.val % 11) + l.val, h⟩) else (0 : EReal) :=
    funext fun k => (blk4 m c t k l hb).trans (V7 m c k ⟨512 * (t.val % 11) + l.val, hb⟩)
  rw [e3, e4, blk5 m c t l j hb, V1, funext hn]
  unfold share
  by_cases h : 512 * (t.val % 11) + l.val < 5504
  · simp only [dif_pos h]
  · simp only [dif_neg h, mul_zero]

/-- The scratch's rows are the normalised ones. -/
theorem xn_at (c : Dev nD) (t : Fin cfg0.N) (r : Fin 512) (k : Fin 2048) (h : 512 * (t.val / 11) + r.val < 9216) :
    xn m c t (ix2 r k) = nrm m c ⟨512 * (t.val / 11) + r.val, h⟩ k := by
  have hd : (row t).val / 11 = t.val / 11 := by show t.val / 11 * 11 / 11 = t.val / 11; omega
  refine (pay2_at _ _ r k).trans ?_
  unfold nrm
  refine congrArg₂ (fun a b => FfnSpec.rms a b k) ?_ ?_
  · funext i
    refine (blk0 m c (row t) r i (by rw [hd]; exact h)).trans ?_
    simp only [hd]
  · funext i; exact blk1 m c _ i

/-- The sum of the first `s` tiles' shares, over the rows of the tile of `t`. -/
def Sums (c : Dev nD) (t : Fin cfg0.N) (s : ℕ) (a : FVec Ideal S512x2048 .f32) : Prop :=
  ∀ (r : Fin 512) (j : Fin 2048) (h : 512 * (t.val / 11) + r.val < 9216), a (ix2 r j)
    = ∑ p ∈ Finset.range s, ∑ l : Fin 512, share m c ⟨512 * (t.val / 11) + r.val, h⟩ j (512 * p + l)

/-- One accumulation step. -/
theorem sums_step (c : Dev nD) (t : Fin cfg0.N) (s : ℕ) (hs : t.val % 11 = s) (a : FVec Ideal S512x2048 .f32) (ha : Sums m c t s a) :
    Sums m c t (s + 1) (k0_pay4 (xn m c t) (iblk m c 3 t) (iblk m c 4 t) a (iblk m c 5 t)) := by
  intro r j h
  rw [Finset.sum_range_succ, ← ha r j h]
  refine (pay4_at (xn m c t) _ _ a _ r j).trans (congrArg (fun z => a (ix2 r j) + z) ?_)
  exact part_eq m c t (xn m c t) r j h (fun k => xn_at m c t r k h) s hs

/-- After a point the running sum is that of the tiles up to the point's. -/
theorem running (c : Dev nD) : ∀ (n : ℕ) (t : Fin cfg0.N), t.val = n → Sums m c t (t.val % 11 + 1) (acc m c t) := by
  intro n
  induction n with
  | zero =>
    intro t ht
    have h0 : t.val % 11 = 0 := by rw [ht]
    rw [acc_first m c t h0]
    refine sums_step m c t _ rfl _ fun r j h => ?_
    rw [h0, Finset.sum_range_zero]; exact pay3_at _
  | succ n ih =>
    intro t ht
    by_cases h0 : t.val % 11 = 0
    · rw [acc_first m c t h0]
      refine sums_step m c t _ rfl _ fun r j h => ?_
      rw [h0, Finset.sum_range_zero]; exact pay3_at _
    · have hlt : n < cfg0.N := by have := t.isLt; omega
      rw [acc_next m c ⟨n, hlt⟩ t (show n + 1 = t.val by omega) h0]
      refine sums_step m c t _ rfl _ fun r j h => ?_
      have hd : n / 11 = t.val / 11 := by omega
      have hm : n % 11 + 1 = t.val % 11 := by omega
      have := ih ⟨n, hlt⟩ rfl r j (by show 512 * (n / 11) + r.val < 9216; rw [hd]; exact h)
      simp only [hd, hm] at this
      exact this

/-- The block that the last point of a row tile writes. -/
theorem last (c : Dev nD) (t : Fin cfg0.N) (ht : t.val % 11 = 10) (r : Fin 512) (j : Fin 2048) (h : 512 * (t.val / 11) + r.val < 9216) :
    k0_pay5 (iblk m c 0 t) (acc m c t) (iblk m c 2 t) (ix2 r j)
      = FfnSpec.out (fun k => X m c (ix2 ⟨512 * (t.val / 11) + r.val, h⟩ k)) (fun k => gpre m c (ix1 k)) (fun k => gpost m c (ix1 k))
          (fun k l => wg m c (ix2 k l)) (fun k l => wu m c (ix2 k l)) (fun l j => wd m c (ix2 l j)) j := by
  have hfull := running m c _ t rfl
  rw [ht] at hfull
  refine (pay5_at _ _ _ r j).trans ?_
  unfold FfnSpec.out
  refine congrArg₂ (fun a b => a + Ideal.ofBits .f32 0x3F000000#32 * b) (blk0 m c t r j h) ?_
  have e2 : (fun i => (show FVec Ideal S1x2048 .f32 from iblk m c 2 t) (ix2 0 i)) = fun i : Fin 2048 => gpost m c (ix1 i) :=
    funext fun i => blk2 m c _ i
  refine congrArg₂ (fun a b => FfnSpec.rms a b j) (funext fun i => ?_) e2
  refine (hfull r i h).trans ?_
  rw [FfnSpec.sum_tiles (share m c ⟨512 * (t.val / 11) + r.val, h⟩ i) fun l hl => dif_neg (by omega)]
  refine Finset.sum_congr rfl fun l _ => ?_
  unfold share
  rw [dif_pos l.isLt]
  rfl

/-! ## What the results' blocks hold when they are written back -/

/-- Where the results' blocks are written back. -/
theorem flush6 : ∀ t : Fin cfg0.N, (cfg0.win 6).flush t = true ↔ (t.val % 11 = 10 ∧ t.val < 165) ∨ t.val = 197 :=
  (by decide +kernel : ∀ t : Fin grid0.N, _)
theorem flush7 : ∀ t : Fin cfg0.N, (cfg0.win 7).flush t = true ↔ t.val = 186 ∨ t.val = 197 :=
  (by decide +kernel : ∀ t : Fin grid0.N, _)

/-- A block stays what it is as long as the points after it neither write it nor write it back. -/
theorem stays (c : Dev nD) (B : FVec Ideal S512x2048 .f32) (s : Fin cfg0.N)
    (hs : ∀ Y X, (data m c).after 6 s Y X → X = B) : ∀ (n : ℕ) (t : Fin cfg0.N), t.val = s.val + n →
    (∀ u : Fin cfg0.N, s.val ≤ u.val → u.val < t.val → (cfg0.win 6).flush u = false) →
    (∀ u : Fin cfg0.N, s.val < u.val → u.val ≤ t.val → ¬k0_cond2 (grid0.coords u) = 1#1) →
    ∀ X, (data m c).Leaves 6 t X → X = B := by
  intro n
  induction n with
  | zero =>
    intro t ht hf hk X hX
    obtain rfl : t = s := Fin.ext (by omega)
    obtain ⟨Y, -, h⟩ := hX
    exact hs Y X h
  | succ n ih =>
    intro t ht hf hk X hX
    obtain ⟨Y, hY, h⟩ := hX
    have hp : t.val - 1 < cfg0.N := by have := t.isLt; omega
    have e : X = Y := by
      refine Eq.trans (show X = _ from h) ?_
      unfold step6
      exact if_neg (hk t (by omega) (Nat.le_refl _))
    rw [(data m c).finds_of_pos ((cfg0.win 6).fetch_out rfl t) (by omega)] at hY
    rcases hY with hY | hY
    · rw [hf ⟨t.val - 1, hp⟩ (by show s.val ≤ t.val - 1; omega) (by show t.val - 1 < t.val; omega)] at hY
      exact absurd hY (by simp)
    · rw [e]
      exact ih ⟨t.val - 1, hp⟩ (by show t.val - 1 = s.val + n; omega)
        (fun u h1 h2 => hf u h1 (by simp only at h2; omega)) (fun u h1 h2 => hk u h1 (by simp only at h2; omega)) Y hY

/-- The prompt rows' block, written at its own row tile's last point; the last one waits for the end of the grid. -/
theorem left6 (c : Dev nD) (t s : Fin cfg0.N) (ht : (t.val % 11 = 10 ∧ t.val < 165) ∨ t.val = 197) (hs : s.val = min (t.val / 11) 15 * 11 + 10)
    (X) (hX : (data m c).Leaves 6 t X) : X = k0_pay5 (iblk m c 0 s) (acc m c s) (iblk m c 2 s) := by
  have hp := points t
  refine stays m c _ s (fun Y X h => ?_) (t.val - s.val) t (by omega) (fun u h1 h2 => ?_) (fun u h1 h2 hc => ?_) X hX
  · refine Eq.trans (show X = _ from h) ?_
    unfold step6
    exact if_pos ((branch2 s).mpr (by omega))
  · rcases h : (cfg0.win 6).flush u with _ | _
    · rfl
    · exfalso
      have := (flush6 u).mp h
      omega
  · have := (branch2 u).mp hc
    omega

/-- The sample rows' block. -/
theorem left7 (c : Dev nD) (t : Fin cfg0.N) (ht : t.val = 186 ∨ t.val = 197) (X) (hX : (data m c).Leaves 7 t X) :
    X = k0_pay5 (iblk m c 0 t) (acc m c t) (iblk m c 2 t) := by
  obtain ⟨Y, -, h⟩ := hX
  refine Eq.trans (show X = _ from h) ?_
  unfold step7
  exact (if_pos ((branch3 t).mpr (by omega))).trans (pay1_eq _ _ _)

/-! ## The arrays -/

/-- Row `R`, column `j` of the result, of the arguments. -/
def res (c : Dev nD) (R : Fin 9216) (j : Fin 2048) : EReal :=
  FfnSpec.out (fun k => X m c (ix2 R k)) (fun k => gpre m c (ix1 k)) (fun k => gpost m c (ix1 k))
          (fun k l => wg m c (ix2 k l)) (fun k l => wu m c (ix2 k l)) (fun l j => wd m c (ix2 l j)) j

/-- The two results as functions of the arguments. -/
def prompt (c : Dev nD) : FVec Ideal S8192x2048 .f32 := fun i => res m c ⟨(show Fin 8192 from i 0).val, by omega⟩ (i 1)
def sample (c : Dev nD) : FVec Ideal S1024x2048 .f32 := fun i => res m c ⟨8192 + (show Fin 1024 from i 0).val, by omega⟩ (i 1)

theorem place6 (t : Fin cfg0.N) (r : Fin 512) (j : Fin 2048) :
    ((cfg0.win 6).blk t).view.emb (show S512x2048.Idx from ix2 r j)
      = (show S8192x2048.Idx from ix2 ⟨512 * min (t.val / 11) 15 + r.val, by omega⟩ j) := by
  blk_ext [idx t]
theorem place7 (t : Fin cfg0.N) (r : Fin 512) (j : Fin 2048) :
    ((cfg0.win 7).blk t).view.emb (show S512x2048.Idx from ix2 r j)
      = (show S1024x2048.Idx from ix2 ⟨512 * (t.val / 11 - 16) + r.val, by have := points t; omega⟩ j) := by
  blk_ext [idx t]

section Final

variable (c : Dev nD) (after : (w' : Fin cfg0.W) → Fin cfg0.N → (cfg0.win w').block.Idx → Elt Ideal (cfg0.win w').elt)
  (hL : ∀ (w : Fin cfg0.W) (u : Fin cfg0.N), u.val < cfg0.N → (cfg0.win w).flush u = true → (data m c).Leaves w u (after w u))

include hL

theorem final6 : ((data m c).withAfter after).arrAt 6 cfg0.N = prompt m c := by
  refine ((data m c).withAfter after).arrAt_eq_of_covers 6 (prompt m c) (by decide +kernel) fun t hf y => ?_
  have ht := (flush6 t).mp hf
  have hp := points t
  have hN := N_0
  have hlt : min (t.val / 11) 15 * 11 + 10 < cfg0.N := by show _ < grid0.N; omega
  have hX := left6 m c t ⟨min (t.val / 11) 15 * 11 + 10, hlt⟩ ht rfl _ (hL 6 t t.isLt hf)
  obtain ⟨r, j, rfl⟩ : ∃ (r : Fin 512) (j : Fin 2048), y = (show S512x2048.Idx from ix2 r j) := ⟨y 0, y 1, eq_ix2 y⟩
  rw [place6]
  refine (show _ = after 6 t (show S512x2048.Idx from ix2 r j) from rfl).trans ?_
  rw [hX]
  refine (last m c ⟨min (t.val / 11) 15 * 11 + 10, hlt⟩ (by show (min (t.val / 11) 15 * 11 + 10) % 11 = 10; omega) r j
    (by show 512 * ((min (t.val / 11) 15 * 11 + 10) / 11) + r.val < 9216; omega)).trans ?_
  exact congrArg (fun R => res m c R j) (Fin.ext (by show 512 * ((min (t.val / 11) 15 * 11 + 10) / 11) + r.val = 512 * min (t.val / 11) 15 + r.val; omega))

theorem final7 : ((data m c).withAfter after).arrAt 7 cfg0.N = sample m c := by
  refine ((data m c).withAfter after).arrAt_eq_of_covers 7 (sample m c) (by decide +kernel) fun t hf y => ?_
  have ht := (flush7 t).mp hf
  have hX := left7 m c t ht _ (hL 7 t t.isLt hf)
  obtain ⟨r, j, rfl⟩ : ∃ (r : Fin 512) (j : Fin 2048), y = (show S512x2048.Idx from ix2 r j) := ⟨y 0, y 1, eq_ix2 y⟩
  rw [place7]
  refine (show _ = after 7 t (show S512x2048.Idx from ix2 r j) from rfl).trans ?_
  rw [hX]
  refine (last m c t (by omega) r j (by omega)).trans ?_
  exact congrArg (fun R => res m c R j) (Fin.ext (by show 512 * (t.val / 11) + r.val = 8192 + (512 * (t.val / 11 - 16) + r.val); omega))

end Final

/-- The kernel's run: the two results, and the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v8_0) = prompt m c
      ∧ r.2.mem ((c.tc : Thread nD τ).loc main_v8_1) = sample m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => by
    obtain ⟨after, hL, hG⟩ := RDat.ArrAt.exists_exact_all (h.1 c).1
    exact ⟨(hG 6).trans (final6 m c after hL), (hG 7).trans (final7 m c after hL), unchanged m h.1 c⟩) (run_main m ρ)

end Cert.FfnLastIdeal.RefValue

namespace Cert.Proof.FfnLastClaims

open Cert.FfnLastIdeal.RefValue

section Reference

variable (m : (ℓ : Loc Cert.FfnLastIdeal.nD Cert.FfnLastIdeal.τ Cert.FfnLastIdeal.sig) → Buf (Elt Ideal) ℓ) (c : Dev Cert.FfnLastIdeal.nD)
  (m' : (ℓ : Loc Cert.FfnLastReferenceIdeal.nD Cert.FfnLastReferenceIdeal.τ Cert.FfnLastReferenceIdeal.sig) → Buf (Elt Ideal) ℓ)
  (h0 : m' ((c.tc : Thread Cert.FfnLastReferenceIdeal.nD Cert.FfnLastReferenceIdeal.τ).loc Cert.FfnLastReferenceIdeal.main_arg0) = m ((c.tc : Thread Cert.FfnLastIdeal.nD Cert.FfnLastIdeal.τ).loc Cert.FfnLastIdeal.main_arg0))
  (h1 : m' ((c.tc : Thread Cert.FfnLastReferenceIdeal.nD Cert.FfnLastReferenceIdeal.τ).loc Cert.FfnLastReferenceIdeal.main_arg1) = m ((c.tc : Thread Cert.FfnLastIdeal.nD Cert.FfnLastIdeal.τ).loc Cert.FfnLastIdeal.main_arg1))
  (h2 : m' ((c.tc : Thread Cert.FfnLastReferenceIdeal.nD Cert.FfnLastReferenceIdeal.τ).loc Cert.FfnLastReferenceIdeal.main_arg2) = m ((c.tc : Thread Cert.FfnLastIdeal.nD Cert.FfnLastIdeal.τ).loc Cert.FfnLastIdeal.main_arg2))
  (h3 : m' ((c.tc : Thread Cert.FfnLastReferenceIdeal.nD Cert.FfnLastReferenceIdeal.τ).loc Cert.FfnLastReferenceIdeal.main_arg3) = m ((c.tc : Thread Cert.FfnLastIdeal.nD Cert.FfnLastIdeal.τ).loc Cert.FfnLastIdeal.main_arg3))
  (h4 : m' ((c.tc : Thread Cert.FfnLastReferenceIdeal.nD Cert.FfnLastReferenceIdeal.τ).loc Cert.FfnLastReferenceIdeal.main_arg4) = m ((c.tc : Thread Cert.FfnLastIdeal.nD Cert.FfnLastIdeal.τ).loc Cert.FfnLastIdeal.main_arg4))
  (h5 : m' ((c.tc : Thread Cert.FfnLastReferenceIdeal.nD Cert.FfnLastReferenceIdeal.τ).loc Cert.FfnLastReferenceIdeal.main_arg5) = m ((c.tc : Thread Cert.FfnLastIdeal.nD Cert.FfnLastIdeal.τ).loc Cert.FfnLastIdeal.main_arg5))

include h0 h1 h2 h3 h4 h5

/-- The reference's results, read at an index. -/
theorem prompt_at (R : Fin 8192) (j : Fin 2048) :
    Cert.FfnLastReferenceIdeal.Value.res_main_v34 m' c (ix2 R j) = res m c ⟨R.val, by omega⟩ j := by
  unfold Cert.FfnLastReferenceIdeal.Value.res_main_v34
  rw [h0, h1, h2, h3, h4, h5]
  pointwise [res, FfnSpec.out, FfnSpec.rms, FfnSpec.unit, Ideal.logistic]

theorem sample_at (R : Fin 1024) (j : Fin 2048) :
    Cert.FfnLastReferenceIdeal.Value.res_main_v35 m' c (ix2 R j) = res m c ⟨8192 + R.val, by omega⟩ j := by
  unfold Cert.FfnLastReferenceIdeal.Value.res_main_v35
  rw [h0, h1, h2, h3, h4, h5]
  pointwise [res, FfnSpec.out, FfnSpec.rms, FfnSpec.unit, Ideal.logistic]

end Reference

/-- The last half step's call and its reference end with equal results. -/
theorem algebraic : Cert.algebraic_FfnLastIdeal_FfnLastReferenceIdeal := by
  intro m g m' g' _ hag
  refine ⟨fun c => prompt m c, fun c => sample m c, run m g, ?_⟩
  refine (θ_run Cert.FfnLastReferenceIdeal.defs _ _).mono (fun _ h c => ?_)
    (Cert.FfnLastReferenceIdeal.Value.run (F := Ideal) m' g')
  obtain ⟨h0, h1, h2, h3, h4, h5⟩ := hag c
  refine ⟨(h c).1.trans (funext fun i => ?_), (h c).2.1.trans (funext fun i => ?_), (h c).2.2⟩
  · obtain ⟨R, j, rfl⟩ : ∃ (R : Fin 8192) (j : Fin 2048), i = (show Cert.FfnLastReferenceIdeal.S8192x2048.Idx from ix2 R j) := ⟨i 0, i 1, eq_ix2 i⟩
    exact prompt_at m c m' h0 h1 h2 h3 h4 h5 R j
  · obtain ⟨R, j, rfl⟩ : ∃ (R : Fin 1024) (j : Fin 2048), i = (show Cert.FfnLastReferenceIdeal.S1024x2048.Idx from ix2 R j) := ⟨i 0, i 1, eq_ix2 i⟩
    exact sample_at m c m' h0 h1 h2 h3 h4 h5 R j

/-- The frames of the call, at machine floats and at extended reals. -/
theorem frame : Cert.quiescent_FfnLast := fun m ρ _ => Cert.FfnLast.Body.frame_all (F := Bits) m ρ

theorem frame_ideal : Cert.quiescent_FfnLastIdeal := fun m ρ _ => Cert.FfnLastIdeal.Body.frame_all (F := Ideal) m ρ

/-- The reference's frame: its run, which leaves the arguments as they were; it has no semaphore. -/
theorem frame_reference : Cert.quiescent_FfnLastReferenceIdeal := fun m ρ _ =>
  (θ_run Cert.FfnLastReferenceIdeal.defs _ _).mono (fun r h => ⟨fun c => (h c).2.2,
      Idealize.ShloMosaic.sem_eq_zero_of_no_sems (by decide) r.2⟩)
    (Cert.FfnLastReferenceIdeal.Value.run (F := Ideal) m ρ)

end Cert.Proof.FfnLastClaims

end
-- ==== Proof.FfnValue.lean ====
/-
  The feed-forward call: what it leaves in its result array. The grid walks 18 tiles of 512 rows and, inside each, 11
  tiles of 512 hidden units. The first point of a row tile normalises the rows and clears the running sum, every point
  adds its hidden units' share, the last adds the normalised sum to the rows.
-/
module

public import proofs.«01_k».proof.Defs
public import proofs.«01_k».proof.Proof.FfnSpec
public import proofs.«01_k».proof.Proof.Gen.FfnIdeal.Value
public import proofs.«01_k».proof.Proof.Gen.FfnReferenceIdeal.Run
public import Idealize.ShloMosaic.Lib.Pipeline.ValueKit
public import Idealize.ShloMosaic.Lib.Pointwise
public import Idealize.ShloMosaic.Lib.Claim
public import Idealize.ShloMosaic.Lib.StableHlo.ReadAt
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.FfnIdeal.RefValue

open Cert.FfnIdeal Cert.FfnIdeal.Gen

variable (m : (ℓ : Loc nD τ sig) → Buf (Elt Ideal) ℓ)

/-- Every window's block index at every grid point. -/
theorem idx : ∀ t : Fin cfg0.N, win0_0.index t = ![t.val / 11, 0]
    ∧ win0_1.index t = ![0, 0]
    ∧ win0_2.index t = ![0, 0]
    ∧ win0_3.index t = ![0, t.val % 11]
    ∧ win0_4.index t = ![0, t.val % 11]
    ∧ win0_5.index t = ![t.val % 11, 0]
    ∧ win0_6.index t = ![t.val / 11, 0] :=
  (by decide +kernel : ∀ t : Fin grid0.N, _)

/-- The kernel's argument arrays at their own types. -/
abbrev X (c : Dev nD) : FVec Ideal S9216x2048 .f32 := m ((c.tc : Thread nD τ).loc main_arg0)
abbrev gpre (c : Dev nD) : FVec Ideal S2048 .f32 := m ((c.tc : Thread nD τ).loc main_arg1)
abbrev gpost (c : Dev nD) : FVec Ideal S2048 .f32 := m ((c.tc : Thread nD τ).loc main_arg2)
abbrev wg (c : Dev nD) : FVec Ideal S2048x5504 .f32 := m ((c.tc : Thread nD τ).loc main_arg3)
abbrev wu (c : Dev nD) : FVec Ideal S2048x5504 .f32 := m ((c.tc : Thread nD τ).loc main_arg4)
abbrev wd (c : Dev nD) : FVec Ideal S5504x2048 .f32 := m ((c.tc : Thread nD τ).loc main_arg5)

/-! ## The blocks, read at an index -/

theorem blk0 (c : Dev nD) (t : Fin cfg0.N) (r : Fin 512) (k : Fin 2048) (h : 512 * (t.val / 11) + r.val < 9216) :
    (show FVec Ideal S512x2048 .f32 from iblk m c 0 t) (ix2 r k) = X m c (ix2 ⟨512 * (t.val / 11) + r.val, h⟩ k) := by
  blk_point [iblk, V, idx t]

/-- The integer zero the host pads with is the real zero. -/
theorem pad_zero : (FloatOps.sitofp FTy.bf16 0#32 : Ideal FTy.bf16) = (0 : EReal) := by
  show (((0#32 : BitVec 32).toInt : ℝ) : EReal) = 0
  simp

theorem V2 (c : Dev nD) (k : Fin 2048) : V m c main_v2 (ix2 0 k) = gpre m c (ix1 k) := by
  simp only [V, hostOps0, hostOps0_1, hostOps0_2, hostOps0_3, hostOps0_4, hostOps0_5, List.flatten_cons, List.flatten_nil,
    List.append_nil, List.cons_append, List.nil_append]
  after_reads_at

theorem V3 (c : Dev nD) (k : Fin 2048) : V m c main_v3 (ix2 0 k) = gpost m c (ix1 k) := by
  simp only [V, hostOps0, hostOps0_1, hostOps0_2, hostOps0_3, hostOps0_4, hostOps0_5, List.flatten_cons, List.flatten_nil,
    List.append_nil, List.cons_append, List.nil_append]
  after_reads_at

/-- The padded gate weight: zero past column 5504. -/
theorem V5 (c : Dev nD) (k : Fin 2048) (l : Fin 5632) : V m c main_v5 (ix2 k l)
      = if h : l.val < 5504 then wg m c (ix2 k ⟨l.val, h⟩) else 0 := by
  simp only [V, hostOps0, hostOps0_1, hostOps0_2, hostOps0_3, hostOps0_4, hostOps0_5, List.flatten_cons, List.flatten_nil,
    List.append_nil, List.cons_append, List.nil_append]
  after_reads_at
  rw [pad_zero]

/-- The padded up weight: zero past column 5504. -/
theorem V7 (c : Dev nD) (k : Fin 2048) (l : Fin 5632) : V m c main_v7 (ix2 k l)
      = if h : l.val < 5504 then wu m c (ix2 k ⟨l.val, h⟩) else 0 := by
  simp only [V, hostOps0, hostOps0_1, hostOps0_2, hostOps0_3, hostOps0_4, hostOps0_5, List.flatten_cons, List.flatten_nil,
    List.append_nil, List.cons_append, List.nil_append]
  after_reads_at
  rw [pad_zero]

/-- The padded down weight: zero past row 5504. -/
theorem V1 (c : Dev nD) (l : Fin 5632) (j : Fin 2048) : V m c main_v1 (ix2 l j)
      = if h : l.val < 5504 then wd m c (ix2 ⟨l.val, h⟩ j) else 0 := by
  simp only [V, hostOps0, hostOps0_1, hostOps0_2, hostOps0_3, hostOps0_4, hostOps0_5, List.flatten_cons, List.flatten_nil,
    List.append_nil, List.cons_append, List.nil_append]
  after_reads_at
  rw [pad_zero]

theorem blk1 (c : Dev nD) (t : Fin cfg0.N) (k : Fin 2048) :
    (show FVec Ideal S1x2048 .f32 from iblk m c 1 t) (ix2 0 k) = gpre m c (ix1 k) := by
  rw [← V2]; blk_ext [iblk, idx t]

theorem blk2 (c : Dev nD) (t : Fin cfg0.N) (k : Fin 2048) :
    (show FVec Ideal S1x2048 .f32 from iblk m c 2 t) (ix2 0 k) = gpost m c (ix1 k) := by
  rw [← V3]; blk_ext [iblk, idx t]

theorem blk3 (c : Dev nD) (t : Fin cfg0.N) (k : Fin 2048) (l : Fin 512) (hb : 512 * (t.val % 11) + l.val < 5632) :
    (show FVec Ideal S2048x512 .bf16 from iblk m c 3 t) (ix2 k l) = V m c main_v5 (ix2 k ⟨512 * (t.val % 11) + l.val, hb⟩) := by
  blk_ext [iblk, idx t]

theorem blk4 (c : Dev nD) (t : Fin cfg0.N) (k : Fin 2048) (l : Fin 512) (hb : 512 * (t.val % 11) + l.val < 5632) :
    (show FVec Ideal S2048x512 .bf16 from iblk m c 4 t) (ix2 k l) = V m c main_v7 (ix2 k ⟨512 * (t.val % 11) + l.val, hb⟩) := by
  blk_ext [iblk, idx t]

theorem blk5 (c : Dev nD) (t : Fin cfg0.N) (l : Fin 512) (j : Fin 2048) (hb : 512 * (t.val % 11) + l.val < 5632) :
    (show FVec Ideal S512x2048 .bf16 from iblk m c 5 t) (ix2 l j) = V m c main_v1 (ix2 ⟨512 * (t.val % 11) + l.val, hb⟩ j) := by
  blk_ext [iblk, idx t]

/-! ## The payloads, read at an index -/

theorem pay1_at (x : FVec Ideal S512x2048 .f32) (g : FVec Ideal S1x2048 .f32) (r : Fin 512) (k : Fin 2048) :
    k0_pay1 (F := Ideal) x g (ix2 r k) = FfnSpec.rms (fun i => x (ix2 r i)) (fun i => g (ix2 0 i)) k := by
  pointwise [k0_pay1, FfnSpec.rms]

theorem pay2_at (j : S512x2048.Idx) : k0_pay2 (F := Ideal) j = (0 : EReal) := by
  pointwise [k0_pay2]

theorem pay3_at (n : FVec Ideal S512x2048 .bf16) (a b : FVec Ideal S2048x512 .bf16) (acc : FVec Ideal S512x2048 .f32)
    (d : FVec Ideal S512x2048 .bf16) (r : Fin 512) (j : Fin 2048) :
    k0_pay3 n a b acc d (ix2 r j) = acc (ix2 r j)
      + ∑ l : Fin 512, FfnSpec.unit (fun k => n (ix2 r k)) (fun k => a (ix2 k l)) (fun k => b (ix2 k l)) * d (ix2 l j) := by
  pointwise [k0_pay3, FfnSpec.unit]

theorem pay4_at (x y : FVec Ideal S512x2048 .f32) (g : FVec Ideal S1x2048 .f32) (r : Fin 512) (j : Fin 2048) :
    k0_pay4 x y g (ix2 r j) = x (ix2 r j)
      + Ideal.ofBits .f32 0x3F000000#32 * FfnSpec.rms (fun i => y (ix2 r i)) (fun i => g (ix2 0 i)) j := by
  pointwise [k0_pay4, FfnSpec.rms]

/-! ## The running sum over the tiles of the hidden axis -/

/-- The normalised row `R`. -/
def xn (c : Dev nD) (R : Fin 9216) : Fin 2048 → EReal := FfnSpec.rms (fun i => X m c (ix2 R i)) (fun i => gpre m c (ix1 i))

/-- Hidden unit `l`'s share of entry `j` of row `R`, zero past the last unit. -/
def share (c : Dev nD) (R : Fin 9216) (j : Fin 2048) (l : ℕ) : EReal :=
  if h : l < 5504 then FfnSpec.unit (xn m c R) (fun k => wg m c (ix2 k ⟨l, h⟩)) (fun k => wu m c (ix2 k ⟨l, h⟩)) * wd m c (ix2 ⟨l, h⟩ j)
  else 0

/-- What one point adds to the running sum, once its normalised rows are known. -/
theorem part_eq (c : Dev nD) (t : Fin cfg0.N) (n : FVec Ideal S512x2048 .bf16) (r : Fin 512) (j : Fin 2048)
    (h : 512 * (t.val / 11) + r.val < 9216) (hn : ∀ k, n (ix2 r k) = xn m c ⟨512 * (t.val / 11) + r.val, h⟩ k) (s : ℕ) (hs : t.val % 11 = s) :
    ∑ l : Fin 512, FfnSpec.unit (fun k => n (ix2 r k))
        (fun k => (show FVec Ideal S2048x512 .bf16 from iblk m c 3 t) (ix2 k l))
        (fun k => (show FVec Ideal S2048x512 .bf16 from iblk m c 4 t) (ix2 k l))
        * (show FVec Ideal S512x2048 .bf16 from iblk m c 5 t) (ix2 l j)
      = ∑ l : Fin 512, share m c ⟨512 * (t.val / 11) + r.val, h⟩ j (512 * s + l) := by
  subst hs
  refine Finset.sum_congr rfl fun l _ => ?_
  have hb : 512 * (t.val % 11) + l.val < 5632 := by omega
  have e3 : (fun k => (show FVec Ideal S2048x512 .bf16 from iblk m c 3 t) (ix2 k l)) = fun k : Fin 2048 =>
      if h : 512 * (t.val % 11) + l.val < 5504 then wg m c (ix2 k ⟨512 * (t.val % 11) + l.val, h⟩) else (0 : EReal) :=
    funext fun k => (blk3 m c t k l hb).trans (V5 m c k ⟨512 * (t.val % 11) + l.val, hb⟩)
  have e4 : (fun k => (show FVec Ideal S2048x512 .bf16 from iblk m c 4 t) (ix2 k l)) = fun k : Fin 2048 =>
      if h : 512 * (t.val % 11) + l.val < 5504 then wu m c (ix2 k ⟨512 * (t.val % 11) + l.val, h⟩) else (0 : EReal) :=
    funext fun k => (blk4 m c t k l hb).trans (V7 m c k ⟨512 * (t.val % 11) + l.val, hb⟩)
  rw [e3, e4, blk5 m c t l j hb, V1, funext hn]
  unfold share
  by_cases h : 512 * (t.val % 11) + l.val < 5504
  · simp only [dif_pos h]
  · simp only [dif_neg h, mul_zero]

/-- What the first point of a row tile leaves: the first tile's share, and the normalised rows in the scratch. -/
theorem outA (c : Dev nD) (t : Fin cfg0.N) (h0 : t.val % 11 = 0) (h1 : ¬ t.val % 11 = 10) :
    outsAt0 m c t.val t.isLt = (k0_pay3 (k0_pay1 (iblk m c 0 t) (iblk m c 1 t)) (iblk m c 3 t) (iblk m c 4 t) (k0_pay2 (F := Ideal)) (iblk m c 5 t),
      k0_pay1 (iblk m c 0 t) (iblk m c 1 t)) := by
  rw [outsAt0_A m c t h0 h1]; frame_out

/-- What a middle point leaves: one share more, the scratch as it was. -/
theorem outB (c : Dev nD) (n : ℕ) (hn : n + 1 < cfg0.N) (h0 : ¬ (n + 1) % 11 = 0) (h1 : ¬ (n + 1) % 11 = 10) :
    outsAt0 m c (n + 1) hn = (k0_pay3 (outsAt0 m c n (by omega)).2 (iblk m c 3 ⟨n + 1, hn⟩) (iblk m c 4 ⟨n + 1, hn⟩)
        (outsAt0 m c n (by omega)).1 (iblk m c 5 ⟨n + 1, hn⟩), (outsAt0 m c n (by omega)).2) := by
  refine (outsAt0_B m c ⟨n + 1, hn⟩ h0 h1).trans ?_
  frame_out
  unfold sout0_B_0
  rw [read_unread_whole]
  rfl

/-- What the last point leaves: the rows plus half the normalised sum. -/
theorem outC (c : Dev nD) (n : ℕ) (hn : n + 1 < cfg0.N) (h0 : ¬ (n + 1) % 11 = 0) (h1 : (n + 1) % 11 = 10) :
    outsAt0 m c (n + 1) hn = (k0_pay4 (iblk m c 0 ⟨n + 1, hn⟩)
        (k0_pay3 (outsAt0 m c n (by omega)).2 (iblk m c 3 ⟨n + 1, hn⟩) (iblk m c 4 ⟨n + 1, hn⟩)
          (outsAt0 m c n (by omega)).1 (iblk m c 5 ⟨n + 1, hn⟩)) (iblk m c 2 ⟨n + 1, hn⟩), (outsAt0 m c n (by omega)).2) := by
  refine (outsAt0_C m c ⟨n + 1, hn⟩ h0 h1).trans ?_
  frame_out
  unfold sout0_C_0
  rw [read_unread_whole]
  rfl

/-- The rows of tile `q` as the scratch holds them. -/
def Rows (c : Dev nD) (q : ℕ) (hq : q < 18) (n : FVec Ideal S512x2048 .bf16) : Prop :=
  ∀ (r : Fin 512) (k : Fin 2048), n (ix2 r k) = xn m c ⟨512 * q + r.val, by omega⟩ k

/-- The sum of the first `s` tiles' shares, over the rows of tile `q`. -/
def Sums (c : Dev nD) (q : ℕ) (hq : q < 18) (s : ℕ) (a : FVec Ideal S512x2048 .f32) : Prop :=
  ∀ (r : Fin 512) (j : Fin 2048), a (ix2 r j)
    = ∑ p ∈ Finset.range s, ∑ l : Fin 512, share m c ⟨512 * q + r.val, by omega⟩ j (512 * p + l)

/-- One accumulation step. -/
theorem sums_step (c : Dev nD) (q : ℕ) (hq : q < 18) (s : ℕ) (t : Fin cfg0.N) (hd : t.val / 11 = q) (hs : t.val % 11 = s)
    (n : FVec Ideal S512x2048 .bf16) (a : FVec Ideal S512x2048 .f32) (hn : Rows m c q hq n) (ha : Sums m c q hq s a) :
    Sums m c q hq (s + 1) (k0_pay3 n (iblk m c 3 t) (iblk m c 4 t) a (iblk m c 5 t)) := by
  subst hd
  intro r j
  rw [Finset.sum_range_succ, ← ha r j]
  refine (pay3_at n _ _ a _ r j).trans (congrArg (fun z => a (ix2 r j) + z) ?_)
  exact part_eq m c t n r j (by omega) (hn r) s hs

/-- After `s + 1` of a row tile's first ten points the scratch holds the normalised rows and the block the sum of the
    first `s + 1` tiles' shares. -/
theorem running (c : Dev nD) (q : ℕ) (hq : q < 18) : ∀ (s : ℕ) (hs : s < 10) (hn : 11 * q + s < cfg0.N),
    Rows m c q hq (outsAt0 m c (11 * q + s) hn).2 ∧ Sums m c q hq (s + 1) (outsAt0 m c (11 * q + s) hn).1 := by
  intro s
  induction s with
  | zero =>
    intro hs hn
    have h0 : (⟨11 * q + 0, hn⟩ : Fin cfg0.N).val % 11 = 0 := by simp
    have h1 : ¬ (⟨11 * q + 0, hn⟩ : Fin cfg0.N).val % 11 = 10 := by rw [h0]; decide
    have hd : (⟨11 * q + 0, hn⟩ : Fin cfg0.N).val / 11 = q := by simp
    have hrow : Rows m c q hq (k0_pay1 (iblk m c 0 ⟨11 * q + 0, hn⟩) (iblk m c 1 ⟨11 * q + 0, hn⟩)) := by
      intro r k
      refine (pay1_at _ _ r k).trans ?_
      unfold xn
      refine congrArg₂ (fun a b => FfnSpec.rms a b k) ?_ ?_
      · funext i
        refine (blk0 m c ⟨11 * q + 0, hn⟩ r i (by rw [hd]; omega)).trans ?_
        simp only [hd]
      · funext i; exact blk1 m c _ i
    rw [outA m c ⟨11 * q + 0, hn⟩ h0 h1]
    refine ⟨hrow, sums_step m c q hq 0 _ hd h0 _ _ hrow fun r j => ?_⟩
    rw [Finset.sum_range_zero]; exact pay2_at _
  | succ s ih =>
    intro hs hn
    obtain ⟨hrow, hsum⟩ := ih (by omega) (by omega)
    rw [show outsAt0 m c (11 * q + (s + 1)) hn = _ from outB m c (11 * q + s) hn (by omega) (by omega)]
    exact ⟨hrow, sums_step m c q hq (s + 1) ⟨11 * q + s + 1, hn⟩ (by show (11 * q + s + 1) / 11 = q; omega)
      (by show (11 * q + s + 1) % 11 = s + 1; omega) _ _ hrow hsum⟩

/-- What the last point of row tile `q` leaves in the block. -/
theorem last (c : Dev nD) (q : ℕ) (hq : q < 18) (hn : 11 * q + 10 < cfg0.N) (r : Fin 512) (j : Fin 2048) :
    (outsAt0 m c (11 * q + 10) hn).1 (ix2 r j)
      = FfnSpec.out (fun k => X m c (ix2 ⟨512 * q + r.val, by omega⟩ k)) (fun k => gpre m c (ix1 k)) (fun k => gpost m c (ix1 k))
          (fun k l => wg m c (ix2 k l)) (fun k l => wu m c (ix2 k l)) (fun l j => wd m c (ix2 l j)) j := by
  obtain ⟨hrow, hsum⟩ := running m c q hq 9 (by omega) (by omega)
  have hd : (⟨11 * q + 9 + 1, hn⟩ : Fin cfg0.N).val / 11 = q := by show (11 * q + 9 + 1) / 11 = q; omega
  have hs : (⟨11 * q + 9 + 1, hn⟩ : Fin cfg0.N).val % 11 = 10 := by show (11 * q + 9 + 1) % 11 = 10; omega
  rw [show outsAt0 m c (11 * q + 10) hn = _ from outC m c (11 * q + 9) hn (by omega) (by omega)]
  have hfull := sums_step m c q hq 10 ⟨11 * q + 9 + 1, hn⟩ hd hs _ _ hrow hsum
  refine (pay4_at _ _ _ r j).trans ?_
  unfold FfnSpec.out
  have e0 : (show FVec Ideal S512x2048 .f32 from iblk m c 0 ⟨11 * q + 9 + 1, hn⟩) (ix2 r j) = X m c (ix2 ⟨512 * q + r.val, by omega⟩ j) := by
    refine (blk0 m c _ r j (by rw [hd]; omega)).trans ?_
    simp only [hd]
  refine congrArg₂ (fun a b => a + Ideal.ofBits .f32 0x3F000000#32 * b) e0 ?_
  have e2 : (fun i => (show FVec Ideal S1x2048 .f32 from iblk m c 2 ⟨11 * q + 9 + 1, hn⟩) (ix2 0 i)) = fun i : Fin 2048 => gpost m c (ix1 i) :=
    funext fun i => blk2 m c _ i
  refine congrArg₂ (fun a b => FfnSpec.rms a b j) (funext fun i => ?_) e2
  refine (hfull r i).trans ?_
  rw [FfnSpec.sum_tiles (share m c ⟨512 * q + r.val, by omega⟩ i) fun l hl => dif_neg (by omega)]
  refine Finset.sum_congr rfl fun l _ => ?_
  unfold share
  rw [dif_pos l.isLt]
  rfl

/-- The reference's result, read at an index. -/
theorem reference_at (c : Dev nD)
    (m' : (ℓ : Loc Cert.FfnReferenceIdeal.nD Cert.FfnReferenceIdeal.τ Cert.FfnReferenceIdeal.sig) → Buf (Elt Ideal) ℓ) (c' : Dev Cert.FfnReferenceIdeal.nD)
    (h0 : m' ((c'.tc : Thread Cert.FfnReferenceIdeal.nD Cert.FfnReferenceIdeal.τ).loc Cert.FfnReferenceIdeal.main_arg0) = m ((c.tc : Thread nD τ).loc main_arg0))
    (h1 : m' ((c'.tc : Thread Cert.FfnReferenceIdeal.nD Cert.FfnReferenceIdeal.τ).loc Cert.FfnReferenceIdeal.main_arg1) = m ((c.tc : Thread nD τ).loc main_arg1))
    (h2 : m' ((c'.tc : Thread Cert.FfnReferenceIdeal.nD Cert.FfnReferenceIdeal.τ).loc Cert.FfnReferenceIdeal.main_arg2) = m ((c.tc : Thread nD τ).loc main_arg2))
    (h3 : m' ((c'.tc : Thread Cert.FfnReferenceIdeal.nD Cert.FfnReferenceIdeal.τ).loc Cert.FfnReferenceIdeal.main_arg3) = m ((c.tc : Thread nD τ).loc main_arg3))
    (h4 : m' ((c'.tc : Thread Cert.FfnReferenceIdeal.nD Cert.FfnReferenceIdeal.τ).loc Cert.FfnReferenceIdeal.main_arg4) = m ((c.tc : Thread nD τ).loc main_arg4))
    (h5 : m' ((c'.tc : Thread Cert.FfnReferenceIdeal.nD Cert.FfnReferenceIdeal.τ).loc Cert.FfnReferenceIdeal.main_arg5) = m ((c.tc : Thread nD τ).loc main_arg5)) (R : Fin 9216) (j : Fin 2048) :
    Cert.FfnReferenceIdeal.Value.res_main_v33 m' c' (ix2 R j)
      = FfnSpec.out (fun k => X m c (ix2 R k)) (fun k => gpre m c (ix1 k)) (fun k => gpost m c (ix1 k))
          (fun k l => wg m c (ix2 k l)) (fun k l => wu m c (ix2 k l)) (fun l j => wd m c (ix2 l j)) j := by
  unfold Cert.FfnReferenceIdeal.Value.res_main_v33
  rw [h0, h1, h2, h3, h4, h5]
  pointwise [FfnSpec.out, FfnSpec.rms, FfnSpec.unit, Ideal.logistic]

/-- The result array after the run is the reference's term of the same arguments: the 18 flushed blocks tile it. -/
theorem final (c : Dev nD)
    (m' : (ℓ : Loc Cert.FfnReferenceIdeal.nD Cert.FfnReferenceIdeal.τ Cert.FfnReferenceIdeal.sig) → Buf (Elt Ideal) ℓ) (c' : Dev Cert.FfnReferenceIdeal.nD)
    (h0 : m' ((c'.tc : Thread Cert.FfnReferenceIdeal.nD Cert.FfnReferenceIdeal.τ).loc Cert.FfnReferenceIdeal.main_arg0) = m ((c.tc : Thread nD τ).loc main_arg0))
    (h1 : m' ((c'.tc : Thread Cert.FfnReferenceIdeal.nD Cert.FfnReferenceIdeal.τ).loc Cert.FfnReferenceIdeal.main_arg1) = m ((c.tc : Thread nD τ).loc main_arg1))
    (h2 : m' ((c'.tc : Thread Cert.FfnReferenceIdeal.nD Cert.FfnReferenceIdeal.τ).loc Cert.FfnReferenceIdeal.main_arg2) = m ((c.tc : Thread nD τ).loc main_arg2))
    (h3 : m' ((c'.tc : Thread Cert.FfnReferenceIdeal.nD Cert.FfnReferenceIdeal.τ).loc Cert.FfnReferenceIdeal.main_arg3) = m ((c.tc : Thread nD τ).loc main_arg3))
    (h4 : m' ((c'.tc : Thread Cert.FfnReferenceIdeal.nD Cert.FfnReferenceIdeal.τ).loc Cert.FfnReferenceIdeal.main_arg4) = m ((c.tc : Thread nD τ).loc main_arg4))
    (h5 : m' ((c'.tc : Thread Cert.FfnReferenceIdeal.nD Cert.FfnReferenceIdeal.τ).loc Cert.FfnReferenceIdeal.main_arg5) = m ((c.tc : Thread nD τ).loc main_arg5)) :
    (dats m 0 c).arrAt 6 (cfgs 0).N = Cert.FfnReferenceIdeal.Value.res_main_v33 m' c' := by
  refine (dats m 0 c).arrAt_eq_of_cover 6 _ (fun t hf => ?_) (fun i => (Value.covered_iff6 i).2 (by
    have h0 : (i 0).val < 9216 := (i 0).isLt; have h1 : (i 1).val < 2048 := (i 1).isLt; omega))
  have hm := (flush0_6 t).mp hf
  have hN : t.val < 198 := t.isLt
  show (cfg0.win 6).cut (grid0.coords t) ((dats m 0 c).after 6 t) = _
  rw [after0_6]
  obtain ⟨-, -, -, -, -, -, hi⟩ := idx t
  funext y
  have hy0 : (y 0).val < 512 := (y 0).isLt
  have hy1 : (y 1).val < 2048 := (y 1).isLt
  have hR : 512 * (t.val / 11) + (y 0).val < 9216 := by omega
  have hb0 : (((cfg0.win 6).blk t).view.emb y 0).val = win0_6.index t (0 : Fin 2) * 512 + 1 * (y 0).val := rfl
  have hb1 : (((cfg0.win 6).blk t).view.emb y 1).val = win0_6.index t (1 : Fin 2) * 2048 + 1 * (y 1).val := rfl
  rw [hi] at hb0 hb1
  have he : ((cfg0.win 6).blk t).view.emb y
      = ix2 (⟨512 * (t.val / 11) + (y 0).val, hR⟩ : Fin 9216) (⟨(y 1).val, hy1⟩ : Fin 2048) := by
    funext a
    fin_cases a
    · exact Fin.ext (hb0.trans (by show t.val / 11 * 512 + 1 * (y 0).val = 512 * (t.val / 11) + (y 0).val; omega))
    · exact Fin.ext (hb1.trans (by show 0 * 2048 + 1 * (y 1).val = (y 1).val; omega))
  show (outsAt0 m c t.val t.isLt).1 y = FfnReferenceIdeal.Value.res_main_v33 m' c' (((cfg0.win 6).blk t).view.emb y)
  rw [he, reference_at m c m' c' h0 h1 h2 h3 h4 h5]
  clear he hb0 hb1 hi hf
  obtain ⟨n, hn⟩ := t
  obtain ⟨q, rfl⟩ : ∃ q, n = 11 * q + 10 := ⟨n / 11, by simp only at hm; omega⟩
  have hd : (11 * q + 10) / 11 = q := by omega
  simp only [hd]
  refine (congrArg _ (eq_ix2 y)).trans ?_
  exact last m c q (by simp only at hN; omega) hn ⟨(y 0).val, hy0⟩ ⟨(y 1).val, hy1⟩

end Cert.FfnIdeal.RefValue

namespace Cert.Proof.FfnClaims

/-- The feed-forward call and its reference end with equal results. -/
theorem algebraic : Cert.algebraic_FfnIdeal_FfnReferenceIdeal := by
  intro m g m' g' _ hag
  refine ⟨fun c => Cert.FfnIdeal.Value.G6 m c, Cert.FfnIdeal.Value.run (F := Ideal) m g, ?_⟩
  refine (θ_run Cert.FfnReferenceIdeal.defs _ _).mono (fun _ h c => ⟨(h c).1.trans ?_, (h c).2⟩)
    (Cert.FfnReferenceIdeal.Value.run (F := Ideal) m' g')
  obtain ⟨h0, h1, h2, h3, h4, h5⟩ := hag c
  exact (Cert.FfnIdeal.RefValue.final m c m' c h0 h1 h2 h3 h4 h5).symm.trans (Cert.FfnIdeal.Value.final6 m c)

/-- The feed-forward reference's frame: its run, which leaves the arguments as they were; it has no semaphore. -/
theorem frame_reference : Cert.quiescent_FfnReferenceIdeal := fun m ρ _ =>
  (θ_run Cert.FfnReferenceIdeal.defs _ _).mono (fun r h => ⟨fun c => (h c).2,
      Idealize.ShloMosaic.sem_eq_zero_of_no_sems (by decide) r.2⟩)
    (Cert.FfnReferenceIdeal.Value.run (F := Ideal) m ρ)

end Cert.Proof.FfnClaims
-- ==== Proof.InprojRun.lean ====
/-
  The body of the input projection's call, run at one grid point: what it leaves in each output's block and in the
  scratch holding the normalised rows, as a function of what it found there and of the point's input blocks.
-/
module

public import proofs.«01_k».proof.Proof.Gen.InprojIdeal.Frame
public import proofs.«01_k».proof.Proof.Gen.InprojIdeal.Skeleton
public import Idealize.ShloMosaic.Lib.VecWindow

@[expose] public section

set_option maxRecDepth 16384

noncomputable section

namespace Cert.InprojIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.InprojIdeal.Gen

variable {F : FTy → Type} [FloatOps F] [Named F]

local notation "𝕄" => MT nD τ sig Unit (Elt F) ℕ (UR sig nD τ) ℕ

/-- The 1024 gate biases beginning at column `o`. -/
def cut (o : ℕ) (ho : o + 1024 ≤ 4096) (b : Vec F S1x4096 .f32) : Vec F S1x1024 .f32 :=
  VecWindow.window b ![0, o] S1x1024.size (Fin.forall_fin_two.mpr ⟨Nat.le_refl 1, ho⟩)

/-- The scratch of normalised rows after the point. -/
def stepS (i : grid0.Coords) (x0 : Vec F S512x2048 .f32) (x1 : Vec F S1x2048 .f32) (xs : Vec F S512x2048 .bf16) : Vec F S512x2048 .bf16 :=
  if k0_cond1 i = 1#1 then k0_pay6 x0 x1 else xs
/-- The queries' block after the point. -/
def step6 (i : grid0.Coords) (xs : Vec F S512x2048 .bf16) (x2 : Vec F S2048x1024 .bf16) (y : Vec F S512x1024 .bf16) : Vec F S512x1024 .bf16 :=
  if k0_cond2 i = 1#1 then k0_pay9 xs x2 else y
/-- The recurrence's input block after the point. -/
def step7 (i : grid0.Coords) (xs : Vec F S512x2048 .bf16) (x2 : Vec F S2048x1024 .bf16) (y : Vec F S512x1024 .f32) : Vec F S512x1024 .f32 :=
  if k0_cond7 i = 1#1 then k0_pay8 xs x2 else y
/-- The gates' block after the point: one of its four column blocks is replaced at each of the last four points of a row block. -/
def step8 (i : grid0.Coords) (xs : Vec F S512x2048 .bf16) (x2 : Vec F S2048x1024 .bf16) (x5 : Vec F S1x4096 .f32) (y : Vec F S512x4096 .bf16) : Vec F S512x4096 .bf16 :=
  if k0_cond8 i = 1#1 then VecWindow.put y ![0, 0] S512x1024.size (k0_pay1 (k0_pay8 xs x2) (cut 0 (by decide) x5))
  else if k0_cond9 i = 1#1 then VecWindow.put y ![0, 1024] S512x1024.size (k0_pay2 (k0_pay8 xs x2) (cut 1024 (by decide) x5))
  else if k0_cond10 i = 1#1 then VecWindow.put y ![0, 2048] S512x1024.size (k0_pay3 (k0_pay8 xs x2) (cut 2048 (by decide) x5))
  else if k0_cond11 i = 1#1 then VecWindow.put y ![0, 3072] S512x1024.size (k0_pay4 (k0_pay8 xs x2) (cut 3072 (by decide) x5))
  else y
/-- The log forget values' block after the point. -/
def step9 (i : grid0.Coords) (x0 : Vec F S512x2048 .f32) (x1 : Vec F S1x2048 .f32) (x3 : Vec F S2048x128 .bf16) (x4 : Vec F S1x128 .f32) (y : Vec F S512x128 .f32) : Vec F S512x128 .f32 :=
  if k0_cond1 i = 1#1 then k0_pay7 x0 x1 x3 x4 else y
/-- The prompt keys' block after the point. -/
def step10 (i : grid0.Coords) (xs : Vec F S512x2048 .bf16) (x2 : Vec F S2048x1024 .bf16) (y : Vec F S1x512x1024 .f32) : Vec F S1x512x1024 .f32 :=
  if k0_cond3 i = 1#1 then k0_pay10 xs x2 else y
/-- The prompt values' block after the point. -/
def step11 (i : grid0.Coords) (xs : Vec F S512x2048 .bf16) (x2 : Vec F S2048x1024 .bf16) (y : Vec F S1x512x1024 .f32) : Vec F S1x512x1024 .f32 :=
  if k0_cond5 i = 1#1 then k0_pay12 xs x2 else y
/-- The sample keys' block after the point. -/
def step12 (i : grid0.Coords) (xs : Vec F S512x2048 .bf16) (x2 : Vec F S2048x1024 .bf16) (y : Vec F S1x512x1024 .f32) : Vec F S1x512x1024 .f32 :=
  if k0_cond4 i = 1#1 then k0_pay11 xs x2 else y
/-- The sample values' block after the point. -/
def step13 (i : grid0.Coords) (xs : Vec F S512x2048 .bf16) (x2 : Vec F S2048x1024 .bf16) (y : Vec F S1x512x1024 .f32) : Vec F S1x512x1024 .f32 :=
  if k0_cond6 i = 1#1 then k0_pay13 xs x2 else y

/-- Which branches are taken together at a point. -/
def Taken (i : grid0.Coords) : Prop :=
    (k0_cond1 i = 1#1 ∧ k0_cond2 i = 1#1 ∧ ¬k0_cond3 i = 1#1 ∧ ¬k0_cond4 i = 1#1 ∧ ¬k0_cond5 i = 1#1 ∧ ¬k0_cond6 i = 1#1 ∧ ¬k0_cond7 i = 1#1 ∧ ¬k0_cond8 i = 1#1 ∧ ¬k0_cond9 i = 1#1 ∧ ¬k0_cond10 i = 1#1 ∧ ¬k0_cond11 i = 1#1)
    ∨ (¬k0_cond1 i = 1#1 ∧ ¬k0_cond2 i = 1#1 ∧ k0_cond3 i = 1#1 ∧ ¬k0_cond4 i = 1#1 ∧ ¬k0_cond5 i = 1#1 ∧ ¬k0_cond6 i = 1#1 ∧ ¬k0_cond7 i = 1#1 ∧ ¬k0_cond8 i = 1#1 ∧ ¬k0_cond9 i = 1#1 ∧ ¬k0_cond10 i = 1#1 ∧ ¬k0_cond11 i = 1#1)
    ∨ (¬k0_cond1 i = 1#1 ∧ ¬k0_cond2 i = 1#1 ∧ ¬k0_cond3 i = 1#1 ∧ k0_cond4 i = 1#1 ∧ ¬k0_cond5 i = 1#1 ∧ ¬k0_cond6 i = 1#1 ∧ ¬k0_cond7 i = 1#1 ∧ ¬k0_cond8 i = 1#1 ∧ ¬k0_cond9 i = 1#1 ∧ ¬k0_cond10 i = 1#1 ∧ ¬k0_cond11 i = 1#1)
    ∨ (¬k0_cond1 i = 1#1 ∧ ¬k0_cond2 i = 1#1 ∧ ¬k0_cond3 i = 1#1 ∧ ¬k0_cond4 i = 1#1 ∧ k0_cond5 i = 1#1 ∧ ¬k0_cond6 i = 1#1 ∧ ¬k0_cond7 i = 1#1 ∧ ¬k0_cond8 i = 1#1 ∧ ¬k0_cond9 i = 1#1 ∧ ¬k0_cond10 i = 1#1 ∧ ¬k0_cond11 i = 1#1)
    ∨ (¬k0_cond1 i = 1#1 ∧ ¬k0_cond2 i = 1#1 ∧ ¬k0_cond3 i = 1#1 ∧ ¬k0_cond4 i = 1#1 ∧ ¬k0_cond5 i = 1#1 ∧ k0_cond6 i = 1#1 ∧ ¬k0_cond7 i = 1#1 ∧ ¬k0_cond8 i = 1#1 ∧ ¬k0_cond9 i = 1#1 ∧ ¬k0_cond10 i = 1#1 ∧ ¬k0_cond11 i = 1#1)
    ∨ (¬k0_cond1 i = 1#1 ∧ ¬k0_cond2 i = 1#1 ∧ ¬k0_cond3 i = 1#1 ∧ ¬k0_cond4 i = 1#1 ∧ ¬k0_cond5 i = 1#1 ∧ ¬k0_cond6 i = 1#1 ∧ k0_cond7 i = 1#1 ∧ ¬k0_cond8 i = 1#1 ∧ ¬k0_cond9 i = 1#1 ∧ ¬k0_cond10 i = 1#1 ∧ ¬k0_cond11 i = 1#1)
    ∨ (¬k0_cond1 i = 1#1 ∧ ¬k0_cond2 i = 1#1 ∧ ¬k0_cond3 i = 1#1 ∧ ¬k0_cond4 i = 1#1 ∧ ¬k0_cond5 i = 1#1 ∧ ¬k0_cond6 i = 1#1 ∧ ¬k0_cond7 i = 1#1 ∧ k0_cond8 i = 1#1 ∧ ¬k0_cond9 i = 1#1 ∧ ¬k0_cond10 i = 1#1 ∧ ¬k0_cond11 i = 1#1)
    ∨ (¬k0_cond1 i = 1#1 ∧ ¬k0_cond2 i = 1#1 ∧ ¬k0_cond3 i = 1#1 ∧ ¬k0_cond4 i = 1#1 ∧ ¬k0_cond5 i = 1#1 ∧ ¬k0_cond6 i = 1#1 ∧ ¬k0_cond7 i = 1#1 ∧ ¬k0_cond8 i = 1#1 ∧ k0_cond9 i = 1#1 ∧ ¬k0_cond10 i = 1#1 ∧ ¬k0_cond11 i = 1#1)
    ∨ (¬k0_cond1 i = 1#1 ∧ ¬k0_cond2 i = 1#1 ∧ ¬k0_cond3 i = 1#1 ∧ ¬k0_cond4 i = 1#1 ∧ ¬k0_cond5 i = 1#1 ∧ ¬k0_cond6 i = 1#1 ∧ ¬k0_cond7 i = 1#1 ∧ ¬k0_cond8 i = 1#1 ∧ ¬k0_cond9 i = 1#1 ∧ k0_cond10 i = 1#1 ∧ ¬k0_cond11 i = 1#1)
    ∨ (¬k0_cond1 i = 1#1 ∧ ¬k0_cond2 i = 1#1 ∧ ¬k0_cond3 i = 1#1 ∧ ¬k0_cond4 i = 1#1 ∧ ¬k0_cond5 i = 1#1 ∧ ¬k0_cond6 i = 1#1 ∧ ¬k0_cond7 i = 1#1 ∧ ¬k0_cond8 i = 1#1 ∧ ¬k0_cond9 i = 1#1 ∧ ¬k0_cond10 i = 1#1 ∧ k0_cond11 i = 1#1)

/-- One point of the body, on whole staging buffers: from any contents of the outputs to the point's. -/
def Runs (i : grid0.Coords) : Prop :=
  ∀ (c : Dev nD) (E : Set ℕ)
    (arg2 : Memref sig .tc .vmem S512x2048 .f32) (harg2 : arg2.IsWhole)
    (arg3 : Memref sig .tc .vmem S1x2048 .f32) (harg3 : arg3.IsWhole)
    (arg4 : Memref sig .tc .vmem S2048x1024 .bf16) (harg4 : arg4.IsWhole)
    (arg5 : Memref sig .tc .vmem S2048x128 .bf16) (harg5 : arg5.IsWhole)
    (arg6 : Memref sig .tc .vmem S1x128 .f32) (harg6 : arg6.IsWhole)
    (arg7 : Memref sig .tc .vmem S1x4096 .f32) (harg7 : arg7.IsWhole)
    (arg8 : Memref sig .tc .hbm S4x8192x1024 .f32) (harg8 : arg8.IsWhole)
    (arg9 : Memref sig .tc .hbm S4x8192x1024 .f32) (harg9 : arg9.IsWhole)
    (arg10 : Memref sig .tc .hbm S4x1024x1024 .f32) (harg10 : arg10.IsWhole)
    (arg11 : Memref sig .tc .hbm S4x1024x1024 .f32) (harg11 : arg11.IsWhole)
    (arg12 : Memref sig .tc .vmem S512x1024 .bf16) (harg12 : arg12.IsWhole)
    (arg13 : Memref sig .tc .vmem S512x1024 .f32) (harg13 : arg13.IsWhole)
    (arg14 : Memref sig .tc .vmem S512x4096 .bf16) (harg14 : arg14.IsWhole)
    (arg15 : Memref sig .tc .vmem S512x128 .f32) (harg15 : arg15.IsWhole)
    (arg16 : Memref sig .tc .vmem S1x512x1024 .f32) (harg16 : arg16.IsWhole)
    (arg17 : Memref sig .tc .vmem S1x512x1024 .f32) (harg17 : arg17.IsWhole)
    (arg18 : Memref sig .tc .vmem S1x512x1024 .f32) (harg18 : arg18.IsWhole)
    (arg19 : Memref sig .tc .vmem S1x512x1024 .f32) (harg19 : arg19.IsWhole)
    (arg20 : Memref sig .tc .vmem S512x2048 .bf16) (harg20 : arg20.IsWhole)
    (x0 : Vec F S512x2048 .f32) (x1 : Vec F S1x2048 .f32) (x2 : Vec F S2048x1024 .bf16) (x3 : Vec F S2048x128 .bf16) (x4 : Vec F S1x128 .f32) (x5 : Vec F S1x4096 .f32)
    (y6 : Vec F S512x1024 .bf16) (y7 : Vec F S512x1024 .f32) (y8 : Vec F S512x4096 .bf16) (y9 : Vec F S512x128 .f32) (y10 : Vec F S1x512x1024 .f32) (y11 : Vec F S1x512x1024 .f32) (y12 : Vec F S1x512x1024 .f32) (y13 : Vec F S1x512x1024 .f32)
    (xs : Vec F S512x2048 .bf16) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
      ∗ owns (c : Thread nD τ) arg12 fullShare y6 ∗ owns (c : Thread nD τ) arg13 fullShare y7 ∗ owns (c : Thread nD τ) arg14 fullShare y8 ∗ owns (c : Thread nD τ) arg15 fullShare y9 ∗ owns (c : Thread nD τ) arg16 fullShare y10 ∗ owns (c : Thread nD τ) arg17 fullShare y11 ∗ owns (c : Thread nD τ) arg18 fullShare y12 ∗ owns (c : Thread nD τ) arg19 fullShare y13
      ∗ owns (c : Thread nD τ) arg20 fullShare xs
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg12 fullShare (step6 i (stepS i x0 x1 xs) x2 y6) ∗ owns (c : Thread nD τ) arg13 fullShare (step7 i (stepS i x0 x1 xs) x2 y7) ∗ owns (c : Thread nD τ) arg14 fullShare (step8 i (stepS i x0 x1 xs) x2 x5 y8) ∗ owns (c : Thread nD τ) arg15 fullShare (step9 i x0 x1 x3 x4 y9) ∗ owns (c : Thread nD τ) arg16 fullShare (step10 i (stepS i x0 x1 xs) x2 y10) ∗ owns (c : Thread nD τ) arg17 fullShare (step11 i (stepS i x0 x1 xs) x2 y11) ∗ owns (c : Thread nD τ) arg18 fullShare (step12 i (stepS i x0 x1 xs) x2 y12) ∗ owns (c : Thread nD τ) arg19 fullShare (step13 i (stepS i x0 x1 xs) x2 y13)
        ∗ owns (c : Thread nD τ) arg20 fullShare (stepS i x0 x1 xs)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K

set_option maxHeartbeats 1600000 in
/-- The body at a point taking the branches 1, 2 alone. -/
theorem run0 (i : grid0.Coords) (h1 : k0_cond1 i = 1#1) (h2 : k0_cond2 i = 1#1) (h3 : ¬k0_cond3 i = 1#1) (h4 : ¬k0_cond4 i = 1#1) (h5 : ¬k0_cond5 i = 1#1) (h6 : ¬k0_cond6 i = 1#1) (h7 : ¬k0_cond7 i = 1#1) (h8 : ¬k0_cond8 i = 1#1) (h9 : ¬k0_cond9 i = 1#1) (h10 : ¬k0_cond10 i = 1#1) (h11 : ¬k0_cond11 i = 1#1) : Runs (F := F) i := by
  intro c E arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 y6 y7 y8 y9 y10 y11 y12 y13 xs K
  simp only [stepS, step6, step7, step8, step9, step10, step11, step12, step13, h1, h2, h3, h4, h5, h6, h7, h8, h9, h10, h11, if_true, if_false]
  simp only [cc0_inproj_eq_skeleton]; unfold cc0_inproj_skel; simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
  sl_exec (disch := first | sl_exact h1 | sl_exact h2 | sl_exact h3 | sl_exact h4 | sl_exact h5 | sl_exact h6 | sl_exact h7 | sl_exact h8 | sl_exact h9 | sl_exact h10 | sl_exact h11)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H12]
  · iexists _; isplitr; swap; · iexact H12
    ipureintro; refine (View.read_writes_full _ _ _ _ _).trans ?_
    unfold run0.sl.v3
    refine congrArg₂ k0_pay9 ((View.readCov_full _ _ _ _ _).trans ?_) ((View.readAt_full _ _ _).trans (harg4.read_unread _))
    exact congrArg₂ k0_pay6 ((View.readAt_full _ _ _).trans (harg2.read_unread _)) ((View.readAt_full _ _ _).trans (harg3.read_unread _))
  isplitl [H13]
  · iexists _; isplitr; · ipureintro; exact harg13.read_unread _
    iexact H13
  isplitl [H14]
  · iexists _; isplitr; · ipureintro; exact harg14.read_unread _
    iexact H14
  isplitl [H15]
  · iexists _; isplitr; swap; · iexact H15
    ipureintro; refine (View.read_writes_full _ _ _ _ _).trans ?_
    rw [View.readAt_full, View.readAt_full, View.readAt_full, View.readAt_full, harg2.read_unread, harg3.read_unread, harg5.read_unread, harg6.read_unread]
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  iexists _; isplitr; swap; · iexact H20
  ipureintro; unfold run0.sl.H20_1
  refine (View.read_writes_full _ _ _ _ _).trans ?_
  exact congrArg₂ k0_pay6 ((View.readAt_full _ _ _).trans (harg2.read_unread _)) ((View.readAt_full _ _ _).trans (harg3.read_unread _))

set_option maxHeartbeats 1600000 in
/-- The body at a point taking the branch 3 alone. -/
theorem run1 (i : grid0.Coords) (h1 : ¬k0_cond1 i = 1#1) (h2 : ¬k0_cond2 i = 1#1) (h3 : k0_cond3 i = 1#1) (h4 : ¬k0_cond4 i = 1#1) (h5 : ¬k0_cond5 i = 1#1) (h6 : ¬k0_cond6 i = 1#1) (h7 : ¬k0_cond7 i = 1#1) (h8 : ¬k0_cond8 i = 1#1) (h9 : ¬k0_cond9 i = 1#1) (h10 : ¬k0_cond10 i = 1#1) (h11 : ¬k0_cond11 i = 1#1) : Runs (F := F) i := by
  intro c E arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 y6 y7 y8 y9 y10 y11 y12 y13 xs K
  simp only [stepS, step6, step7, step8, step9, step10, step11, step12, step13, h1, h2, h3, h4, h5, h6, h7, h8, h9, h10, h11, if_true, if_false]
  simp only [cc0_inproj_eq_skeleton]; unfold cc0_inproj_skel; simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
  sl_exec (disch := first | sl_exact h1 | sl_exact h2 | sl_exact h3 | sl_exact h4 | sl_exact h5 | sl_exact h6 | sl_exact h7 | sl_exact h8 | sl_exact h9 | sl_exact h10 | sl_exact h11)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; swap; · iexact H16
    ipureintro; refine (View.read_writes_full _ _ _ _ _).trans ?_
    rw [View.readAt_full, View.readAt_full, harg20.read_unread, harg4.read_unread]
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  iexists _; isplitr; swap; · iexact H20
  ipureintro; exact harg20.read_unread _

set_option maxHeartbeats 1600000 in
/-- The body at a point taking the branch 4 alone. -/
theorem run2 (i : grid0.Coords) (h1 : ¬k0_cond1 i = 1#1) (h2 : ¬k0_cond2 i = 1#1) (h3 : ¬k0_cond3 i = 1#1) (h4 : k0_cond4 i = 1#1) (h5 : ¬k0_cond5 i = 1#1) (h6 : ¬k0_cond6 i = 1#1) (h7 : ¬k0_cond7 i = 1#1) (h8 : ¬k0_cond8 i = 1#1) (h9 : ¬k0_cond9 i = 1#1) (h10 : ¬k0_cond10 i = 1#1) (h11 : ¬k0_cond11 i = 1#1) : Runs (F := F) i := by
  intro c E arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 y6 y7 y8 y9 y10 y11 y12 y13 xs K
  simp only [stepS, step6, step7, step8, step9, step10, step11, step12, step13, h1, h2, h3, h4, h5, h6, h7, h8, h9, h10, h11, if_true, if_false]
  simp only [cc0_inproj_eq_skeleton]; unfold cc0_inproj_skel; simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
  sl_exec (disch := first | sl_exact h1 | sl_exact h2 | sl_exact h3 | sl_exact h4 | sl_exact h5 | sl_exact h6 | sl_exact h7 | sl_exact h8 | sl_exact h9 | sl_exact h10 | sl_exact h11)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; swap; · iexact H18
    ipureintro; refine (View.read_writes_full _ _ _ _ _).trans ?_
    rw [View.readAt_full, View.readAt_full, harg20.read_unread, harg4.read_unread]
  isplitl [H19]
  · iexists _; isplitr; · ipureintro; exact harg19.read_unread _
    iexact H19
  iexists _; isplitr; swap; · iexact H20
  ipureintro; exact harg20.read_unread _

set_option maxHeartbeats 1600000 in
/-- The body at a point taking the branch 5 alone. -/
theorem run3 (i : grid0.Coords) (h1 : ¬k0_cond1 i = 1#1) (h2 : ¬k0_cond2 i = 1#1) (h3 : ¬k0_cond3 i = 1#1) (h4 : ¬k0_cond4 i = 1#1) (h5 : k0_cond5 i = 1#1) (h6 : ¬k0_cond6 i = 1#1) (h7 : ¬k0_cond7 i = 1#1) (h8 : ¬k0_cond8 i = 1#1) (h9 : ¬k0_cond9 i = 1#1) (h10 : ¬k0_cond10 i = 1#1) (h11 : ¬k0_cond11 i = 1#1) : Runs (F := F) i := by
  intro c E arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 y6 y7 y8 y9 y10 y11 y12 y13 xs K
  simp only [stepS, step6, step7, step8, step9, step10, step11, step12, step13, h1, h2, h3, h4, h5, h6, h7, h8, h9, h10, h11, if_true, if_false]
  simp only [cc0_inproj_eq_skeleton]; unfold cc0_inproj_skel; simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
  sl_exec (disch := first | sl_exact h1 | sl_exact h2 | sl_exact h3 | sl_exact h4 | sl_exact h5 | sl_exact h6 | sl_exact h7 | sl_exact h8 | sl_exact h9 | sl_exact h10 | sl_exact h11)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; swap; · iexact H17
    ipureintro; refine (View.read_writes_full _ _ _ _ _).trans ?_
    rw [View.readAt_full, View.readAt_full, harg20.read_unread, harg4.read_unread]
  isplitl [H18]
  · iexists _; isplitr; · ipureintro; exact harg18.read_unread _
    iexact H18
  isplitl [H19]
  · iexists _; isplitr; · ipureintro; exact harg19.read_unread _
    iexact H19
  iexists _; isplitr; swap; · iexact H20
  ipureintro; exact harg20.read_unread _

set_option maxHeartbeats 1600000 in
/-- The body at a point taking the branch 6 alone. -/
theorem run4 (i : grid0.Coords) (h1 : ¬k0_cond1 i = 1#1) (h2 : ¬k0_cond2 i = 1#1) (h3 : ¬k0_cond3 i = 1#1) (h4 : ¬k0_cond4 i = 1#1) (h5 : ¬k0_cond5 i = 1#1) (h6 : k0_cond6 i = 1#1) (h7 : ¬k0_cond7 i = 1#1) (h8 : ¬k0_cond8 i = 1#1) (h9 : ¬k0_cond9 i = 1#1) (h10 : ¬k0_cond10 i = 1#1) (h11 : ¬k0_cond11 i = 1#1) : Runs (F := F) i := by
  intro c E arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 y6 y7 y8 y9 y10 y11 y12 y13 xs K
  simp only [stepS, step6, step7, step8, step9, step10, step11, step12, step13, h1, h2, h3, h4, h5, h6, h7, h8, h9, h10, h11, if_true, if_false]
  simp only [cc0_inproj_eq_skeleton]; unfold cc0_inproj_skel; simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
  sl_exec (disch := first | sl_exact h1 | sl_exact h2 | sl_exact h3 | sl_exact h4 | sl_exact h5 | sl_exact h6 | sl_exact h7 | sl_exact h8 | sl_exact h9 | sl_exact h10 | sl_exact h11)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; swap; · iexact H19
    ipureintro; refine (View.read_writes_full _ _ _ _ _).trans ?_
    rw [View.readAt_full, View.readAt_full, harg20.read_unread, harg4.read_unread]
  iexists _; isplitr; swap; · iexact H20
  ipureintro; exact harg20.read_unread _

set_option maxHeartbeats 1600000 in
/-- The body at a point taking the branch 7 alone. -/
theorem run5 (i : grid0.Coords) (h1 : ¬k0_cond1 i = 1#1) (h2 : ¬k0_cond2 i = 1#1) (h3 : ¬k0_cond3 i = 1#1) (h4 : ¬k0_cond4 i = 1#1) (h5 : ¬k0_cond5 i = 1#1) (h6 : ¬k0_cond6 i = 1#1) (h7 : k0_cond7 i = 1#1) (h8 : ¬k0_cond8 i = 1#1) (h9 : ¬k0_cond9 i = 1#1) (h10 : ¬k0_cond10 i = 1#1) (h11 : ¬k0_cond11 i = 1#1) : Runs (F := F) i := by
  intro c E arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 y6 y7 y8 y9 y10 y11 y12 y13 xs K
  simp only [stepS, step6, step7, step8, step9, step10, step11, step12, step13, h1, h2, h3, h4, h5, h6, h7, h8, h9, h10, h11, if_true, if_false]
  simp only [cc0_inproj_eq_skeleton]; unfold cc0_inproj_skel; simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
  sl_exec (disch := first | sl_exact h1 | sl_exact h2 | sl_exact h3 | sl_exact h4 | sl_exact h5 | sl_exact h6 | sl_exact h7 | sl_exact h8 | sl_exact h9 | sl_exact h10 | sl_exact h11)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H12]
  · iexists _; isplitr; · ipureintro; exact harg12.read_unread _
    iexact H12
  isplitl [H13]
  · iexists _; isplitr; swap; · iexact H13
    ipureintro; refine (View.read_writes_full _ _ _ _ _).trans ?_
    rw [View.readAt_full, View.readAt_full, harg20.read_unread, harg4.read_unread]
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  iexists _; isplitr; swap; · iexact H20
  ipureintro; exact harg20.read_unread _

set_option maxHeartbeats 1600000 in
/-- The body at a point taking the branch 8 alone. -/
theorem run6 (i : grid0.Coords) (h1 : ¬k0_cond1 i = 1#1) (h2 : ¬k0_cond2 i = 1#1) (h3 : ¬k0_cond3 i = 1#1) (h4 : ¬k0_cond4 i = 1#1) (h5 : ¬k0_cond5 i = 1#1) (h6 : ¬k0_cond6 i = 1#1) (h7 : ¬k0_cond7 i = 1#1) (h8 : k0_cond8 i = 1#1) (h9 : ¬k0_cond9 i = 1#1) (h10 : ¬k0_cond10 i = 1#1) (h11 : ¬k0_cond11 i = 1#1) : Runs (F := F) i := by
  intro c E arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 y6 y7 y8 y9 y10 y11 y12 y13 xs K
  simp only [stepS, step6, step7, step8, step9, step10, step11, step12, step13, h1, h2, h3, h4, h5, h6, h7, h8, h9, h10, h11, if_true, if_false]
  simp only [cc0_inproj_eq_skeleton]; unfold cc0_inproj_skel; simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
  sl_exec (disch := first | sl_exact h1 | sl_exact h2 | sl_exact h3 | sl_exact h4 | sl_exact h5 | sl_exact h6 | sl_exact h7 | sl_exact h8 | sl_exact h9 | sl_exact h10 | sl_exact h11)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H12]
  · iexists _; isplitr; · ipureintro; exact harg12.read_unread _
    iexact H12
  isplitl [H13]
  · iexists _; isplitr; · ipureintro; exact harg13.read_unread _
    iexact H13
  isplitl [H14]
  · iexists _; isplitr; swap; · iexact H14
    ipureintro; refine (View.read_writes_cons_put _ _ _ _ _ rfl).trans ?_
    dsimp only
    rw [View.writes_nil, harg14.read_unread, View.readAt_full, View.readAt_full, harg20.read_unread, harg4.read_unread]
    refine congrArg (VecWindow.put _ _ _) (congrArg _ ?_)
    refine (View.readAt_unit _ _ _ rfl (Fin.forall_fin_two.mpr ⟨Nat.le_refl 1, by decide⟩)).trans ?_
    rw [harg7.read_unread, cut]
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  iexists _; isplitr; swap; · iexact H20
  ipureintro; exact harg20.read_unread _

set_option maxHeartbeats 1600000 in
/-- The body at a point taking the branch 9 alone. -/
theorem run7 (i : grid0.Coords) (h1 : ¬k0_cond1 i = 1#1) (h2 : ¬k0_cond2 i = 1#1) (h3 : ¬k0_cond3 i = 1#1) (h4 : ¬k0_cond4 i = 1#1) (h5 : ¬k0_cond5 i = 1#1) (h6 : ¬k0_cond6 i = 1#1) (h7 : ¬k0_cond7 i = 1#1) (h8 : ¬k0_cond8 i = 1#1) (h9 : k0_cond9 i = 1#1) (h10 : ¬k0_cond10 i = 1#1) (h11 : ¬k0_cond11 i = 1#1) : Runs (F := F) i := by
  intro c E arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 y6 y7 y8 y9 y10 y11 y12 y13 xs K
  simp only [stepS, step6, step7, step8, step9, step10, step11, step12, step13, h1, h2, h3, h4, h5, h6, h7, h8, h9, h10, h11, if_true, if_false]
  simp only [cc0_inproj_eq_skeleton]; unfold cc0_inproj_skel; simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
  sl_exec (disch := first | sl_exact h1 | sl_exact h2 | sl_exact h3 | sl_exact h4 | sl_exact h5 | sl_exact h6 | sl_exact h7 | sl_exact h8 | sl_exact h9 | sl_exact h10 | sl_exact h11)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H12]
  · iexists _; isplitr; · ipureintro; exact harg12.read_unread _
    iexact H12
  isplitl [H13]
  · iexists _; isplitr; · ipureintro; exact harg13.read_unread _
    iexact H13
  isplitl [H14]
  · iexists _; isplitr; swap; · iexact H14
    ipureintro; refine (View.read_writes_cons_put _ _ _ _ _ rfl).trans ?_
    dsimp only
    rw [View.writes_nil, harg14.read_unread, View.readAt_full, View.readAt_full, harg20.read_unread, harg4.read_unread]
    refine congrArg (VecWindow.put _ _ _) (congrArg _ ?_)
    refine (View.readAt_unit _ _ _ rfl (Fin.forall_fin_two.mpr ⟨Nat.le_refl 1, by decide⟩)).trans ?_
    rw [harg7.read_unread, cut]
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  iexists _; isplitr; swap; · iexact H20
  ipureintro; exact harg20.read_unread _

set_option maxHeartbeats 1600000 in
/-- The body at a point taking the branch 10 alone. -/
theorem run8 (i : grid0.Coords) (h1 : ¬k0_cond1 i = 1#1) (h2 : ¬k0_cond2 i = 1#1) (h3 : ¬k0_cond3 i = 1#1) (h4 : ¬k0_cond4 i = 1#1) (h5 : ¬k0_cond5 i = 1#1) (h6 : ¬k0_cond6 i = 1#1) (h7 : ¬k0_cond7 i = 1#1) (h8 : ¬k0_cond8 i = 1#1) (h9 : ¬k0_cond9 i = 1#1) (h10 : k0_cond10 i = 1#1) (h11 : ¬k0_cond11 i = 1#1) : Runs (F := F) i := by
  intro c E arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 y6 y7 y8 y9 y10 y11 y12 y13 xs K
  simp only [stepS, step6, step7, step8, step9, step10, step11, step12, step13, h1, h2, h3, h4, h5, h6, h7, h8, h9, h10, h11, if_true, if_false]
  simp only [cc0_inproj_eq_skeleton]; unfold cc0_inproj_skel; simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
  sl_exec (disch := first | sl_exact h1 | sl_exact h2 | sl_exact h3 | sl_exact h4 | sl_exact h5 | sl_exact h6 | sl_exact h7 | sl_exact h8 | sl_exact h9 | sl_exact h10 | sl_exact h11)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H12]
  · iexists _; isplitr; · ipureintro; exact harg12.read_unread _
    iexact H12
  isplitl [H13]
  · iexists _; isplitr; · ipureintro; exact harg13.read_unread _
    iexact H13
  isplitl [H14]
  · iexists _; isplitr; swap; · iexact H14
    ipureintro; refine (View.read_writes_cons_put _ _ _ _ _ rfl).trans ?_
    dsimp only
    rw [View.writes_nil, harg14.read_unread, View.readAt_full, View.readAt_full, harg20.read_unread, harg4.read_unread]
    refine congrArg (VecWindow.put _ _ _) (congrArg _ ?_)
    refine (View.readAt_unit _ _ _ rfl (Fin.forall_fin_two.mpr ⟨Nat.le_refl 1, by decide⟩)).trans ?_
    rw [harg7.read_unread, cut]
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  iexists _; isplitr; swap; · iexact H20
  ipureintro; exact harg20.read_unread _

set_option maxHeartbeats 1600000 in
/-- The body at a point taking the branch 11 alone. -/
theorem run9 (i : grid0.Coords) (h1 : ¬k0_cond1 i = 1#1) (h2 : ¬k0_cond2 i = 1#1) (h3 : ¬k0_cond3 i = 1#1) (h4 : ¬k0_cond4 i = 1#1) (h5 : ¬k0_cond5 i = 1#1) (h6 : ¬k0_cond6 i = 1#1) (h7 : ¬k0_cond7 i = 1#1) (h8 : ¬k0_cond8 i = 1#1) (h9 : ¬k0_cond9 i = 1#1) (h10 : ¬k0_cond10 i = 1#1) (h11 : k0_cond11 i = 1#1) : Runs (F := F) i := by
  intro c E arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 y6 y7 y8 y9 y10 y11 y12 y13 xs K
  simp only [stepS, step6, step7, step8, step9, step10, step11, step12, step13, h1, h2, h3, h4, h5, h6, h7, h8, h9, h10, h11, if_true, if_false]
  simp only [cc0_inproj_eq_skeleton]; unfold cc0_inproj_skel; simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
  sl_exec (disch := first | sl_exact h1 | sl_exact h2 | sl_exact h3 | sl_exact h4 | sl_exact h5 | sl_exact h6 | sl_exact h7 | sl_exact h8 | sl_exact h9 | sl_exact h10 | sl_exact h11)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H12]
  · iexists _; isplitr; · ipureintro; exact harg12.read_unread _
    iexact H12
  isplitl [H13]
  · iexists _; isplitr; · ipureintro; exact harg13.read_unread _
    iexact H13
  isplitl [H14]
  · iexists _; isplitr; swap; · iexact H14
    ipureintro; refine (View.read_writes_cons_put _ _ _ _ _ rfl).trans ?_
    dsimp only
    rw [View.writes_nil, harg14.read_unread, View.readAt_full, View.readAt_full, harg20.read_unread, harg4.read_unread]
    refine congrArg (VecWindow.put _ _ _) (congrArg _ ?_)
    refine (View.readAt_unit _ _ _ rfl (Fin.forall_fin_two.mpr ⟨Nat.le_refl 1, by decide⟩)).trans ?_
    rw [harg7.read_unread, cut]
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  iexists _; isplitr; swap; · iexact H20
  ipureintro; exact harg20.read_unread _

end Cert.InprojIdeal.Body

end
-- ==== Proof.InprojFrame.lean ====
/-
  The input projection's pipeline: what each of its points does to every block, as a relation between what the point
  finds and what it leaves, and the run of the whole program from that: every array at contents those relations allow,
  and every buffer the pipeline does not stage at what the lines after the call make of those arrays.
-/
module

public import proofs.«01_k».proof.Proof.InprojRun
public import Idealize.ShloMosaic.Lib.Pipeline.FrameBody
public import Idealize.ShloMosaic.Lib.Pipeline.ArrRel
public import Idealize.ShloMosaic.Lib.Pipeline.Quiescent

@[expose] public section

set_option maxRecDepth 16384

noncomputable section

namespace Cert.InprojIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.InprojIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem points (t : Fin cfg0.N) : t.val < 144 := Nat.lt_of_lt_of_eq t.isLt N_0

/-- The first point of the row block that `t` is in. -/
abbrev row (t : Fin cfg0.N) : Fin cfg0.N := ⟨t.val / 8 * 8, Nat.lt_of_le_of_lt (Nat.div_mul_le_self _ _) t.isLt⟩

/-- The normalised rows of the row block that `t` is in. -/
abbrev xn (c : Dev nD) (t : Fin cfg0.N) : Vec F S512x2048 .bf16 := k0_pay6 (iblk m c 0 (row t)) (iblk m c 1 (row t))

theorem row_eq {t : Fin cfg0.N} (h : t.val % 8 = 0) : row t = t := Fin.ext (show t.val / 8 * 8 = t.val by omega)

theorem xn_prev (c : Dev nD) {t u : Fin cfg0.N} (h : u.val + 1 = t.val) (ht : ¬t.val % 8 = 0) : xn m c u = xn m c t := by
  have e : row u = row t := Fin.ext (show u.val / 8 * 8 = t.val / 8 * 8 by omega)
  unfold xn; rw [e]

/-! ## Which branches a point takes -/

theorem branch1 (t : Fin cfg0.N) : k0_cond1 (grid0.coords t) = 1#1 ↔ t.val % 8 = 0 := by
  have ht : t.val < 144 := points t
  have e0 : (grid0.coords t 0).val = t.val / 8 % 18 := Pipeline.Grid.coords_val t 0 (by decide) rfl
  have e1 : (grid0.coords t 1).val = t.val / 1 % 8 := Pipeline.Grid.coords_val t 1 (by decide) rfl
  simp only [k0_cond1, e0, e1]
  word_cmp

theorem branch2 (t : Fin cfg0.N) : k0_cond2 (grid0.coords t) = 1#1 ↔ t.val % 8 = 0 := by
  have ht : t.val < 144 := points t
  have e0 : (grid0.coords t 0).val = t.val / 8 % 18 := Pipeline.Grid.coords_val t 0 (by decide) rfl
  have e1 : (grid0.coords t 1).val = t.val / 1 % 8 := Pipeline.Grid.coords_val t 1 (by decide) rfl
  simp only [k0_cond2, e0, e1]
  word_cmp

theorem branch3 (t : Fin cfg0.N) : k0_cond3 (grid0.coords t) = 1#1 ↔ (t.val % 8 = 1 ∧ t.val < 128) := by
  have ht : t.val < 144 := points t
  have e0 : (grid0.coords t 0).val = t.val / 8 % 18 := Pipeline.Grid.coords_val t 0 (by decide) rfl
  have e1 : (grid0.coords t 1).val = t.val / 1 % 8 := Pipeline.Grid.coords_val t 1 (by decide) rfl
  simp only [k0_cond3, e0, e1]
  word_cmp

theorem branch4 (t : Fin cfg0.N) : k0_cond4 (grid0.coords t) = 1#1 ↔ (t.val % 8 = 1 ∧ 128 ≤ t.val) := by
  have ht : t.val < 144 := points t
  have e0 : (grid0.coords t 0).val = t.val / 8 % 18 := Pipeline.Grid.coords_val t 0 (by decide) rfl
  have e1 : (grid0.coords t 1).val = t.val / 1 % 8 := Pipeline.Grid.coords_val t 1 (by decide) rfl
  simp only [k0_cond4, e0, e1]
  word_cmp

theorem branch5 (t : Fin cfg0.N) : k0_cond5 (grid0.coords t) = 1#1 ↔ (t.val % 8 = 2 ∧ t.val < 128) := by
  have ht : t.val < 144 := points t
  have e0 : (grid0.coords t 0).val = t.val / 8 % 18 := Pipeline.Grid.coords_val t 0 (by decide) rfl
  have e1 : (grid0.coords t 1).val = t.val / 1 % 8 := Pipeline.Grid.coords_val t 1 (by decide) rfl
  simp only [k0_cond5, e0, e1]
  word_cmp

theorem branch6 (t : Fin cfg0.N) : k0_cond6 (grid0.coords t) = 1#1 ↔ (t.val % 8 = 2 ∧ 128 ≤ t.val) := by
  have ht : t.val < 144 := points t
  have e0 : (grid0.coords t 0).val = t.val / 8 % 18 := Pipeline.Grid.coords_val t 0 (by decide) rfl
  have e1 : (grid0.coords t 1).val = t.val / 1 % 8 := Pipeline.Grid.coords_val t 1 (by decide) rfl
  simp only [k0_cond6, e0, e1]
  word_cmp

theorem branch7 (t : Fin cfg0.N) : k0_cond7 (grid0.coords t) = 1#1 ↔ t.val % 8 = 3 := by
  have ht : t.val < 144 := points t
  have e0 : (grid0.coords t 0).val = t.val / 8 % 18 := Pipeline.Grid.coords_val t 0 (by decide) rfl
  have e1 : (grid0.coords t 1).val = t.val / 1 % 8 := Pipeline.Grid.coords_val t 1 (by decide) rfl
  simp only [k0_cond7, e0, e1]
  word_cmp

theorem branch8 (t : Fin cfg0.N) : k0_cond8 (grid0.coords t) = 1#1 ↔ t.val % 8 = 4 := by
  have ht : t.val < 144 := points t
  have e0 : (grid0.coords t 0).val = t.val / 8 % 18 := Pipeline.Grid.coords_val t 0 (by decide) rfl
  have e1 : (grid0.coords t 1).val = t.val / 1 % 8 := Pipeline.Grid.coords_val t 1 (by decide) rfl
  simp only [k0_cond8, e0, e1]
  word_cmp

theorem branch9 (t : Fin cfg0.N) : k0_cond9 (grid0.coords t) = 1#1 ↔ t.val % 8 = 5 := by
  have ht : t.val < 144 := points t
  have e0 : (grid0.coords t 0).val = t.val / 8 % 18 := Pipeline.Grid.coords_val t 0 (by decide) rfl
  have e1 : (grid0.coords t 1).val = t.val / 1 % 8 := Pipeline.Grid.coords_val t 1 (by decide) rfl
  simp only [k0_cond9, e0, e1]
  word_cmp

theorem branch10 (t : Fin cfg0.N) : k0_cond10 (grid0.coords t) = 1#1 ↔ t.val % 8 = 6 := by
  have ht : t.val < 144 := points t
  have e0 : (grid0.coords t 0).val = t.val / 8 % 18 := Pipeline.Grid.coords_val t 0 (by decide) rfl
  have e1 : (grid0.coords t 1).val = t.val / 1 % 8 := Pipeline.Grid.coords_val t 1 (by decide) rfl
  simp only [k0_cond10, e0, e1]
  word_cmp

theorem branch11 (t : Fin cfg0.N) : k0_cond11 (grid0.coords t) = 1#1 ↔ t.val % 8 = 7 := by
  have ht : t.val < 144 := points t
  have e0 : (grid0.coords t 0).val = t.val / 8 % 18 := Pipeline.Grid.coords_val t 0 (by decide) rfl
  have e1 : (grid0.coords t 1).val = t.val / 1 % 8 := Pipeline.Grid.coords_val t 1 (by decide) rfl
  simp only [k0_cond11, e0, e1]
  word_cmp

theorem runs (t : Fin cfg0.N) : Runs (F := F) (grid0.coords t) := by
  have ht : t.val < 144 := points t
  have hb : t.val % 8 = 0 ∨ (t.val % 8 = 1 ∧ t.val < 128) ∨ (t.val % 8 = 1 ∧ 128 ≤ t.val) ∨ (t.val % 8 = 2 ∧ t.val < 128) ∨ (t.val % 8 = 2 ∧ 128 ≤ t.val) ∨ t.val % 8 = 3 ∨ t.val % 8 = 4 ∨ t.val % 8 = 5 ∨ t.val % 8 = 6 ∨ t.val % 8 = 7 := by omega
  rcases hb with h | h | h | h | h | h | h | h | h | h
  · exact run0 (grid0.coords t) ((branch1 t).mpr (by omega)) ((branch2 t).mpr (by omega)) (fun e => absurd ((branch3 t).mp e) (by omega)) (fun e => absurd ((branch4 t).mp e) (by omega)) (fun e => absurd ((branch5 t).mp e) (by omega)) (fun e => absurd ((branch6 t).mp e) (by omega)) (fun e => absurd ((branch7 t).mp e) (by omega)) (fun e => absurd ((branch8 t).mp e) (by omega)) (fun e => absurd ((branch9 t).mp e) (by omega)) (fun e => absurd ((branch10 t).mp e) (by omega)) (fun e => absurd ((branch11 t).mp e) (by omega))
  · exact run1 (grid0.coords t) (fun e => absurd ((branch1 t).mp e) (by omega)) (fun e => absurd ((branch2 t).mp e) (by omega)) ((branch3 t).mpr (by omega)) (fun e => absurd ((branch4 t).mp e) (by omega)) (fun e => absurd ((branch5 t).mp e) (by omega)) (fun e => absurd ((branch6 t).mp e) (by omega)) (fun e => absurd ((branch7 t).mp e) (by omega)) (fun e => absurd ((branch8 t).mp e) (by omega)) (fun e => absurd ((branch9 t).mp e) (by omega)) (fun e => absurd ((branch10 t).mp e) (by omega)) (fun e => absurd ((branch11 t).mp e) (by omega))
  · exact run2 (grid0.coords t) (fun e => absurd ((branch1 t).mp e) (by omega)) (fun e => absurd ((branch2 t).mp e) (by omega)) (fun e => absurd ((branch3 t).mp e) (by omega)) ((branch4 t).mpr (by omega)) (fun e => absurd ((branch5 t).mp e) (by omega)) (fun e => absurd ((branch6 t).mp e) (by omega)) (fun e => absurd ((branch7 t).mp e) (by omega)) (fun e => absurd ((branch8 t).mp e) (by omega)) (fun e => absurd ((branch9 t).mp e) (by omega)) (fun e => absurd ((branch10 t).mp e) (by omega)) (fun e => absurd ((branch11 t).mp e) (by omega))
  · exact run3 (grid0.coords t) (fun e => absurd ((branch1 t).mp e) (by omega)) (fun e => absurd ((branch2 t).mp e) (by omega)) (fun e => absurd ((branch3 t).mp e) (by omega)) (fun e => absurd ((branch4 t).mp e) (by omega)) ((branch5 t).mpr (by omega)) (fun e => absurd ((branch6 t).mp e) (by omega)) (fun e => absurd ((branch7 t).mp e) (by omega)) (fun e => absurd ((branch8 t).mp e) (by omega)) (fun e => absurd ((branch9 t).mp e) (by omega)) (fun e => absurd ((branch10 t).mp e) (by omega)) (fun e => absurd ((branch11 t).mp e) (by omega))
  · exact run4 (grid0.coords t) (fun e => absurd ((branch1 t).mp e) (by omega)) (fun e => absurd ((branch2 t).mp e) (by omega)) (fun e => absurd ((branch3 t).mp e) (by omega)) (fun e => absurd ((branch4 t).mp e) (by omega)) (fun e => absurd ((branch5 t).mp e) (by omega)) ((branch6 t).mpr (by omega)) (fun e => absurd ((branch7 t).mp e) (by omega)) (fun e => absurd ((branch8 t).mp e) (by omega)) (fun e => absurd ((branch9 t).mp e) (by omega)) (fun e => absurd ((branch10 t).mp e) (by omega)) (fun e => absurd ((branch11 t).mp e) (by omega))
  · exact run5 (grid0.coords t) (fun e => absurd ((branch1 t).mp e) (by omega)) (fun e => absurd ((branch2 t).mp e) (by omega)) (fun e => absurd ((branch3 t).mp e) (by omega)) (fun e => absurd ((branch4 t).mp e) (by omega)) (fun e => absurd ((branch5 t).mp e) (by omega)) (fun e => absurd ((branch6 t).mp e) (by omega)) ((branch7 t).mpr (by omega)) (fun e => absurd ((branch8 t).mp e) (by omega)) (fun e => absurd ((branch9 t).mp e) (by omega)) (fun e => absurd ((branch10 t).mp e) (by omega)) (fun e => absurd ((branch11 t).mp e) (by omega))
  · exact run6 (grid0.coords t) (fun e => absurd ((branch1 t).mp e) (by omega)) (fun e => absurd ((branch2 t).mp e) (by omega)) (fun e => absurd ((branch3 t).mp e) (by omega)) (fun e => absurd ((branch4 t).mp e) (by omega)) (fun e => absurd ((branch5 t).mp e) (by omega)) (fun e => absurd ((branch6 t).mp e) (by omega)) (fun e => absurd ((branch7 t).mp e) (by omega)) ((branch8 t).mpr (by omega)) (fun e => absurd ((branch9 t).mp e) (by omega)) (fun e => absurd ((branch10 t).mp e) (by omega)) (fun e => absurd ((branch11 t).mp e) (by omega))
  · exact run7 (grid0.coords t) (fun e => absurd ((branch1 t).mp e) (by omega)) (fun e => absurd ((branch2 t).mp e) (by omega)) (fun e => absurd ((branch3 t).mp e) (by omega)) (fun e => absurd ((branch4 t).mp e) (by omega)) (fun e => absurd ((branch5 t).mp e) (by omega)) (fun e => absurd ((branch6 t).mp e) (by omega)) (fun e => absurd ((branch7 t).mp e) (by omega)) (fun e => absurd ((branch8 t).mp e) (by omega)) ((branch9 t).mpr (by omega)) (fun e => absurd ((branch10 t).mp e) (by omega)) (fun e => absurd ((branch11 t).mp e) (by omega))
  · exact run8 (grid0.coords t) (fun e => absurd ((branch1 t).mp e) (by omega)) (fun e => absurd ((branch2 t).mp e) (by omega)) (fun e => absurd ((branch3 t).mp e) (by omega)) (fun e => absurd ((branch4 t).mp e) (by omega)) (fun e => absurd ((branch5 t).mp e) (by omega)) (fun e => absurd ((branch6 t).mp e) (by omega)) (fun e => absurd ((branch7 t).mp e) (by omega)) (fun e => absurd ((branch8 t).mp e) (by omega)) (fun e => absurd ((branch9 t).mp e) (by omega)) ((branch10 t).mpr (by omega)) (fun e => absurd ((branch11 t).mp e) (by omega))
  · exact run9 (grid0.coords t) (fun e => absurd ((branch1 t).mp e) (by omega)) (fun e => absurd ((branch2 t).mp e) (by omega)) (fun e => absurd ((branch3 t).mp e) (by omega)) (fun e => absurd ((branch4 t).mp e) (by omega)) (fun e => absurd ((branch5 t).mp e) (by omega)) (fun e => absurd ((branch6 t).mp e) (by omega)) (fun e => absurd ((branch7 t).mp e) (by omega)) (fun e => absurd ((branch8 t).mp e) (by omega)) (fun e => absurd ((branch9 t).mp e) (by omega)) (fun e => absurd ((branch10 t).mp e) (by omega)) ((branch11 t).mpr (by omega))

theorem stepS_eq (c : Dev nD) (t : Fin cfg0.N) (xs : Vec F S512x2048 .bf16) (h : ¬t.val % 8 = 0 → xs = xn m c t) :
    stepS (grid0.coords t) (iblk m c 0 t) (iblk m c 1 t) xs = xn m c t := by
  unfold stepS
  by_cases e : t.val % 8 = 0
  · rw [if_pos ((branch1 t).mpr e), xn, row_eq e]
  · rw [if_neg (fun e' => e ((branch1 t).mp e')), h e]

/-! ## The pipeline's proof data -/

/-- The scratch of normalised rows, between points. -/
def scratch : Memref sig .tc .vmem S512x2048 .bf16 := Memref.whole cc0_scratch0

/-- Between points the scratch holds the normalised rows of the point before. -/
def Inv (c : Dev nD) (n : Fin (cfg0.N + 1)) : sProp 𝕄 :=
  iprop(∃ d, ⌜∀ t : Fin cfg0.N, t.val + 1 = n.val → d = xn m c t⌝ ∗ owns (c : Thread nD τ) scratch fullShare d ∗ ∃ r, prngReg c r)

/-- How a point changes each block. -/
def leaves (c : Dev nD) : (w : Fin cfg0.W) → (t : Fin cfg0.N) → (Y X : (cfg0.win w).block.Idx → Elt F (cfg0.win w).elt) → Prop
  | ⟨0, _⟩ => fun t Y X => X = Y
  | ⟨1, _⟩ => fun t Y X => X = Y
  | ⟨2, _⟩ => fun t Y X => X = Y
  | ⟨3, _⟩ => fun t Y X => X = Y
  | ⟨4, _⟩ => fun t Y X => X = Y
  | ⟨5, _⟩ => fun t Y X => X = Y
  | ⟨6, _⟩ => fun t Y X => X = step6 (grid0.coords t) (xn m c t) (iblk m c 2 t) Y
  | ⟨7, _⟩ => fun t Y X => X = step7 (grid0.coords t) (xn m c t) (iblk m c 2 t) Y
  | ⟨8, _⟩ => fun t Y X => X = step8 (grid0.coords t) (xn m c t) (iblk m c 2 t) (iblk m c 5 t) Y
  | ⟨9, _⟩ => fun t Y X => X = step9 (grid0.coords t) (iblk m c 0 t) (iblk m c 1 t) (iblk m c 3 t) (iblk m c 4 t) Y
  | ⟨10, _⟩ => fun t Y X => X = step10 (grid0.coords t) (xn m c t) (iblk m c 2 t) Y
  | ⟨11, _⟩ => fun t Y X => X = step11 (grid0.coords t) (xn m c t) (iblk m c 2 t) Y
  | ⟨12, _⟩ => fun t Y X => X = step12 (grid0.coords t) (xn m c t) (iblk m c 2 t) Y
  | ⟨13, _⟩ => fun t Y X => X = step13 (grid0.coords t) (xn m c t) (iblk m c 2 t) Y
  | ⟨_ + 14, h⟩ => absurd h (Nat.not_lt_of_le (Nat.le_add_left 14 _))

/-- The relational proof data of the call. -/
def data (c : Dev nD) : RDat τ (Elt F) Unit ℕ (UR sig nD τ) ℕ cfg0 c where
  A w := V m c (Pipeline.arrRef spec0 w)
  after := leaves m c
  Φ := Inv m c
  q _ := fullShare
  owed _ := 0

theorem found0 (c : Dev nD) (t : Fin cfg0.N) (Y) (h : (data m c).Finds 0 t Y) : Y = iblk m c 0 t := by
  obtain ⟨d, hd⟩ := RDat.finds_in_eq_fetched (data m c) 0 rfl (fun _ _ _ => rfl) (fun t Y X h => h) t Y h
  rw [hd]; unfold RDat.fetched RDat.blockOf iblk; rfl

theorem found1 (c : Dev nD) (t : Fin cfg0.N) (Y) (h : (data m c).Finds 1 t Y) : Y = iblk m c 1 t := by
  obtain ⟨d, hd⟩ := RDat.finds_in_eq_fetched (data m c) 1 rfl (fun _ _ _ => rfl) (fun t Y X h => h) t Y h
  rw [hd]; unfold RDat.fetched RDat.blockOf iblk; rfl

theorem found2 (c : Dev nD) (t : Fin cfg0.N) (Y) (h : (data m c).Finds 2 t Y) : Y = iblk m c 2 t := by
  obtain ⟨d, hd⟩ := RDat.finds_in_eq_fetched (data m c) 2 rfl (fun _ _ _ => rfl) (fun t Y X h => h) t Y h
  rw [hd]; unfold RDat.fetched RDat.blockOf iblk; rfl

theorem found3 (c : Dev nD) (t : Fin cfg0.N) (Y) (h : (data m c).Finds 3 t Y) : Y = iblk m c 3 t := by
  obtain ⟨d, hd⟩ := RDat.finds_in_eq_fetched (data m c) 3 rfl (fun _ _ _ => rfl) (fun t Y X h => h) t Y h
  rw [hd]; unfold RDat.fetched RDat.blockOf iblk; rfl

theorem found4 (c : Dev nD) (t : Fin cfg0.N) (Y) (h : (data m c).Finds 4 t Y) : Y = iblk m c 4 t := by
  obtain ⟨d, hd⟩ := RDat.finds_in_eq_fetched (data m c) 4 rfl (fun _ _ _ => rfl) (fun t Y X h => h) t Y h
  rw [hd]; unfold RDat.fetched RDat.blockOf iblk; rfl

theorem found5 (c : Dev nD) (t : Fin cfg0.N) (Y) (h : (data m c).Finds 5 t Y) : Y = iblk m c 5 t := by
  obtain ⟨d, hd⟩ := RDat.finds_in_eq_fetched (data m c) 5 rfl (fun _ _ _ => rfl) (fun t Y X h => h) t Y h
  rw [hd]; unfold RDat.fetched RDat.blockOf iblk; rfl

set_option maxHeartbeats 3200000 in
/-- The body at a point, from what it finds in the staging buffers. -/
theorem sound (c : Dev nD) (t : Fin cfg0.N) (Y : (w : Fin cfg0.W) → (cfg0.win w).block.Idx → Elt F (cfg0.win w).elt)
    (hY : ∀ w, (data m c).Finds w t (Y w)) :
    iprop((data m c).Φ t.castSucc ∗ (data m c).owesAt () t.castSucc ∗ owns (c : Thread nD τ) (win0_0.stage (cfg0.slots t 0)) fullShare (Y 0) ∗ owns (c : Thread nD τ) (win0_1.stage (cfg0.slots t 1)) fullShare (Y 1) ∗ owns (c : Thread nD τ) (win0_2.stage (cfg0.slots t 2)) fullShare (Y 2) ∗ owns (c : Thread nD τ) (win0_3.stage (cfg0.slots t 3)) fullShare (Y 3) ∗ owns (c : Thread nD τ) (win0_4.stage (cfg0.slots t 4)) fullShare (Y 4) ∗ owns (c : Thread nD τ) (win0_5.stage (cfg0.slots t 5)) fullShare (Y 5) ∗ owns (c : Thread nD τ) (win0_6.stage (cfg0.slots t 6)) fullShare (Y 6) ∗ owns (c : Thread nD τ) (win0_7.stage (cfg0.slots t 7)) fullShare (Y 7) ∗ owns (c : Thread nD τ) (win0_8.stage (cfg0.slots t 8)) fullShare (Y 8) ∗ owns (c : Thread nD τ) (win0_9.stage (cfg0.slots t 9)) fullShare (Y 9) ∗ owns (c : Thread nD τ) (win0_10.stage (cfg0.slots t 10)) fullShare (Y 10) ∗ owns (c : Thread nD τ) (win0_11.stage (cfg0.slots t 11)) fullShare (Y 11) ∗ owns (c : Thread nD τ) (win0_12.stage (cfg0.slots t 12)) fullShare (Y 12) ∗ owns (c : Thread nD τ) (win0_13.stage (cfg0.slots t 13)) fullShare (Y 13))
      ⊢ wp frame (wpE (defs₀ (F := F)) Variants.none c none) Set.univ (bodyAt0 t) (fun _ =>
        iprop((data m c).Φ t.succ ∗ (data m c).owesAt () t.succ ∗ (∃ X, ⌜(data m c).after 0 t (Y 0) X⌝ ∗ owns (c : Thread nD τ) (win0_0.stage (cfg0.slots t 0)) fullShare X) ∗ (∃ X, ⌜(data m c).after 1 t (Y 1) X⌝ ∗ owns (c : Thread nD τ) (win0_1.stage (cfg0.slots t 1)) fullShare X) ∗ (∃ X, ⌜(data m c).after 2 t (Y 2) X⌝ ∗ owns (c : Thread nD τ) (win0_2.stage (cfg0.slots t 2)) fullShare X) ∗ (∃ X, ⌜(data m c).after 3 t (Y 3) X⌝ ∗ owns (c : Thread nD τ) (win0_3.stage (cfg0.slots t 3)) fullShare X) ∗ (∃ X, ⌜(data m c).after 4 t (Y 4) X⌝ ∗ owns (c : Thread nD τ) (win0_4.stage (cfg0.slots t 4)) fullShare X) ∗ (∃ X, ⌜(data m c).after 5 t (Y 5) X⌝ ∗ owns (c : Thread nD τ) (win0_5.stage (cfg0.slots t 5)) fullShare X) ∗ (∃ X, ⌜(data m c).after 6 t (Y 6) X⌝ ∗ owns (c : Thread nD τ) (win0_6.stage (cfg0.slots t 6)) fullShare X) ∗ (∃ X, ⌜(data m c).after 7 t (Y 7) X⌝ ∗ owns (c : Thread nD τ) (win0_7.stage (cfg0.slots t 7)) fullShare X) ∗ (∃ X, ⌜(data m c).after 8 t (Y 8) X⌝ ∗ owns (c : Thread nD τ) (win0_8.stage (cfg0.slots t 8)) fullShare X) ∗ (∃ X, ⌜(data m c).after 9 t (Y 9) X⌝ ∗ owns (c : Thread nD τ) (win0_9.stage (cfg0.slots t 9)) fullShare X) ∗ (∃ X, ⌜(data m c).after 10 t (Y 10) X⌝ ∗ owns (c : Thread nD τ) (win0_10.stage (cfg0.slots t 10)) fullShare X) ∗ (∃ X, ⌜(data m c).after 11 t (Y 11) X⌝ ∗ owns (c : Thread nD τ) (win0_11.stage (cfg0.slots t 11)) fullShare X) ∗ (∃ X, ⌜(data m c).after 12 t (Y 12) X⌝ ∗ owns (c : Thread nD τ) (win0_12.stage (cfg0.slots t 12)) fullShare X) ∗ (∃ X, ⌜(data m c).after 13 t (Y 13) X⌝ ∗ owns (c : Thread nD τ) (win0_13.stage (cfg0.slots t 13)) fullShare X))) := by
  have e0 : Y 0 = iblk m c 0 t := found0 m c t _ (hY 0)
  have e1 : Y 1 = iblk m c 1 t := found1 m c t _ (hY 1)
  have e2 : Y 2 = iblk m c 2 t := found2 m c t _ (hY 2)
  have e3 : Y 3 = iblk m c 3 t := found3 m c t _ (hY 3)
  have e4 : Y 4 = iblk m c 4 t := found4 m c t _ (hY 4)
  have e5 : Y 5 = iblk m c 5 t := found5 m c t _ (hY 5)
  rw [show (data m c).owesAt () t.succ = (data m c).owesAt () t.castSucc from rfl,
    show (data m c).Φ t.succ = Inv m c t.succ from rfl, show (data m c).Φ t.castSucc = Inv m c t.castSucc from rfl]
  unfold Inv
  iintro ⟨⟨%d, %hd, HS, Hg⟩, Ho, H0, H1, H2, H3, H4, H5, H6, H7, H8, H9, H10, H11, H12, H13⟩
  have hS := stepS_eq m c t d (fun h => by
    have h' : t.val ≠ 0 := fun e => h (by rw [e])
    have hlt : t.val - 1 < cfg0.N := Nat.lt_of_le_of_lt (Nat.sub_le _ _) t.isLt
    rw [hd ⟨t.val - 1, hlt⟩ (show t.val - 1 + 1 = t.val by omega)]
    exact xn_prev m c (u := ⟨t.val - 1, hlt⟩) (show t.val - 1 + 1 = t.val by omega) h)
  iapply (runs t c Set.univ (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole main_arg5) (Memref.isWhole_whole _) (Memref.whole main_arg6) (Memref.isWhole_whole _) (Memref.whole main_arg7) (Memref.isWhole_whole _) (Memref.whole main_arg8) (Memref.isWhole_whole _) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) scratch (Memref.isWhole_whole _) (Y 0) (Y 1) (Y 2) (Y 3) (Y 4) (Y 5) (Y 6) (Y 7) (Y 8) (Y 9) (Y 10) (Y 11) (Y 12) (Y 13) d _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS]; · iexact HS
  rw [e0, e1, e2, e3, e4, e5, hS]
  iintro ⟨H0, H1, H2, H3, H4, H5, H6, H7, H8, H9, H10, H11, H12, H13, HS⟩
  isplitl [HS Hg]
  · iexists (xn m c t); isplitr
    · ipureintro; intro u hu
      have eu : u = t := Fin.ext (by simpa using hu)
      rw [eu]
    isplitl [HS]; · iexact HS
    iexact Hg
  isplitl [Ho]; · iexact Ho
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact rfl
  isplitl [H8]
  · iexists _; isplitr; swap; · iexact H8
    ipureintro; exact rfl
  isplitl [H9]
  · iexists _; isplitr; swap; · iexact H9
    ipureintro; exact rfl
  isplitl [H10]
  · iexists _; isplitr; swap; · iexact H10
    ipureintro; exact rfl
  isplitl [H11]
  · iexists _; isplitr; swap; · iexact H11
    ipureintro; exact rfl
  isplitl [H12]
  · iexists _; isplitr; swap; · iexact H12
    ipureintro; exact rfl
  iexists _; isplitr; swap; · iexact H13
  ipureintro; exact rfl

theorem body_row (t : Fin cfg0.N) :
    defs₀ (F := F) .tc cfg0.body (cfg0.bodyArgs t (cfg0.slots t)) = bodyAt0 t := by
  unfold defs₀; rw [Defs.onTc_tc]

theorem obligation (c : Dev nD) : (data (F := F) m c).BodyObligation (defs₀ (F := F)) Variants.none () Set.univ := fun t Y hY => by
  rw [bigSep_W0, bigSep_W0, body_row]
  exact sound m c t Y hY

theorem around_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

theorem inv_in (c : Dev nD) : (Pipeline.ΦA spec0 c : sProp 𝕄) ⊢ (data m c).Φ 0 := by
  rw [around_eq, show (data m c).Φ 0 = Inv m c 0 from rfl]; unfold Inv
  iintro ⟨⟨%d, HS⟩, Hg⟩
  iexists d; isplitr
  · ipureintro; intro t h; exact absurd h (Nat.succ_ne_zero _)
  isplitl [HS]; · iexact HS
  iexact Hg

theorem inv_out (c : Dev nD) : (data m c).Φ (Fin.last cfg0.N) ⊢ (Pipeline.ΦA spec0 c : sProp 𝕄) := by
  rw [around_eq, show (data m c).Φ (Fin.last cfg0.N) = Inv m c (Fin.last cfg0.N) from rfl]; unfold Inv
  iintro ⟨%d, -, HS, Hg⟩
  isplitl [HS]; · iexists d; iexact HS
  iexact Hg

/-! ## The run of the program -/

/-- The buffers that the pipeline does not stage. -/
abbrev rest : Finset (Ref sig .tc) := Pipeline.restRefs sig spec0

/-- What the program leaves: every array at contents the relations allow, every other buffer at what the lines after the
    call make of arrays so filled. -/
def Ends (r : PUnit × MemSt nD τ sig (Elt F)) : Prop :=
  ∀ c : Dev nD, (∀ w, (data m c).ArrAt w cfg0.N (r.2.mem ((spec0 w).arr.view.loc (c.tc : Thread nD τ))))
    ∧ ∃ A : (w : Fin cfg0.W) → Buf (Elt F) ((spec0 w).arr.view.loc (c.tc : Thread nD τ)), (∀ w, (data m c).ArrAt w cfg0.N (A w))
      ∧ ∀ b ∈ rest, r.2.mem ((c.tc : Thread nD τ).loc b)
        = StableHlo.after [hostOps1].flatten (Pipeline.withArrays spec0 c (V0 m c) A) (Proc.devRef .tc b)

/-- The arrays one by one are the buffers behind them. -/
theorem buffers_eq (c : Dev nD) (A : (w : Fin cfg0.W) → Buf (Elt F) ((spec0 w).arr.view.loc (c.tc : Thread nD τ))) :
    (Pipeline.arrBufs spec0 c (fun b => Pipeline.withArrays spec0 c (V0 m c) A (Proc.devRef .tc b)) : sProp 𝕄)
      = bigSep Finset.univ fun w => (((c.tc : Thread nD τ).loc (Pipeline.arrRef spec0 w)) ↦{fullShare} A w : sProp 𝕄) := by
  classical
  unfold Pipeline.arrBufs
  rw [BI.bigSep_image_of_injOn (fun a _ b _ e => launch0.win.arr_inj e)]
  refine BI.bigSep_congr fun w _ => ?_
  exact congrArg (fun f : Buf (Elt F) ((spec0 w).arr.view.loc (c.tc : Thread nD τ)) => (((c.tc : Thread nD τ).loc (Pipeline.arrRef spec0 w)) ↦{fullShare} f : sProp 𝕄))
    (Pipeline.withArrays_arr spec0 launch0.win.arr_inj c (V0 m c) A w)

/-- The pipeline's configuration, as one that prefetches no table. -/
abbrev tables (p : Fin 1) := (cfgs p).toPCfg (Val := Elt F)

/-- The proof data, for the one pipeline there is. -/
abbrev family := RDat.familyOf (tables (F := F)) (fun p => (cfgs p).toPCfg_adm) 0 (data m)

theorem family_self (c : Dev nD) : family m 0 c = data m c := RDat.familyOf_self _ _ _ _ _

set_option maxHeartbeats 3200000 in
/-- The whole program runs, and ends so, with every semaphore's counter at zero. -/
theorem run_quiet : θ_run defs (onTc (τ := τ) (main (F := F))) ⟨m, fun _ => 0, ρ⟩ (fun r => Ends m r ∧ r.2.sem = fun _ => 0) := by
  classical
  have share : ∀ (c : Dev nD) w, (data m c).share w = fullShare := fun c w => by unfold RDat.share; split <;> rfl
  exact Pipeline.RDat.θ_run_region_pf_tail_quiescent tables (fun p => (cfgs p).toPCfg_adm) (family m) () launch0.cellOf_inj 0 launch0.win.to₀
    (Pipeline.OwnSemFacts.none spec0) (Pipeline.PreFacts.none _) emb₁ defs₀ Variants.none m ρ main
    (fun _ => Pipeline.chain ([hostOps1].map StableHlo.seq)) (fun c => by rw [family_self]; exact obligation m c)
    launch0.block_pos launch0.arr_whole launch0.stage_whole (fun c t => by rw [family_self]; rfl)
    (G := fun _ => iprop(emp)) (u₀ := initOf (Pipeline.cells cfgs launch0.cellOf_inj) (Pipeline.launchToks cfgs launch0.cellOf_inj))
    (hu₀ := by
      iintro Hu; imodintro
      isplitl [Hu]; · iapply (show (ownU _ : sProp 𝕄) ⊢ BI.own (emb₁ (initOf (Pipeline.cells cfgs launch0.cellOf_inj) (Pipeline.launchToks cfgs launch0.cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => by
      rw [family_self]
      exact RDat.arrays_split₁ tables (fun p => (cfgs p).toPCfg_adm) 0 (data m) launch0.win.arr_inj c launch0.arr_whole (share c) (V m c) _ (fun _ => rfl))
    (hpf := fun _ k => k.elim0)
    (X := fun c => iprop(∃ r, prngReg c r)) (Y := fun c => iprop(∃ r, prngReg c r))
    (Z := fun c => Pipeline.unscopedRest spec0 c (V m c))
    (Z' := fun c => iprop(∃ A : (w : Fin cfg0.W) → Buf (Elt F) ((spec0 w).arr.view.loc (c.tc : Thread nD τ)),
      ⌜∀ w, (data m c).ArrAt w cfg0.N (A w)⌝
        ∗ Pipeline.unscopedRest spec0 c (fun b => StableHlo.after [hostOps1].flatten (Pipeline.withArrays spec0 c (V0 m c) A) (Proc.devRef .tc b))))
    (hX := fun c => by
      rw [Pipeline.unscopedRestP_none]
      iintro ⟨HU, -, -, Hp, -⟩; imodintro
      isplitl [Hp]; · iexists _; iexact Hp
      iexact HU)
    (hin := fun c => by
      rw [family_self]
      exact (show _ ⊢ (Pipeline.ΦA spec0 c : sProp 𝕄) by
        unfold Pipeline.ΦA; iintro ⟨Hp, -, Hr⟩
        isplitl [Hr] <;> iassumption).trans (inv_in m c))
    (hout := fun c => by
      rw [family_self]
      exact (inv_out m c).trans (by
        rw [Pipeline.ownSems0_none]; unfold Pipeline.ΦA
        iintro ⟨Hr, Hp⟩
        isplitl [Hp]; · iexact Hp
        isplitr; · iempintro
        iexact Hr))
    (htail := fun c Q' => by
      rw [RDat.arraysAt_eq tables (fun p => (cfgs p).toPCfg_adm) (family m) 0 c launch0.arr_whole (fun w => by rw [family_self]; exact share c w)]
      simp only [family_self]
      iintro ⟨Hk, Hb, Ha, HZ⟩
      ihave Ha' := (BI.bigSep_exists_pi Finset.univ (fun w F => iprop(⌜(data m c).ArrAt w cfg0.N F⌝
          ∗ (((c.tc : Thread nD τ).loc (Pipeline.arrRef spec0 w)) ↦{fullShare} F : sProp 𝕄)))) $$ Ha
      icases Ha' with ⟨%A, Ha⟩
      ihave Ha2 := (BI.bigSep_pure_sep Finset.univ (fun w => (data m c).ArrAt w cfg0.N (A w))
          (fun w => (((c.tc : Thread nD τ).loc (Pipeline.arrRef spec0 w)) ↦{fullShare} A w : sProp 𝕄))) $$ Ha
      icases Ha2 with ⟨%hA', Ha⟩
      have hA : ∀ w, (data m c).ArrAt w cfg0.N (A w) := fun w => hA' w (Finset.mem_univ w)
      have hm : (bigSep Finset.univ fun w : Fin cfg0.W => (((c.tc : Thread nD τ).loc (Pipeline.arrRef spec0 w)) ↦{fullShare} A w : sProp 𝕄))
          ⊢ bigSep Finset.univ fun w : Fin cfg0.W => iprop(∃ F, ⌜(data m c).ArrAt w cfg0.N F⌝ ∗ (((c.tc : Thread nD τ).loc (Pipeline.arrRef spec0 w)) ↦{fullShare} F : sProp 𝕄)) := by
        refine BI.bigSep_mono fun w _ => ?_
        show (((c.tc : Thread nD τ).loc (Pipeline.arrRef spec0 w)) ↦{fullShare} A w : sProp 𝕄)
          ⊢ iprop(∃ F, ⌜(data m c).ArrAt w cfg0.N F⌝ ∗ (((c.tc : Thread nD τ).loc (Pipeline.arrRef spec0 w)) ↦{fullShare} F : sProp 𝕄))
        iintro H; iexists (A w); isplitr; · ipureintro; exact hA w
        iexact H
      iapply (Pipeline.tail_seqs_bufs_b (fun q => (cfgs q).toPCfg) defs₀ Variants.none Pipeline.Prefetch.none spec0 c (V0 m c) A [hostOps1] sfx_sub sfx_fresh sfx_keeps Q')
      rw [Pipeline.unscopedRestP_none, Pipeline.unscopedRestP_none, buffers_eq m c A]
      isplitl [Hk]
      · iintro ⟨Hb2, Ha2, Hu⟩
        iapply Hk
        isplitl [Hb2]; · iexact Hb2
        isplitl [Ha2]
        · iapply hm
          iexact Ha2
        iexists A; isplitr; · ipureintro; exact hA
        iexact Hu
      · isplitl [Hb]; · iexact Hb
        isplitl [Ha]; · iexact Ha
        iexact HZ)
    (QY := fun c s => ∃ A : (w : Fin cfg0.W) → Buf (Elt F) ((spec0 w).arr.view.loc (c.tc : Thread nD τ)), (∀ w, (data m c).ArrAt w cfg0.N (A w))
      ∧ ∀ b ∈ rest, s.mem ((c.tc : Thread nD τ).loc b)
        = StableHlo.after [hostOps1].flatten (Pipeline.withArrays spec0 c (V0 m c) A) (Proc.devRef .tc b))
    (hY := fun c s' => by
      iintro ⟨-, HZ, HSI⟩
      icases HZ with ⟨%A, %hA, HZ⟩
      unfold Pipeline.unscopedRest
      ihave HZ' := (pointsTo_read_all rest (fun b => (c.tc : Thread nD τ).loc b)
        (fun b => StableHlo.after [hostOps1].flatten (Pipeline.withArrays spec0 c (V0 m c) A) (Proc.devRef .tc b)) s') $$ [HZ HSI]
      · isplitl [HZ] <;> iassumption
      icases HZ' with ⟨%hZ, HSI⟩
      imodintro
      isplitr
      · ipureintro; exact ⟨A, hA, hZ⟩
      · iexact HSI)
    (hQ := fun s h hs => ⟨fun c => ⟨fun w => by simpa only [family_self] using (h c).1 w, (h c).2.2⟩, hs⟩)

/-- The whole program runs, and ends so. -/
theorem run_main : θ_run defs (onTc (τ := τ) (main (F := F))) ⟨m, fun _ => 0, ρ⟩ (Ends m) :=
  (θ_run defs _ _).mono (fun r h => h.1) (run_quiet m ρ)

/-- A buffer the pipeline does not stage and the last line does not write ends as the call finds it. -/
theorem kept (c : Dev nD) (A : (w : Fin cfg0.W) → Buf (Elt F) ((spec0 w).arr.view.loc (c.tc : Thread nD τ))) (b : Ref sig .tc)
    (hb : b ≠ main_v12) (hw : ∀ w, Pipeline.arrRef spec0 w ≠ b) :
    StableHlo.after [hostOps1].flatten (Pipeline.withArrays spec0 c (V0 m c) A) (Proc.devRef .tc b) = V m c b := by
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne hb)),
    Pipeline.withArrays_of_ne _ c (V0 m c) _ b hw]

/-- An argument that the pipeline does not stage ends as launched. -/
theorem kept_arg {r : PUnit × MemSt nD τ sig (Elt F)} (h : Ends m r) (c : Dev nD) (b : Ref sig .tc) (hm : b ∈ rest)
    (hb : b ≠ main_v12) (hw : ∀ w, Pipeline.arrRef spec0 w ≠ b) (hV : V m c b = m ((c : Thread nD τ).loc b)) :
    r.2.mem ((c.tc : Thread nD τ).loc b) = m ((c.tc : Thread nD τ).loc b) := by
  obtain ⟨A, -, hA⟩ := (h c).2
  exact (hA b hm).trans ((kept m c A b hb hw).trans hV)

/-- Every argument ends as launched. -/
theorem unchanged {r : PUnit × MemSt nD τ sig (Elt F)} (h : Ends m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨by
      have h0 := (h c).1 0
      rw [(data m c).ArrAt_in 0 rfl] at h0
      exact h0.trans (V_main_arg0 m c),
    kept_arg m h c main_arg1 (Pipeline.mem_restRefs_of main_arg1 (by decide) (by decide)) (by decide) (by decide) (V_main_arg1 m c),
    kept_arg m h c main_arg2 (Pipeline.mem_restRefs_of main_arg2 (by decide) (by decide)) (by decide) (by decide) (V_main_arg2 m c),
    kept_arg m h c main_arg3 (Pipeline.mem_restRefs_of main_arg3 (by decide) (by decide)) (by decide) (by decide) (V_main_arg3 m c),
    kept_arg m h c main_arg4 (Pipeline.mem_restRefs_of main_arg4 (by decide) (by decide)) (by decide) (by decide) (V_main_arg4 m c),
    kept_arg m h c main_arg5 (Pipeline.mem_restRefs_of main_arg5 (by decide) (by decide)) (by decide) (by decide) (V_main_arg5 m c),
    kept_arg m h c main_arg6 (Pipeline.mem_restRefs_of main_arg6 (by decide) (by decide)) (by decide) (by decide) (V_main_arg6 m c),
    kept_arg m h c main_arg7 (Pipeline.mem_restRefs_of main_arg7 (by decide) (by decide)) (by decide) (by decide) (V_main_arg7 m c),
    kept_arg m h c main_arg8 (Pipeline.mem_restRefs_of main_arg8 (by decide) (by decide)) (by decide) (by decide) (V_main_arg8 m c)⟩

/-- The frame: the program runs, leaves its arguments as they were, and every semaphore's counter at zero. -/
theorem frame_all : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun r h => ⟨fun c => unchanged m h.1 c, h.2⟩) (run_quiet m ρ)

end Cert.InprojIdeal.Body

end
-- ==== Proof.InprojSpec.lean ====
/-
  The input projection as plain mathematics over the extended reals, one row at a time: the normalised row against one
  column of the weight, and what is made of it. No program is mentioned here.
-/
module

public import proofs.«01_k».proof.Proof.FfnSpec
public import Idealize.ShloMosaic.Lib.Pointwise

@[expose] public section

noncomputable section

open Idealize.ShloMosaic

namespace InprojSpec

/-- The normalised row `x` against a column of the weight. -/
def z (x g w : Fin 2048 → EReal) : EReal := ∑ k, FfnSpec.rms x g k * w k

/-- A query's entry: an eighth of the projected entry, in units of the logarithm of two. -/
def query (y : EReal) : EReal :=
  Ideal.div (y * Ideal.ofBits .f32 0x3E000000#32) (Ideal.log (Ideal.ofBits .f32 0x40000000#32))

/-- The logarithm of the logistic function, as minus a softplus. -/
def logsig (y : EReal) : EReal := -(max (-y) 0 + Ideal.log1p (Ideal.exp (-(FloatOps.absf (F := Ideal) (φ := .f32) (-y)))))

theorem query_eq (y : EReal) : y * ((8⁻¹ * (Real.log 2)⁻¹ : ℝ) : EReal) = query y := by
  have h8 : Ideal.ofBits .f32 0x3E000000#32 = ((8⁻¹ : ℝ) : EReal) := by
    simp [Ideal.ofBits, Ideal.ieee, Nat.shiftRight_eq_div_pow]
    rw [← EReal.coe_mul]; norm_num
  have h2 : Ideal.ofBits .f32 0x40000000#32 = ((2 : ℝ) : EReal) := by
    simp [Ideal.ofBits, Ideal.ieee, Nat.shiftRight_eq_div_pow]
    rw [← EReal.coe_mul]; norm_num
  unfold query
  have hl : Real.log 2 ≠ 0 := (Real.log_pos (by norm_num)).ne'
  rw [h8, h2, Ideal.log_coe, if_neg (by norm_num), Ideal.div_coe hl, mul_assoc, ← EReal.coe_mul, one_div]

/-- The kernel's stable form of the same logarithm, with the smaller of the entry and zero taken out. -/
theorem logsig_eq (y : EReal) :
    min y 0 - Ideal.log1p (Ideal.exp (0 - FloatOps.absf (F := Ideal) (φ := .f32) y)) = logsig y := by
  have habs : FloatOps.absf (F := Ideal) (φ := .f32) (-y) = FloatOps.absf (F := Ideal) (φ := .f32) y := by
    show max (-y) (- -y) = max y (-y)
    rw [neg_neg, max_comm]
  have hmax : max (-y) 0 = -min y 0 := by
    rcases le_total y 0 with h | h
    · rw [min_eq_left h, max_eq_left (EReal.neg_nonneg.mpr h)]
    · rw [min_eq_right h, max_eq_right (by rw [EReal.neg_le, neg_zero]; exact h), neg_zero]
  have hlog : 0 ≤ Ideal.log1p (Ideal.exp (-FloatOps.absf (F := Ideal) (φ := .f32) y)) := by
    generalize -FloatOps.absf (F := Ideal) (φ := .f32) y = a
    induction a using EReal.rec with
    | bot =>
      have e : Ideal.log1p (Ideal.exp (⊥ : EReal)) = ((Real.log 1 : ℝ) : EReal) := by
        unfold Ideal.log1p
        rw [Ideal.exp_bot, add_zero, ← EReal.coe_one, Ideal.log_coe, if_neg (by norm_num)]
      rw [e, Real.log_one]; exact le_refl _
    | top =>
      have e : Ideal.log1p (Ideal.exp (⊤ : EReal)) = ⊤ := by
        unfold Ideal.log1p
        rw [Ideal.exp_top, ← EReal.coe_one, EReal.coe_add_top, Ideal.log_top]
      rw [e]; exact le_top
    | coe r =>
      have e : Ideal.log1p (Ideal.exp (r : EReal)) = ((Real.log (1 + Real.exp r) : ℝ) : EReal) := by
        have := Real.exp_pos r
        unfold Ideal.log1p
        rw [Ideal.exp_coe, ← EReal.coe_one, ← EReal.coe_add, Ideal.log_coe, if_neg (by linarith)]
      rw [e]
      exact_mod_cast Real.log_nonneg (by linarith [Real.exp_pos r])
  unfold logsig
  rw [habs, hmax, zero_sub]
  generalize Ideal.log1p (Ideal.exp (-FloatOps.absf (F := Ideal) (φ := .f32) y)) = b at hlog ⊢
  have hm : min y 0 ≤ 0 := min_le_right _ _
  rw [EReal.neg_add (.inl ?_) (.inr ?_), neg_neg]
  · intro h
    rw [EReal.neg_eq_bot_iff] at h
    rw [h] at hm; simp at hm
  · intro h; rw [h] at hlog; simp at hlog

end InprojSpec

end
-- ==== Proof.InprojPoint.lean ====
/-
  The input projection's call read entry by entry: where each window's blocks lie, what the host's prepared arrays hold,
  and what the products of one grid point come to as entries of the normalised rows against columns of the weight.
-/
module
public import proofs.«01_k».proof.Proof.InprojFrame
public import proofs.«01_k».proof.Proof.InprojSpec
public import Idealize.ShloMosaic.Lib.Pointwise
public import Idealize.ShloMosaic.Lib.Claim
public import Idealize.ShloMosaic.Lib.StableHlo.ReadAt
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
namespace Cert.InprojIdeal.RefValue
open Cert.InprojIdeal Cert.InprojIdeal.Gen
variable (m : (ℓ : Loc nD τ sig) → Buf (Elt Ideal) ℓ)

theorem idx : ∀ t : Fin cfg0.N, win0_0.index t = ![t.val / 8, 0]
    ∧ win0_1.index t = ![0, 0]
    ∧ win0_2.index t = ![0, t.val % 8]
    ∧ win0_3.index t = ![0, 0]
    ∧ win0_4.index t = ![0, 0]
    ∧ win0_5.index t = ![0, 0]
    ∧ win0_6.index t = ![t.val / 8, 0]
    ∧ win0_7.index t = ![t.val / 8, 0]
    ∧ win0_8.index t = ![t.val / 8, 0]
    ∧ win0_9.index t = ![t.val / 8, 0]
    ∧ win0_10.index t = ![0, min (t.val / 8) 15, 0]
    ∧ win0_11.index t = ![0, min (t.val / 8) 15, 0]
    ∧ win0_12.index t = ![0, t.val / 8 - 16, 0]
    ∧ win0_13.index t = ![0, t.val / 8 - 16, 0] :=
  (by decide +kernel : ∀ t : Fin grid0.N, _)

theorem pay6_at (x : FVec Ideal S512x2048 .f32) (g : FVec Ideal S1x2048 .f32) (r : Fin 512) (k : Fin 2048) :
    k0_pay6 (F := Ideal) x g (ix2 r k) = FfnSpec.rms (fun i => x (ix2 r i)) (fun i => g (ix2 0 i)) k := by
  pointwise [k0_pay6, k0_pay5, FfnSpec.rms]
theorem pay8_at (n : FVec Ideal S512x2048 .bf16) (w : FVec Ideal S2048x1024 .bf16) (r : Fin 512) (j : Fin 1024) :
    k0_pay8 (F := Ideal) n w (ix2 r j) = ∑ k : Fin 2048, n (ix2 r k) * w (ix2 k j) := by
  pointwise [k0_pay8]
theorem pay9_at (n : FVec Ideal S512x2048 .bf16) (w : FVec Ideal S2048x1024 .bf16) (r : Fin 512) (j : Fin 1024) :
    k0_pay9 (F := Ideal) n w (ix2 r j) = (∑ k : Fin 2048, n (ix2 r k) * w (ix2 k j)) * ((8⁻¹ * (Real.log 2)⁻¹ : ℝ) : EReal) := by
  pointwise [k0_pay9, k0_pay8]
  rfl
theorem pay10_at (n : FVec Ideal S512x2048 .bf16) (w : FVec Ideal S2048x1024 .bf16) (r : Fin 512) (j : Fin 1024) :
    k0_pay10 (F := Ideal) n w (ix3 0 r j) = ∑ k : Fin 2048, n (ix2 r k) * w (ix2 k j) := by
  pointwise [k0_pay10, k0_pay8]
theorem pay11_at (n : FVec Ideal S512x2048 .bf16) (w : FVec Ideal S2048x1024 .bf16) (r : Fin 512) (j : Fin 1024) :
    k0_pay11 (F := Ideal) n w (ix3 0 r j) = ∑ k : Fin 2048, n (ix2 r k) * w (ix2 k j) := by
  pointwise [k0_pay11, k0_pay8]
theorem pay12_at (n : FVec Ideal S512x2048 .bf16) (w : FVec Ideal S2048x1024 .bf16) (r : Fin 512) (j : Fin 1024) :
    k0_pay12 (F := Ideal) n w (ix3 0 r j) = ∑ k : Fin 2048, n (ix2 r k) * w (ix2 k j) := by
  pointwise [k0_pay12, k0_pay8]
theorem pay13_at (n : FVec Ideal S512x2048 .bf16) (w : FVec Ideal S2048x1024 .bf16) (r : Fin 512) (j : Fin 1024) :
    k0_pay13 (F := Ideal) n w (ix3 0 r j) = ∑ k : Fin 2048, n (ix2 r k) * w (ix2 k j) := by
  pointwise [k0_pay13, k0_pay8]
theorem pay1_at (z : FVec Ideal S512x1024 .f32) (b : FVec Ideal S1x1024 .f32) (r : Fin 512) (j : Fin 1024) :
    k0_pay1 (F := Ideal) z b (ix2 r j) = Ideal.logistic (z (ix2 r j) + b (ix2 0 j)) := by
  pointwise [k0_pay1]
theorem pay2_at (z : FVec Ideal S512x1024 .f32) (b : FVec Ideal S1x1024 .f32) (r : Fin 512) (j : Fin 1024) :
    k0_pay2 (F := Ideal) z b (ix2 r j) = Ideal.logistic (z (ix2 r j) + b (ix2 0 j)) := by
  pointwise [k0_pay2]
theorem pay3_at (z : FVec Ideal S512x1024 .f32) (b : FVec Ideal S1x1024 .f32) (r : Fin 512) (j : Fin 1024) :
    k0_pay3 (F := Ideal) z b (ix2 r j) = Ideal.logistic (z (ix2 r j) + b (ix2 0 j)) := by
  pointwise [k0_pay3]
theorem pay4_at (z : FVec Ideal S512x1024 .f32) (b : FVec Ideal S1x1024 .f32) (r : Fin 512) (j : Fin 1024) :
    k0_pay4 (F := Ideal) z b (ix2 r j) = Ideal.logistic (z (ix2 r j) + b (ix2 0 j)) := by
  pointwise [k0_pay4]
theorem pay7_at (x : FVec Ideal S512x2048 .f32) (g : FVec Ideal S1x2048 .f32) (w : FVec Ideal S2048x128 .bf16) (b : FVec Ideal S1x128 .f32)
    (r : Fin 512) (j : Fin 128) :
    k0_pay7 (F := Ideal) x g w b (ix2 r j)
      = InprojSpec.logsig (InprojSpec.z (fun i => x (ix2 r i)) (fun i => g (ix2 0 i)) (fun k => w (ix2 k j)) + b (ix2 0 j)) := by
  rw [← InprojSpec.logsig_eq]
  pointwise [k0_pay7, k0_pay5, InprojSpec.z, FfnSpec.rms]
theorem cut_at (o : ℕ) (ho : o + 1024 ≤ 4096) (b : FVec Ideal S1x4096 .f32) (j : Fin 1024) :
    (show FVec Ideal S1x1024 .f32 from Body.cut (F := Ideal) o ho b) (ix2 0 j) = b (ix2 0 ⟨o + j, by omega⟩) := by
  pointwise [Body.cut, VecWindow.window]
  refine congrArg b (funext fun a => Fin.ext ?_)
  fin_cases a <;> simp [ValueKit.rect_emb_unit_val]
/-- Where windows 10 and 11, and 12 and 13, are written back. -/
theorem flush10 : ∀ t : Fin cfg0.N, (cfg0.win 10).flush t = true ↔ (t.val % 8 = 7 ∧ t.val < 120) ∨ t.val = 143 :=
  (by decide +kernel : ∀ t : Fin grid0.N, _)
theorem flush11 : ∀ t : Fin cfg0.N, (cfg0.win 11).flush t = true ↔ (t.val % 8 = 7 ∧ t.val < 120) ∨ t.val = 143 :=
  (by decide +kernel : ∀ t : Fin grid0.N, _)
theorem flush13 : ∀ t : Fin cfg0.N, (cfg0.win 13).flush t = true ↔ t.val = 135 ∨ t.val = 143 :=
  (by decide +kernel : ∀ t : Fin grid0.N, _)
theorem flush12 : ∀ t : Fin cfg0.N, (cfg0.win 12).flush t = true ↔ t.val = 135 ∨ t.val = 143 :=
  (by decide +kernel : ∀ t : Fin grid0.N, _)

abbrev X (c : Dev nD) : FVec Ideal S9216x2048 .f32 := m ((c.tc : Thread nD τ).loc main_arg0)
abbrev g (c : Dev nD) : FVec Ideal S2048 .f32 := m ((c.tc : Thread nD τ).loc main_arg1)
abbrev w (c : Dev nD) : FVec Ideal S2048x8208 .f32 := m ((c.tc : Thread nD τ).loc main_arg2)
abbrev bf (c : Dev nD) : FVec Ideal S16 .f32 := m ((c.tc : Thread nD τ).loc main_arg3)
abbrev bg (c : Dev nD) : FVec Ideal S4096 .f32 := m ((c.tc : Thread nD τ).loc main_arg4)

theorem V9 (c : Dev nD) (k : Fin 2048) : V m c main_v9 (ix2 0 k) = g m c (ix1 k) := by
  simp only [V, hostOps0, hostOps0_1, hostOps0_2, hostOps0_3, hostOps0_4, List.flatten_cons, List.flatten_nil,
    List.append_nil, List.cons_append, List.nil_append]
  after_reads_at
theorem V10 (c : Dev nD) (k : Fin 4096) : V m c main_v10 (ix2 0 k) = bg m c (ix1 k) := by
  simp only [V, hostOps0, hostOps0_1, hostOps0_2, hostOps0_3, hostOps0_4, List.flatten_cons, List.flatten_nil,
    List.append_nil, List.cons_append, List.nil_append]
  after_reads_at
theorem V3 (c : Dev nD) (k : Fin 2048) (l : Fin 8192) : V m c main_v3 (ix2 k l)
      = if h : l.val < 3072 then w m c (ix2 k ⟨l.val, by omega⟩) else w m c (ix2 k ⟨l.val + 16, by omega⟩) := by
  simp only [V, hostOps0, hostOps0_1, hostOps0_2, hostOps0_3, hostOps0_4, List.flatten_cons, List.flatten_nil,
    List.append_nil, List.cons_append, List.nil_append]
  after_reads_at
  by_cases h : l.val < 3072
  · simp only [dif_pos h]
    after_reads_at
  · simp only [dif_neg h]
    after_reads_at
    refine congrArg (fun q => w m c (ix2 k q)) (Fin.ext ?_)
    show 3088 + (l.val - 3072) = l.val + 16
    omega
theorem V6 (c : Dev nD) (k : Fin 2048) (l : Fin 128) (h : l.val < 16) : V m c main_v6 (ix2 k l)
      = w m c (ix2 k ⟨3072 + l.val, by omega⟩) := by
  simp only [V, hostOps0, hostOps0_1, hostOps0_2, hostOps0_3, hostOps0_4, List.flatten_cons, List.flatten_nil,
    List.append_nil, List.cons_append, List.nil_append]
  after_reads_at
  rw [dif_pos h]
theorem V8 (c : Dev nD) (l : Fin 128) (h : l.val < 16) : V m c main_v8 (ix2 0 l) = bf m c (ix1 ⟨l.val, h⟩) := by
  simp only [V, hostOps0, hostOps0_1, hostOps0_2, hostOps0_3, hostOps0_4, List.flatten_cons, List.flatten_nil,
    List.append_nil, List.cons_append, List.nil_append]
  after_reads_at
  rw [dif_pos h]
/-- The stacked arrays as the call finds them: copies of the arguments. -/
theorem V11_4 (c : Dev nD) (L : Fin 4) (R : Fin 8192) (j : Fin 1024) :
    V m c main_v11_4 (ix3 L R j) = (m ((c.tc : Thread nD τ).loc main_arg5) : FVec Ideal S4x8192x1024 .f32) (ix3 L R j) := by
  simp only [V, hostOps0, hostOps0_1, hostOps0_2, hostOps0_3, hostOps0_4, List.flatten_cons, List.flatten_nil,
    List.append_nil, List.cons_append, List.nil_append]
  after_reads_at
  rfl
theorem V11_5 (c : Dev nD) (L : Fin 4) (R : Fin 8192) (j : Fin 1024) :
    V m c main_v11_5 (ix3 L R j) = (m ((c.tc : Thread nD τ).loc main_arg6) : FVec Ideal S4x8192x1024 .f32) (ix3 L R j) := by
  simp only [V, hostOps0, hostOps0_1, hostOps0_2, hostOps0_3, hostOps0_4, List.flatten_cons, List.flatten_nil,
    List.append_nil, List.cons_append, List.nil_append]
  after_reads_at
  rfl
theorem V11_6 (c : Dev nD) (L : Fin 4) (R : Fin 1024) (j : Fin 1024) :
    V m c main_v11_6 (ix3 L R j) = (m ((c.tc : Thread nD τ).loc main_arg7) : FVec Ideal S4x1024x1024 .f32) (ix3 L R j) := by
  simp only [V, hostOps0, hostOps0_1, hostOps0_2, hostOps0_3, hostOps0_4, List.flatten_cons, List.flatten_nil,
    List.append_nil, List.cons_append, List.nil_append]
  after_reads_at
  rfl
theorem V11_7 (c : Dev nD) (L : Fin 4) (R : Fin 1024) (j : Fin 1024) :
    V m c main_v11_7 (ix3 L R j) = (m ((c.tc : Thread nD τ).loc main_arg8) : FVec Ideal S4x1024x1024 .f32) (ix3 L R j) := by
  simp only [V, hostOps0, hostOps0_1, hostOps0_2, hostOps0_3, hostOps0_4, List.flatten_cons, List.flatten_nil,
    List.append_nil, List.cons_append, List.nil_append]
  after_reads_at
  rfl
theorem blk0 (c : Dev nD) (t : Fin cfg0.N) (r : Fin 512) (k : Fin 2048) (h : 512 * (t.val / 8) + r.val < 9216) :
    (show FVec Ideal S512x2048 .f32 from iblk m c 0 t) (ix2 r k) = X m c (ix2 ⟨512 * (t.val / 8) + r.val, h⟩ k) := by
  blk_point [iblk, V, idx t]
theorem blk1 (c : Dev nD) (t : Fin cfg0.N) (k : Fin 2048) :
    (show FVec Ideal S1x2048 .f32 from iblk m c 1 t) (ix2 0 k) = g m c (ix1 k) := by
  rw [← V9]; blk_ext [iblk, idx t]
theorem blk2 (c : Dev nD) (t : Fin cfg0.N) (k : Fin 2048) (l : Fin 1024) :
    (show FVec Ideal S2048x1024 .bf16 from iblk m c 2 t) (ix2 k l) = V m c main_v3 (ix2 k ⟨1024 * (t.val % 8) + l.val, by omega⟩) := by
  blk_ext [iblk, idx t]
theorem blk3 (c : Dev nD) (t : Fin cfg0.N) (k : Fin 2048) (l : Fin 128) :
    (show FVec Ideal S2048x128 .bf16 from iblk m c 3 t) (ix2 k l) = V m c main_v6 (ix2 k l) := by
  blk_ext [iblk, idx t]
theorem blk4 (c : Dev nD) (t : Fin cfg0.N) (l : Fin 128) :
    (show FVec Ideal S1x128 .f32 from iblk m c 4 t) (ix2 0 l) = V m c main_v8 (ix2 0 l) := by
  blk_ext [iblk, idx t]
theorem blk5 (c : Dev nD) (t : Fin cfg0.N) (l : Fin 4096) :
    (show FVec Ideal S1x4096 .f32 from iblk m c 5 t) (ix2 0 l) = bg m c (ix1 l) := by
  rw [← V10]; blk_ext [iblk, idx t]

/-! ## The entries -/

/-- An entry of the projected rows: the normalised row `R` against column `l` of the weight. -/
def z (c : Dev nD) (R : Fin 9216) (l : Fin 8208) : EReal :=
  InprojSpec.z (fun k => X m c (ix2 R k)) (fun k => g m c (ix1 k)) (fun k => w m c (ix2 k l))

/-- The row of the whole array that row `r` of point `t`'s block is. -/
abbrev big (t : Fin cfg0.N) (r : Fin 512) : Fin 9216 := ⟨512 * (t.val / 8) + r.val, by have := Body.points t; omega⟩

theorem xn_at (c : Dev nD) (t : Fin cfg0.N) (r : Fin 512) (k : Fin 2048) :
    Body.xn m c t (ix2 r k) = FfnSpec.rms (fun i => X m c (ix2 (big t r) i)) (fun i => g m c (ix1 i)) k := by
  refine (pay6_at _ _ r k).trans ?_
  have hd : (Body.row t).val / 8 = t.val / 8 := by show t.val / 8 * 8 / 8 = t.val / 8; omega
  refine congrArg₂ (fun a b => FfnSpec.rms a b k) ?_ ?_
  · funext i
    refine (blk0 m c (Body.row t) r i (by rw [hd]; exact (big t r).isLt)).trans ?_
    simp only [hd]
  · funext i; exact blk1 m c _ i

/-- The product of a point of the first three column blocks. -/
theorem prod_lo (c : Dev nD) (t : Fin cfg0.N) (h : t.val % 8 < 3) (r : Fin 512) (j : Fin 1024) :
    (∑ k : Fin 2048, Body.xn m c t (ix2 r k) * (show FVec Ideal S2048x1024 .bf16 from iblk m c 2 t) (ix2 k j))
      = z m c (big t r) ⟨1024 * (t.val % 8) + j.val, by omega⟩ := by
  unfold z InprojSpec.z
  refine Finset.sum_congr rfl fun k _ => congrArg₂ (· * ·) (xn_at m c t r k) ?_
  refine (blk2 m c t k j).trans ((V3 m c k _).trans ?_)
  rw [dif_pos (by show 1024 * (t.val % 8) + j.val < 3072; omega)]

/-- The product of a point of the later column blocks, past the sixteen columns of the forget gates. -/
theorem prod_hi (c : Dev nD) (t : Fin cfg0.N) (h : 3 ≤ t.val % 8) (r : Fin 512) (j : Fin 1024) :
    (∑ k : Fin 2048, Body.xn m c t (ix2 r k) * (show FVec Ideal S2048x1024 .bf16 from iblk m c 2 t) (ix2 k j))
      = z m c (big t r) ⟨1024 * (t.val % 8) + j.val + 16, by omega⟩ := by
  unfold z InprojSpec.z
  refine Finset.sum_congr rfl fun k _ => congrArg₂ (· * ·) (xn_at m c t r k) ?_
  refine (blk2 m c t k j).trans ((V3 m c k _).trans ?_)
  rw [dif_neg (by show ¬1024 * (t.val % 8) + j.val < 3072; omega)]

/-- The log forget values of the first point of a row block. -/
theorem forget_at (c : Dev nD) (t : Fin cfg0.N) (r : Fin 512) (j : Fin 128) (h : j.val < 16) :
    k0_pay7 (F := Ideal) (iblk m c 0 t) (iblk m c 1 t) (iblk m c 3 t) (iblk m c 4 t) (ix2 r j)
      = InprojSpec.logsig (z m c (big t r) ⟨3072 + j.val, by omega⟩ + bf m c (ix1 ⟨j.val, h⟩)) := by
  refine (pay7_at _ _ _ _ r j).trans ?_
  refine congrArg InprojSpec.logsig (congrArg₂ (· + ·) ?_ ?_)
  · unfold z
    refine congr (congrArg₂ InprojSpec.z (funext fun i => blk0 m c t r i (big t r).isLt) (funext fun i => blk1 m c t i))
      (funext fun k => (blk3 m c t k j).trans (V6 m c k j h))
  · exact (blk4 m c t j).trans (V8 m c j h)

end Cert.InprojIdeal.RefValue
-- ==== Proof.InprojLeft.lean ====
/-
  What each output's block of the input projection holds when it is written back. A block is set at one point of its
  row block (the gates' at four, a quarter of the columns each) and passed on unchanged from there to the write-back.
-/
module

public import proofs.«01_k».proof.Proof.InprojPoint

@[expose] public section
set_option maxRecDepth 16384
noncomputable section
open Idealize.ShloMosaic Idealize.ShloMosaic.TcCoe Idealize.SL.Sem
open Idealize.ShloMosaic.Pipeline (RDat)
namespace Cert.InprojIdeal.RefValue
open Cert.InprojIdeal Cert.InprojIdeal.Gen Cert.InprojIdeal.Body
variable (m : (ℓ : Loc nD τ sig) → Buf (Elt Ideal) ℓ)

/-- A property that a point gives the block and that every later point up to the write-back passes on is the written
    block's. -/
theorem passed (c : Dev nD) (w : Fin cfg0.W) (hout : (cfg0.win w).isOut = true) (P : ℕ → ((cfg0.win w).block.Idx → Elt Ideal (cfg0.win w).elt) → Prop)
    (s : Fin cfg0.N) (hs : ∀ Y X, (data m c).after w s Y X → P s.val X) : ∀ (n : ℕ) (t : Fin cfg0.N), t.val = s.val + n →
    (∀ u : Fin cfg0.N, s.val ≤ u.val → u.val < t.val → (cfg0.win w).flush u = false) →
    (∀ u : Fin cfg0.N, s.val < u.val → u.val ≤ t.val → ∀ Y X, P (u.val - 1) Y → (data m c).after w u Y X → P u.val X) →
    ∀ X, (data m c).Leaves w t X → P t.val X := by
  intro n
  induction n with
  | zero =>
    intro t ht hf hk X hX
    obtain rfl : t = s := Fin.ext (by omega)
    obtain ⟨Y, -, h⟩ := hX
    exact hs Y X h
  | succ n ih =>
    intro t ht hf hk X hX
    obtain ⟨Y, hY, h⟩ := hX
    have hp : t.val - 1 < cfg0.N := by have := t.isLt; omega
    rw [(data m c).finds_of_pos ((cfg0.win w).fetch_out hout t) (by omega)] at hY
    refine hk t (by omega) (Nat.le_refl _) Y X ?_ h
    rcases hY with hY | hY
    · rw [hf ⟨t.val - 1, hp⟩ (by show s.val ≤ t.val - 1; omega) (by show t.val - 1 < t.val; omega)] at hY
      exact absurd hY (by simp)
    · exact ih ⟨t.val - 1, hp⟩ (by show t.val - 1 = s.val + n; omega)
        (fun u h1 h2 => hf u h1 (by simp only at h2; omega)) (fun u h1 h2 => hk u h1 (by simp only at h2; omega)) Y hY

/-- No point between the setting one and the write-back writes back. -/
theorem quiet_row (w : Fin cfg0.W) (hw : ∀ t : Fin cfg0.N, (cfg0.win w).flush t = true ↔ t.val % 8 = 7) (t : Fin cfg0.N) (s : ℕ)
    (hs : t.val / 8 * 8 ≤ s) (u : Fin cfg0.N) (h1 : s ≤ u.val) (h2 : u.val < t.val) : (cfg0.win w).flush u = false := by
  have ht := points t
  rcases h : (cfg0.win w).flush u with _ | _
  · rfl
  · exfalso
    have := (hw u).mp h
    omega

/-- The queries' block: the first column block's product, scaled. -/
theorem left6 (c : Dev nD) (t : Fin cfg0.N) (ht : t.val % 8 = 7) (s : Fin cfg0.N) (hs : s.val = t.val / 8 * 8) (X) (hX : (data m c).Leaves 6 t X) :
    X = k0_pay9 (xn m c s) (iblk m c 2 s) := by
  have hp := points t
  refine passed m c 6 rfl (fun _ X => X = k0_pay9 (xn m c s) (iblk m c 2 s)) s (fun Y X h => ?_) (t.val - s.val) t (by omega)
    (quiet_row 6 flush0_6 t s.val (by omega)) (fun u h1 h2 Y X hY h => ?_) X hX
  · refine Eq.trans (show X = _ from h) ?_
    unfold step6
    rw [if_pos ((branch2 s).mpr (by omega))]
  · refine Eq.trans (show X = _ from h) ?_
    unfold step6
    rw [if_neg (fun hc => absurd ((branch2 u).mp hc) (by omega))]
    exact hY

/-- The recurrence's input: the fourth column block's product. -/
theorem left7 (c : Dev nD) (t : Fin cfg0.N) (ht : t.val % 8 = 7) (s : Fin cfg0.N) (hs : s.val = t.val / 8 * 8 + 3) (X) (hX : (data m c).Leaves 7 t X) :
    X = k0_pay8 (xn m c s) (iblk m c 2 s) := by
  have hp := points t
  refine passed m c 7 rfl (fun _ X => X = k0_pay8 (xn m c s) (iblk m c 2 s)) s (fun Y X h => ?_) (t.val - s.val) t (by omega)
    (quiet_row 7 flush0_7 t s.val (by omega)) (fun u h1 h2 Y X hY h => ?_) X hX
  · refine Eq.trans (show X = _ from h) ?_
    unfold step7
    rw [if_pos ((branch7 s).mpr (by omega))]
  · refine Eq.trans (show X = _ from h) ?_
    unfold step7
    rw [if_neg (fun hc => absurd ((branch7 u).mp hc) (by omega))]
    exact hY

/-- The log forget values, set at the first point of the row block. -/
theorem left9 (c : Dev nD) (t : Fin cfg0.N) (ht : t.val % 8 = 7) (s : Fin cfg0.N) (hs : s.val = t.val / 8 * 8) (X) (hX : (data m c).Leaves 9 t X) :
    X = k0_pay7 (iblk m c 0 s) (iblk m c 1 s) (iblk m c 3 s) (iblk m c 4 s) := by
  have hp := points t
  refine passed m c 9 rfl (fun _ X => X = k0_pay7 (iblk m c 0 s) (iblk m c 1 s) (iblk m c 3 s) (iblk m c 4 s)) s (fun Y X h => ?_) (t.val - s.val) t (by omega)
    (quiet_row 9 flush0_9 t s.val (by omega)) (fun u h1 h2 Y X hY h => ?_) X hX
  · refine Eq.trans (show X = _ from h) ?_
    unfold step9
    rw [if_pos ((branch1 s).mpr (by omega))]
  · refine Eq.trans (show X = _ from h) ?_
    unfold step9
    rw [if_neg (fun hc => absurd ((branch1 u).mp hc) (by omega))]
    exact hY

/-- The prompt keys' block: the second column block's product; the last one waits for the end of the grid. -/
theorem left10 (c : Dev nD) (t s : Fin cfg0.N) (ht : (t.val % 8 = 7 ∧ t.val < 120) ∨ t.val = 143) (hs : s.val = min (t.val / 8) 15 * 8 + 1) (X) (hX : (data m c).Leaves 10 t X) :
    X = k0_pay10 (xn m c s) (iblk m c 2 s) := by
  have hp := points t
  refine passed m c 10 rfl (fun _ X => X = k0_pay10 (xn m c s) (iblk m c 2 s)) s (fun Y X h => ?_) (t.val - s.val) t (by omega)
    (fun u h1 h2 => ?_) (fun u h1 h2 Y X hY h => ?_) X hX
  · refine Eq.trans (show X = _ from h) ?_
    unfold step10
    rw [if_pos ((branch3 s).mpr (by omega))]
  · rcases h : (cfg0.win 10).flush u with _ | _
    · rfl
    · exfalso
      have := (flush10 u).mp h
      omega
  · refine Eq.trans (show X = _ from h) ?_
    unfold step10
    rw [if_neg (fun hc => absurd ((branch3 u).mp hc) (by omega))]
    exact hY

/-- The prompt values' block: the third column block's product. -/
theorem left11 (c : Dev nD) (t s : Fin cfg0.N) (ht : (t.val % 8 = 7 ∧ t.val < 120) ∨ t.val = 143) (hs : s.val = min (t.val / 8) 15 * 8 + 2) (X) (hX : (data m c).Leaves 11 t X) :
    X = k0_pay12 (xn m c s) (iblk m c 2 s) := by
  have hp := points t
  refine passed m c 11 rfl (fun _ X => X = k0_pay12 (xn m c s) (iblk m c 2 s)) s (fun Y X h => ?_) (t.val - s.val) t (by omega)
    (fun u h1 h2 => ?_) (fun u h1 h2 Y X hY h => ?_) X hX
  · refine Eq.trans (show X = _ from h) ?_
    unfold step11
    rw [if_pos ((branch5 s).mpr (by omega))]
  · rcases h : (cfg0.win 11).flush u with _ | _
    · rfl
    · exfalso
      have := (flush11 u).mp h
      omega
  · refine Eq.trans (show X = _ from h) ?_
    unfold step11
    rw [if_neg (fun hc => absurd ((branch5 u).mp hc) (by omega))]
    exact hY

/-- The sample keys' block. -/
theorem left12 (c : Dev nD) (t s : Fin cfg0.N) (ht : t.val = 135 ∨ t.val = 143) (hs : s.val = t.val / 8 * 8 + 1) (X) (hX : (data m c).Leaves 12 t X) :
    X = k0_pay11 (xn m c s) (iblk m c 2 s) := by
  have hp := points t
  refine passed m c 12 rfl (fun _ X => X = k0_pay11 (xn m c s) (iblk m c 2 s)) s (fun Y X h => ?_) (t.val - s.val) t (by omega)
    (fun u h1 h2 => ?_) (fun u h1 h2 Y X hY h => ?_) X hX
  · refine Eq.trans (show X = _ from h) ?_
    unfold step12
    rw [if_pos ((branch4 s).mpr (by omega))]
  · rcases h : (cfg0.win 12).flush u with _ | _
    · rfl
    · exfalso
      have := (flush12 u).mp h
      omega
  · refine Eq.trans (show X = _ from h) ?_
    unfold step12
    rw [if_neg (fun hc => absurd ((branch4 u).mp hc) (by omega))]
    exact hY

/-- The sample values' block. -/
theorem left13 (c : Dev nD) (t s : Fin cfg0.N) (ht : t.val = 135 ∨ t.val = 143) (hs : s.val = t.val / 8 * 8 + 2) (X) (hX : (data m c).Leaves 13 t X) :
    X = k0_pay13 (xn m c s) (iblk m c 2 s) := by
  have hp := points t
  refine passed m c 13 rfl (fun _ X => X = k0_pay13 (xn m c s) (iblk m c 2 s)) s (fun Y X h => ?_) (t.val - s.val) t (by omega)
    (fun u h1 h2 => ?_) (fun u h1 h2 Y X hY h => ?_) X hX
  · refine Eq.trans (show X = _ from h) ?_
    unfold step13
    rw [if_pos ((branch6 s).mpr (by omega))]
  · rcases h : (cfg0.win 13).flush u with _ | _
    · rfl
    · exfalso
      have := (flush13 u).mp h
      omega
  · refine Eq.trans (show X = _ from h) ?_
    unfold step13
    rw [if_neg (fun hc => absurd ((branch6 u).mp hc) (by omega))]
    exact hY

/-- A column inside a stored quarter reads the quarter, one outside it what was there. -/
theorem put_in (y : FVec Ideal S512x4096 .bf16) (v : FVec Ideal S512x1024 .bf16) (o : ℕ) (r : Fin 512) (l : Fin 4096) (j : Fin 1024)
    (h : l.val = o + j.val) :
    (VecWindow.put (s := S512x4096) y ![0, o] S512x1024.size v : FVec Ideal S512x4096 .bf16) (ix2 r l) = v (ix2 r j) := by
  unfold VecWindow.put
  rw [dif_pos (Fin.forall_fin_two.mpr ⟨⟨Nat.zero_le _, by show r.val < 0 + 512; omega⟩,
    ⟨by show o ≤ l.val; omega, by show l.val < o + 1024; omega⟩⟩)]
  refine congrArg v (funext fun a => Fin.ext ?_)
  fin_cases a
  · show r.val - 0 = r.val
    omega
  · show l.val - o = j.val
    omega

theorem put_out (y : FVec Ideal S512x4096 .bf16) (v : FVec Ideal S512x1024 .bf16) (o : ℕ) (r : Fin 512) (l : Fin 4096) (h : l.val < o) :
    (VecWindow.put (s := S512x4096) y ![0, o] S512x1024.size v : FVec Ideal S512x4096 .bf16) (ix2 r l) = y (ix2 r l) := by
  unfold VecWindow.put
  rw [dif_neg]
  intro hall
  have := (hall 1).1
  have h2 : o ≤ l.val := this
  omega

/-- One entry of the gates. -/
def gate (c : Dev nD) (R : Fin 9216) (l : Fin 4096) : EReal := Ideal.logistic (z m c R ⟨4112 + l.val, by omega⟩ + bg m c (ix1 l))

/-- The quarter of the gates that one of the last four points of a row block stores. -/
theorem quarter (c : Dev nD) (t : Fin cfg0.N) (q : ℕ) (hq : q < 4) (ht : t.val % 8 = q + 4) (ho : 1024 * q + 1024 ≤ 4096) (r : Fin 512) (l : Fin 4096)
    (j : Fin 1024) (h : l.val = 1024 * q + j.val) :
    Ideal.logistic (k0_pay8 (F := Ideal) (xn m c t) (iblk m c 2 t) (ix2 r j)
        + (show FVec Ideal S1x1024 .f32 from cut (F := Ideal) (1024 * q) ho (iblk m c 5 t)) (ix2 0 j)) = gate m c (big t r) l := by
  unfold gate
  refine congrArg Ideal.logistic (congrArg₂ (· + ·) ?_ ?_)
  · refine (pay8_at _ _ r j).trans ((prod_hi m c t (by omega) r j).trans ?_)
    exact congrArg (z m c (big t r)) (Fin.ext (by show 1024 * (t.val % 8) + j.val + 16 = 4112 + l.val; omega))
  · refine (cut_at _ _ _ j).trans ((blk5 m c t _).trans ?_)
    exact congrArg (fun i => bg m c (ix1 i)) (Fin.ext h.symm)

/-- What one of the last four points makes of the gates' block: one more quarter. -/
theorem step8_at (c : Dev nD) (t : Fin cfg0.N) (q : ℕ) (hq : q < 4) (ht : t.val % 8 = q + 4) (Y : FVec Ideal S512x4096 .bf16)
    (r : Fin 512) (l : Fin 4096) (hl : l.val < 1024 * (q + 1)) (hY : l.val < 1024 * q → Y (ix2 r l) = gate m c (big t r) l) :
    (step8 (F := Ideal) (grid0.coords t) (xn m c t) (iblk m c 2 t) (iblk m c 5 t) Y : FVec Ideal S512x4096 .bf16) (ix2 r l) = gate m c (big t r) l := by
  have hp := points t
  unfold step8
  have h8 := branch8 t
  have h9 := branch9 t
  have h10 := branch10 t
  have h11 := branch11 t
  interval_cases q
  · rw [if_pos (h8.mpr ht)]
    exact (put_in Y _ 0 r l ⟨l.val, by omega⟩ (by simp)).trans ((pay1_at _ _ r _).trans (quarter m c t 0 (by omega) ht (by decide) r l ⟨l.val, by omega⟩ (by simp)))
  · rw [if_neg (fun h => absurd (h8.mp h) (by omega)), if_pos (h9.mpr ht)]
    by_cases h : l.val < 1024
    · exact (put_out Y _ 1024 r l h).trans (hY (by omega))
    · exact (put_in Y _ 1024 r l ⟨l.val - 1024, by omega⟩ (by simp only; omega)).trans ((pay2_at _ _ r _).trans
        (quarter m c t 1 (by omega) ht (by decide) r l ⟨l.val - 1024, by omega⟩ (by simp only; omega)))
  · rw [if_neg (fun h => absurd (h8.mp h) (by omega)), if_neg (fun h => absurd (h9.mp h) (by omega)), if_pos (h10.mpr ht)]
    by_cases h : l.val < 2048
    · exact (put_out Y _ 2048 r l h).trans (hY (by omega))
    · exact (put_in Y _ 2048 r l ⟨l.val - 2048, by omega⟩ (by simp only; omega)).trans ((pay3_at _ _ r _).trans
        (quarter m c t 2 (by omega) ht (by decide) r l ⟨l.val - 2048, by omega⟩ (by simp only; omega)))
  · rw [if_neg (fun h => absurd (h8.mp h) (by omega)), if_neg (fun h => absurd (h9.mp h) (by omega)),
      if_neg (fun h => absurd (h10.mp h) (by omega)), if_pos (h11.mpr ht)]
    by_cases h : l.val < 3072
    · exact (put_out Y _ 3072 r l h).trans (hY (by omega))
    · exact (put_in Y _ 3072 r l ⟨l.val - 3072, by omega⟩ (by simp only; omega)).trans ((pay4_at _ _ r _).trans
        (quarter m c t 3 (by omega) ht (by decide) r l ⟨l.val - 3072, by omega⟩ (by simp only; omega)))

/-- The gates' block at the write-back. -/
theorem left8 (c : Dev nD) (t : Fin cfg0.N) (ht : t.val % 8 = 7) (X) (hX : (data m c).Leaves 8 t X) (r : Fin 512) (l : Fin 4096) :
    (show FVec Ideal S512x4096 .bf16 from X) (ix2 r l) = gate m c (big t r) l := by
  have hp := points t
  have key := passed m c 8 rfl (fun n X => ∀ l : Fin 4096, l.val < 1024 * (n % 8 - 3) →
      (show FVec Ideal S512x4096 .bf16 from X) (ix2 r l) = gate m c (big t r) l) ⟨t.val / 8 * 8 + 4, by have := t.isLt; omega⟩
    (fun Y X h l hl => ?_) 3 t (by show t.val = t.val / 8 * 8 + 4 + 3; omega)
    (quiet_row 8 flush0_8 t _ (by show t.val / 8 * 8 ≤ t.val / 8 * 8 + 4; omega)) (fun u h1 h2 Y X hY h l hl => ?_) X hX
  · exact key l (by rw [ht]; omega)
  · have hX : X = step8 (F := Ideal) _ _ _ _ Y := h
    rw [hX]
    have hb : big ⟨t.val / 8 * 8 + 4, by have := t.isLt; omega⟩ r = big t r := Fin.ext (by
      show 512 * ((t.val / 8 * 8 + 4) / 8) + r.val = 512 * (t.val / 8) + r.val; omega)
    rw [← hb]
    refine step8_at m c ⟨t.val / 8 * 8 + 4, _⟩ 0 (by omega) (by show (t.val / 8 * 8 + 4) % 8 = 0 + 4; omega) Y r l ?_ (fun h => absurd h (by omega))
    have e : (t.val / 8 * 8 + 4) % 8 = 4 := by omega
    simp only [e] at hl
    omega
  · have hX : X = step8 (F := Ideal) _ _ _ _ Y := h
    rw [hX]
    simp only at h1
    have hb : big u r = big t r := Fin.ext (by
      show 512 * (u.val / 8) + r.val = 512 * (t.val / 8) + r.val; omega)
    rw [← hb]
    refine step8_at m c u (u.val % 8 - 4) (by omega) (by omega) Y r l (by omega) (fun h => ?_)
    rw [hb]
    exact hY l (by omega)

end Cert.InprojIdeal.RefValue
-- ==== Proof.InprojValue.lean ====
/-
  What the input projection's call leaves in its result arrays: every written block is put in its place.
-/
module

public import proofs.«01_k».proof.Proof.InprojLeft
public import Idealize.ShloMosaic.Lib.Pipeline.ArrRel
public import Idealize.ShloMosaic.Lib.Pipeline.ValueKit.Partial

@[expose] public section

set_option maxRecDepth 16384

noncomputable section

open Idealize.ShloMosaic Idealize.ShloMosaic.TcCoe Idealize.SL.Sem
open Idealize.ShloMosaic.Pipeline (RDat)

namespace Cert.InprojIdeal.RefValue

open Cert.InprojIdeal Cert.InprojIdeal.Gen Cert.InprojIdeal.Body

variable (m : (ℓ : Loc nD τ sig) → Buf (Elt Ideal) ℓ)

/-! ## The results as functions of the arguments -/

/-- An index's row and column at their own bounds. -/
abbrev at2 {a b : ℕ} (f : Fin a → Fin b → EReal) : (⟨2, ![a, b]⟩ : Shape).Idx → EReal := fun i => f (i 0) (i 1)
abbrev at3 {a b d : ℕ} (f : Fin a → Fin b → Fin d → EReal) : (⟨3, ![a, b, d]⟩ : Shape).Idx → EReal := fun i => f (i 0) (i 1) (i 2)

def query (c : Dev nD) : FVec Ideal S9216x1024 .bf16 := at2 fun (R : Fin 9216) (j : Fin 1024) => InprojSpec.query (z m c R ⟨j.val, by omega⟩)
def input (c : Dev nD) : FVec Ideal S9216x1024 .f32 := at2 fun (R : Fin 9216) (j : Fin 1024) => z m c R ⟨3088 + j.val, by omega⟩
def gates (c : Dev nD) : FVec Ideal S9216x4096 .bf16 := at2 fun (R : Fin 9216) (j : Fin 4096) => gate m c R j
def forget (c : Dev nD) : FVec Ideal S9216x16 .f32 := at2 fun (R : Fin 9216) (j : Fin 16) =>
  InprojSpec.logsig (z m c R ⟨3072 + j.val, by omega⟩ + bf m c (ix1 j))
abbrev kp (c : Dev nD) : FVec Ideal S4x8192x1024 .f32 := m ((c.tc : Thread nD τ).loc main_arg5)
abbrev vp (c : Dev nD) : FVec Ideal S4x8192x1024 .f32 := m ((c.tc : Thread nD τ).loc main_arg6)
abbrev ks (c : Dev nD) : FVec Ideal S4x1024x1024 .f32 := m ((c.tc : Thread nD τ).loc main_arg7)
abbrev vs (c : Dev nD) : FVec Ideal S4x1024x1024 .f32 := m ((c.tc : Thread nD τ).loc main_arg8)
def promptK (c : Dev nD) : FVec Ideal S4x8192x1024 .f32 := at3 fun (L : Fin 4) (R : Fin 8192) (j : Fin 1024) =>
  if L.val = 0 then z m c ⟨R.val, by omega⟩ ⟨1024 + j.val, by omega⟩ else kp m c (ix3 L R j)
def promptV (c : Dev nD) : FVec Ideal S4x8192x1024 .f32 := at3 fun (L : Fin 4) (R : Fin 8192) (j : Fin 1024) =>
  if L.val = 0 then z m c ⟨R.val, by omega⟩ ⟨2048 + j.val, by omega⟩ else vp m c (ix3 L R j)
def sampleK (c : Dev nD) : FVec Ideal S4x1024x1024 .f32 := at3 fun (L : Fin 4) (R : Fin 1024) (j : Fin 1024) =>
  if L.val = 0 then z m c ⟨8192 + R.val, by omega⟩ ⟨1024 + j.val, by omega⟩ else ks m c (ix3 L R j)
def sampleV (c : Dev nD) : FVec Ideal S4x1024x1024 .f32 := at3 fun (L : Fin 4) (R : Fin 1024) (j : Fin 1024) =>
  if L.val = 0 then z m c ⟨8192 + R.val, by omega⟩ ⟨2048 + j.val, by omega⟩ else vs m c (ix3 L R j)

/-! ## Where the blocks lie -/

theorem place6 (t : Fin cfg0.N) (r : Fin 512) (j : Fin 1024) :
    ((cfg0.win 6).blk t).view.emb (show S512x1024.Idx from ix2 r j) = (show S9216x1024.Idx from ix2 (big t r) j) := by
  blk_ext [idx t]
theorem place7 (t : Fin cfg0.N) (r : Fin 512) (j : Fin 1024) :
    ((cfg0.win 7).blk t).view.emb (show S512x1024.Idx from ix2 r j) = (show S9216x1024.Idx from ix2 (big t r) j) := by
  blk_ext [idx t]
theorem place8 (t : Fin cfg0.N) (r : Fin 512) (j : Fin 4096) :
    ((cfg0.win 8).blk t).view.emb (show S512x4096.Idx from ix2 r j) = (show S9216x4096.Idx from ix2 (big t r) j) := by
  blk_ext [idx t]
theorem place9 (t : Fin cfg0.N) (r : Fin 512) (j : Fin 128) :
    ((cfg0.win 9).blk t).view.emb (show S512x128.Idx from ix2 r j) = (show S9216x128.Idx from ix2 (big t r) j) := by
  blk_ext [idx t]
theorem place10 (t : Fin cfg0.N) (r : Fin 512) (j : Fin 1024) :
    ((cfg0.win 10).blk t).view.emb (show S1x512x1024.Idx from ix3 0 r j)
      = (show S4x8192x1024.Idx from ix3 0 ⟨512 * min (t.val / 8) 15 + r.val, by omega⟩ j) := by
  blk_ext [idx t]
theorem place11 (t : Fin cfg0.N) (r : Fin 512) (j : Fin 1024) :
    ((cfg0.win 11).blk t).view.emb (show S1x512x1024.Idx from ix3 0 r j)
      = (show S4x8192x1024.Idx from ix3 0 ⟨512 * min (t.val / 8) 15 + r.val, by omega⟩ j) := by
  blk_ext [idx t]
theorem place12 (t : Fin cfg0.N) (r : Fin 512) (j : Fin 1024) :
    ((cfg0.win 12).blk t).view.emb (show S1x512x1024.Idx from ix3 0 r j)
      = (show S4x1024x1024.Idx from ix3 0 ⟨512 * (t.val / 8 - 16) + r.val, by have := points t; omega⟩ j) := by
  blk_ext [idx t]
theorem place13 (t : Fin cfg0.N) (r : Fin 512) (j : Fin 1024) :
    ((cfg0.win 13).blk t).view.emb (show S1x512x1024.Idx from ix3 0 r j)
      = (show S4x1024x1024.Idx from ix3 0 ⟨512 * (t.val / 8 - 16) + r.val, by have := points t; omega⟩ j) := by
  blk_ext [idx t]

/-! ## The arrays -/

section Final

variable (c : Dev nD) (after : (w' : Fin cfg0.W) → Fin cfg0.N → (cfg0.win w').block.Idx → Elt Ideal (cfg0.win w').elt)
  (hL : ∀ (w : Fin cfg0.W) (u : Fin cfg0.N), u.val < cfg0.N → (cfg0.win w).flush u = true → (data m c).Leaves w u (after w u))

include hL

theorem final6 : ((data m c).withAfter after).arrAt 6 cfg0.N = query m c := by
  refine ((data m c).withAfter after).arrAt_eq_of_covers 6 (query m c) (by decide +kernel) fun t hf y => ?_
  have ht := (flush0_6 t).mp hf
  have hp := points t
  have hX := left6 m c t ht ⟨t.val / 8 * 8, by have := t.isLt; omega⟩ rfl _ (hL 6 t t.isLt hf)
  obtain ⟨r, j, rfl⟩ : ∃ (r : Fin 512) (j : Fin 1024), y = (show S512x1024.Idx from ix2 r j) := ⟨y 0, y 1, eq_ix2 y⟩
  rw [place6]
  refine (show _ = after 6 t (show S512x1024.Idx from ix2 r j) from rfl).trans ?_
  rw [hX]
  refine (pay9_at _ _ r j).trans ((InprojSpec.query_eq _).trans ?_)
  refine congrArg InprojSpec.query ((prod_lo m c _ (by show t.val / 8 * 8 % 8 < 3; omega) r j).trans ?_)
  exact congrArg₂ (z m c) (Fin.ext (by show 512 * (t.val / 8 * 8 / 8) + r.val = 512 * (t.val / 8) + r.val; omega))
    (Fin.ext (by show 1024 * (t.val / 8 * 8 % 8) + j.val = j.val; omega))

theorem final7 : ((data m c).withAfter after).arrAt 7 cfg0.N = input m c := by
  refine ((data m c).withAfter after).arrAt_eq_of_covers 7 (input m c) (by decide +kernel) fun t hf y => ?_
  have ht := (flush0_7 t).mp hf
  have hp := points t
  have hX := left7 m c t ht ⟨t.val / 8 * 8 + 3, by have := t.isLt; omega⟩ rfl _ (hL 7 t t.isLt hf)
  obtain ⟨r, j, rfl⟩ : ∃ (r : Fin 512) (j : Fin 1024), y = (show S512x1024.Idx from ix2 r j) := ⟨y 0, y 1, eq_ix2 y⟩
  rw [place7]
  refine (show _ = after 7 t (show S512x1024.Idx from ix2 r j) from rfl).trans ?_
  rw [hX]
  refine (pay8_at _ _ r j).trans ((prod_hi m c _ (by show 3 ≤ (t.val / 8 * 8 + 3) % 8; omega) r j).trans ?_)
  exact congrArg₂ (z m c) (Fin.ext (by show 512 * ((t.val / 8 * 8 + 3) / 8) + r.val = 512 * (t.val / 8) + r.val; omega))
    (Fin.ext (by show 1024 * ((t.val / 8 * 8 + 3) % 8) + j.val + 16 = 3088 + j.val; omega))

theorem final8 : ((data m c).withAfter after).arrAt 8 cfg0.N = gates m c := by
  refine ((data m c).withAfter after).arrAt_eq_of_covers 8 (gates m c) (by decide +kernel) fun t hf y => ?_
  have hX := left8 m c t ((flush0_8 t).mp hf) _ (hL 8 t t.isLt hf)
  obtain ⟨r, j, rfl⟩ : ∃ (r : Fin 512) (j : Fin 4096), y = (show S512x4096.Idx from ix2 r j) := ⟨y 0, y 1, eq_ix2 y⟩
  rw [place8]
  exact hX r j

/-- The log forget values, in the sixteen columns that are heads. -/
theorem final9 (R : Fin 9216) (j : Fin 128) (h : j.val < 16) :
    (((data m c).withAfter after).arrAt 9 cfg0.N : FVec Ideal S9216x128 .f32) (ix2 R j)
      = InprojSpec.logsig (z m c R ⟨3072 + j.val, by omega⟩ + bf m c (ix1 ⟨j.val, h⟩)) := by
  refine ((data m c).withAfter after).arrAt_forall_of_covers 9
    (fun i v => ∀ (R : Fin 9216) (j : Fin 128) (h : j.val < 16), i = (show S9216x128.Idx from ix2 R j) →
      v = InprojSpec.logsig (z m c R ⟨3072 + j.val, by omega⟩ + bf m c (ix1 ⟨j.val, h⟩))) (by decide +kernel) (fun t hf y => ?_)
      (show S9216x128.Idx from ix2 R j) (Memref.isWhole_whole _) R j h rfl
  have ht := (flush0_9 t).mp hf
  have hp := points t
  have hX := left9 m c t ht ⟨t.val / 8 * 8, by have := t.isLt; omega⟩ rfl _ (hL 9 t t.isLt hf)
  obtain ⟨r, j, rfl⟩ : ∃ (r : Fin 512) (j : Fin 128), y = (show S512x128.Idx from ix2 r j) := ⟨y 0, y 1, eq_ix2 y⟩
  rw [place9]
  intro R' j' h' he
  have e0 : big t r = R' := congrFun he 0
  have e1 : j = j' := congrFun he 1
  subst e0 e1
  refine (show _ = after 9 t (show S512x128.Idx from ix2 r j) from rfl).trans ?_
  rw [hX]
  refine (forget_at m c _ r j h').trans ?_
  have eb : big ⟨t.val / 8 * 8, by have := t.isLt; omega⟩ r = big t r :=
    Fin.ext (by show 512 * (t.val / 8 * 8 / 8) + r.val = 512 * (t.val / 8) + r.val; omega)
  rw [eb]

theorem final10 : ((data m c).withAfter after).arrAt 10 cfg0.N = promptK m c := by
  refine ((data m c).withAfter after).arrAt_eq_of_coversWhere_of_agree 10 (promptK m c) (fun β => β (0 : Fin 3) = 0) (by decide +kernel)
    (fun t hf y => ?_) (fun i hi => ?_)
  · have ht := (flush10 t).mp hf
    have hp := points t
    have hX := left10 m c t ⟨min (t.val / 8) 15 * 8 + 1, by have := t.isLt; omega⟩ ht rfl _ (hL 10 t t.isLt hf)
    obtain ⟨a, r, j, rfl⟩ : ∃ (a : Fin 1) (r : Fin 512) (j : Fin 1024), y = (show S1x512x1024.Idx from ix3 a r j) := ⟨y 0, y 1, y 2, eq_ix3 y⟩
    obtain rfl : a = 0 := Subsingleton.elim _ _
    rw [place10]
    refine (show _ = after 10 t (show S1x512x1024.Idx from ix3 0 r j) from rfl).trans ?_
    rw [hX]
    refine (pay10_at _ _ r j).trans ((prod_lo m c _ (by show (min (t.val / 8) 15 * 8 + 1) % 8 < 3; omega) r j).trans ?_)
    exact congrArg₂ (z m c) (Fin.ext (by show 512 * ((min (t.val / 8) 15 * 8 + 1) / 8) + r.val = 512 * min (t.val / 8) 15 + r.val; omega))
      (Fin.ext (by show 1024 * ((min (t.val / 8) 15 * 8 + 1) % 8) + j.val = 1024 + j.val; omega))
  · obtain ⟨L, R, j, rfl⟩ : ∃ (L : Fin 4) (R : Fin 8192) (j : Fin 1024), i = (show S4x8192x1024.Idx from ix3 L R j) := ⟨i 0, i 1, i 2, eq_ix3 i⟩
    refine (V11_4 m c L R j).trans ?_
    have h : ¬ L.val = 0 := fun h => hi (by show L.val / 1 = 0; omega)
    exact (if_neg h).symm

theorem final11 : ((data m c).withAfter after).arrAt 11 cfg0.N = promptV m c := by
  refine ((data m c).withAfter after).arrAt_eq_of_coversWhere_of_agree 11 (promptV m c) (fun β => β (0 : Fin 3) = 0) (by decide +kernel)
    (fun t hf y => ?_) (fun i hi => ?_)
  · have ht := (flush11 t).mp hf
    have hp := points t
    have hX := left11 m c t ⟨min (t.val / 8) 15 * 8 + 2, by have := t.isLt; omega⟩ ht rfl _ (hL 11 t t.isLt hf)
    obtain ⟨a, r, j, rfl⟩ : ∃ (a : Fin 1) (r : Fin 512) (j : Fin 1024), y = (show S1x512x1024.Idx from ix3 a r j) := ⟨y 0, y 1, y 2, eq_ix3 y⟩
    obtain rfl : a = 0 := Subsingleton.elim _ _
    rw [place11]
    refine (show _ = after 11 t (show S1x512x1024.Idx from ix3 0 r j) from rfl).trans ?_
    rw [hX]
    refine (pay12_at _ _ r j).trans ((prod_lo m c _ (by show (min (t.val / 8) 15 * 8 + 2) % 8 < 3; omega) r j).trans ?_)
    exact congrArg₂ (z m c) (Fin.ext (by show 512 * ((min (t.val / 8) 15 * 8 + 2) / 8) + r.val = 512 * min (t.val / 8) 15 + r.val; omega))
      (Fin.ext (by show 1024 * ((min (t.val / 8) 15 * 8 + 2) % 8) + j.val = 2048 + j.val; omega))
  · obtain ⟨L, R, j, rfl⟩ : ∃ (L : Fin 4) (R : Fin 8192) (j : Fin 1024), i = (show S4x8192x1024.Idx from ix3 L R j) := ⟨i 0, i 1, i 2, eq_ix3 i⟩
    refine (V11_5 m c L R j).trans ?_
    have h : ¬ L.val = 0 := fun h => hi (by show L.val / 1 = 0; omega)
    exact (if_neg h).symm

theorem final12 : ((data m c).withAfter after).arrAt 12 cfg0.N = sampleK m c := by
  refine ((data m c).withAfter after).arrAt_eq_of_coversWhere_of_agree 12 (sampleK m c) (fun β => β (0 : Fin 3) = 0) (by decide +kernel)
    (fun t hf y => ?_) (fun i hi => ?_)
  · have ht := (flush12 t).mp hf
    have hp := points t
    have hX := left12 m c t ⟨t.val / 8 * 8 + 1, by have := t.isLt; omega⟩ ht rfl _ (hL 12 t t.isLt hf)
    obtain ⟨a, r, j, rfl⟩ : ∃ (a : Fin 1) (r : Fin 512) (j : Fin 1024), y = (show S1x512x1024.Idx from ix3 a r j) := ⟨y 0, y 1, y 2, eq_ix3 y⟩
    obtain rfl : a = 0 := Subsingleton.elim _ _
    rw [place12]
    refine (show _ = after 12 t (show S1x512x1024.Idx from ix3 0 r j) from rfl).trans ?_
    rw [hX]
    refine (pay11_at _ _ r j).trans ((prod_lo m c _ (by show (t.val / 8 * 8 + 1) % 8 < 3; omega) r j).trans ?_)
    exact congrArg₂ (z m c) (Fin.ext (by show 512 * ((t.val / 8 * 8 + 1) / 8) + r.val = 8192 + (512 * (t.val / 8 - 16) + r.val); omega))
      (Fin.ext (by show 1024 * ((t.val / 8 * 8 + 1) % 8) + j.val = 1024 + j.val; omega))
  · obtain ⟨L, R, j, rfl⟩ : ∃ (L : Fin 4) (R : Fin 1024) (j : Fin 1024), i = (show S4x1024x1024.Idx from ix3 L R j) := ⟨i 0, i 1, i 2, eq_ix3 i⟩
    refine (V11_6 m c L R j).trans ?_
    have h : ¬ L.val = 0 := fun h => hi (by show L.val / 1 = 0; omega)
    exact (if_neg h).symm

theorem final13 : ((data m c).withAfter after).arrAt 13 cfg0.N = sampleV m c := by
  refine ((data m c).withAfter after).arrAt_eq_of_coversWhere_of_agree 13 (sampleV m c) (fun β => β (0 : Fin 3) = 0) (by decide +kernel)
    (fun t hf y => ?_) (fun i hi => ?_)
  · have ht := (flush13 t).mp hf
    have hp := points t
    have hX := left13 m c t ⟨t.val / 8 * 8 + 2, by have := t.isLt; omega⟩ ht rfl _ (hL 13 t t.isLt hf)
    obtain ⟨a, r, j, rfl⟩ : ∃ (a : Fin 1) (r : Fin 512) (j : Fin 1024), y = (show S1x512x1024.Idx from ix3 a r j) := ⟨y 0, y 1, y 2, eq_ix3 y⟩
    obtain rfl : a = 0 := Subsingleton.elim _ _
    rw [place13]
    refine (show _ = after 13 t (show S1x512x1024.Idx from ix3 0 r j) from rfl).trans ?_
    rw [hX]
    refine (pay13_at _ _ r j).trans ((prod_lo m c _ (by show (t.val / 8 * 8 + 2) % 8 < 3; omega) r j).trans ?_)
    exact congrArg₂ (z m c) (Fin.ext (by show 512 * ((t.val / 8 * 8 + 2) / 8) + r.val = 8192 + (512 * (t.val / 8 - 16) + r.val); omega))
      (Fin.ext (by show 1024 * ((t.val / 8 * 8 + 2) % 8) + j.val = 2048 + j.val; omega))
  · obtain ⟨L, R, j, rfl⟩ : ∃ (L : Fin 4) (R : Fin 1024) (j : Fin 1024), i = (show S4x1024x1024.Idx from ix3 L R j) := ⟨i 0, i 1, i 2, eq_ix3 i⟩
    refine (V11_7 m c L R j).trans ?_
    have h : ¬ L.val = 0 := fun h => hi (by show L.val / 1 = 0; omega)
    exact (if_neg h).symm

end Final

end Cert.InprojIdeal.RefValue

end
-- ==== Proof.InprojRef.lean ====
/-
  The input projection's reference read entry by entry: each of its results at an index, in terms of the plain mathematics,
  and its frame.
-/
module

public import proofs.«01_k».proof.Defs
public import proofs.«01_k».proof.Proof.InprojSpec
public import proofs.«01_k».proof.Proof.Gen.InprojReferenceIdeal.Run
public import Idealize.ShloMosaic.Lib.Pointwise
public import Idealize.ShloMosaic.Lib.Claim
public import Idealize.ShloMosaic.Lib.Quiescent
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.SL.Sem

namespace Cert.InprojReferenceIdeal.At

open Cert.InprojReferenceIdeal

variable (m : (ℓ : Loc nD τ sig) → Buf (Elt Ideal) ℓ)

abbrev X (c : Dev nD) : FVec Ideal S9216x2048 .f32 := m ((c.tc : Thread nD τ).loc main_arg0)
abbrev g (c : Dev nD) : FVec Ideal S2048 .f32 := m ((c.tc : Thread nD τ).loc main_arg1)
abbrev w (c : Dev nD) : FVec Ideal S2048x8208 .f32 := m ((c.tc : Thread nD τ).loc main_arg2)
abbrev bf (c : Dev nD) : FVec Ideal S16 .f32 := m ((c.tc : Thread nD τ).loc main_arg3)
abbrev bg (c : Dev nD) : FVec Ideal S4096 .f32 := m ((c.tc : Thread nD τ).loc main_arg4)
abbrev kp (c : Dev nD) : FVec Ideal S4x8192x1024 .f32 := m ((c.tc : Thread nD τ).loc main_arg5)
abbrev vp (c : Dev nD) : FVec Ideal S4x8192x1024 .f32 := m ((c.tc : Thread nD τ).loc main_arg6)
abbrev ks (c : Dev nD) : FVec Ideal S4x1024x1024 .f32 := m ((c.tc : Thread nD τ).loc main_arg7)
abbrev vs (c : Dev nD) : FVec Ideal S4x1024x1024 .f32 := m ((c.tc : Thread nD τ).loc main_arg8)

/-- One entry of the projected rows. -/
def z (c : Dev nD) (R : Fin 9216) (l : Fin 8208) : EReal :=
  InprojSpec.z (fun k => X m c (ix2 R k)) (fun k => g m c (ix1 k)) (fun k => w m c (ix2 k l))

/-- What the reference's results are, entry by entry. -/
structure Is (c : Dev nD) (r : PUnit × MemSt nD τ sig (Elt Ideal)) : Prop where
  q : ∀ (R : Fin 9216) (j : Fin 1024), (r.2.mem ((c.tc : Thread nD τ).loc main_v38) : FVec Ideal S9216x1024 .bf16) (ix2 R j)
    = InprojSpec.query (z m c R ⟨j, by omega⟩)
  s : ∀ (R : Fin 9216) (j : Fin 1024), (r.2.mem ((c.tc : Thread nD τ).loc main_v18) : FVec Ideal S9216x1024 .f32) (ix2 R j)
    = z m c R ⟨3088 + j, by omega⟩
  gate : ∀ (R : Fin 9216) (j : Fin 4096), (r.2.mem ((c.tc : Thread nD τ).loc main_v39) : FVec Ideal S9216x4096 .bf16) (ix2 R j)
    = Ideal.logistic (z m c R ⟨4112 + j, by omega⟩ + bg m c (ix1 j))
  lf : ∀ (R : Fin 9216) (j : Fin 16), (r.2.mem ((c.tc : Thread nD τ).loc main_v28) : FVec Ideal S9216x16 .f32) (ix2 R j)
    = InprojSpec.logsig (z m c R ⟨3072 + j, by omega⟩ + bf m c (ix1 j))
  kp : ∀ (L : Fin 4) (R : Fin 8192) (j : Fin 1024), (r.2.mem ((c.tc : Thread nD τ).loc main_v44) : FVec Ideal S4x8192x1024 .f32) (ix3 L R j)
    = if L.val = 0 then z m c ⟨R, by omega⟩ ⟨1024 + j, by omega⟩ else kp m c (ix3 L R j)
  vp : ∀ (L : Fin 4) (R : Fin 8192) (j : Fin 1024), (r.2.mem ((c.tc : Thread nD τ).loc main_v49) : FVec Ideal S4x8192x1024 .f32) (ix3 L R j)
    = if L.val = 0 then z m c ⟨R, by omega⟩ ⟨2048 + j, by omega⟩ else vp m c (ix3 L R j)
  ks : ∀ (L : Fin 4) (R : Fin 1024) (j : Fin 1024), (r.2.mem ((c.tc : Thread nD τ).loc main_v54) : FVec Ideal S4x1024x1024 .f32) (ix3 L R j)
    = if L.val = 0 then z m c ⟨8192 + R, by omega⟩ ⟨1024 + j, by omega⟩ else ks m c (ix3 L R j)
  vs : ∀ (L : Fin 4) (R : Fin 1024) (j : Fin 1024), (r.2.mem ((c.tc : Thread nD τ).loc main_v59) : FVec Ideal S4x1024x1024 .f32) (ix3 L R j)
    = if L.val = 0 then z m c ⟨8192 + R, by omega⟩ ⟨2048 + j, by omega⟩ else vs m c (ix3 L R j)

/-- Layer zero of a cache takes the new rows, the layers after it stay. -/
theorem layer {n : ℕ} (L : Fin 4) (R : Fin n) (j : Fin 1024) (f : (⟨3, ![4, n, 1024]⟩ : Shape).Idx → EReal) (b : EReal)
    (h1 : ¬ L.val < 1 → 1 + (L.val - 1) < 4) :
    (if _h : L.val < 0 then f (ix3 L R j) else if h : L.val < 1 then b else f (ix3 ⟨1 + (L.val - 1), h1 h⟩ R j))
      = if L.val = 0 then b else f (ix3 L R j) := by
  rw [dif_neg (by omega)]
  by_cases h : L.val = 0
  · rw [dif_pos (by omega), if_pos h]
  · rw [dif_neg (by omega), if_neg h]
    exact congrArg (fun l => f (ix3 l R j)) (Fin.ext (by show 1 + (L.val - 1) = L.val; omega))

/-- The softplus' guard against what is not a number never takes effect. -/
theorem guard (y : EReal) : (-if -y ≠ -y then -y else max (-y) 0 + Ideal.log1p (Ideal.exp (-(FloatOps.absf (F := Ideal) (φ := .f32) (-y)))))
    = InprojSpec.logsig y := by
  rw [if_neg (fun h => h rfl)]
  rfl

include m in
theorem run_at (ρ : Dev nD → PrngReg) :
    θ_run defs (onTc (τ := τ) (main (F := Ideal))) ⟨m, fun _ => 0, ρ⟩ fun r => ∀ c : Dev nD, Is m c r := by
  refine (θ_run defs _ _).mono (fun r h c => ?_) (Value.run (F := Ideal) m ρ)
  obtain ⟨h0, h1, h2, h3, h4, h5, h6, h7, -⟩ := h c
  refine ⟨fun R j => ?_, fun R j => ?_, fun R j => ?_, fun R j => ?_, fun L R j => ?_, fun L R j => ?_, fun L R j => ?_, fun L R j => ?_⟩
  · rw [h0]; clear h0 h1 h2 h3 h4 h5 h6 h7 h; pointwise [z, InprojSpec.z, FfnSpec.rms]; rfl
  · rw [h1]; clear h0 h1 h2 h3 h4 h5 h6 h7 h; pointwise [z, InprojSpec.z, FfnSpec.rms]
  · rw [h2]; clear h0 h1 h2 h3 h4 h5 h6 h7 h; pointwise [z, InprojSpec.z, FfnSpec.rms, Ideal.logistic]
  · rw [h3]; clear h0 h1 h2 h3 h4 h5 h6 h7 h; pointwise [z, InprojSpec.z, FfnSpec.rms, Value.res_main_v28]; exact guard _
  · rw [h4]; clear h0 h1 h2 h3 h4 h5 h6 h7 h; pointwise [z, InprojSpec.z, FfnSpec.rms]; exact layer L R j (kp m c) _ _
  · rw [h5]; clear h0 h1 h2 h3 h4 h5 h6 h7 h; pointwise [z, InprojSpec.z, FfnSpec.rms]; exact layer L R j (vp m c) _ _
  · rw [h6]; clear h0 h1 h2 h3 h4 h5 h6 h7 h; pointwise [z, InprojSpec.z, FfnSpec.rms]; exact layer L R j (ks m c) _ _
  · rw [h7]; clear h0 h1 h2 h3 h4 h5 h6 h7 h; pointwise [z, InprojSpec.z, FfnSpec.rms]; exact layer L R j (vs m c) _ _

/-- The reference's frame: its run, which leaves the arguments as they were; it has no semaphore. -/
theorem frame_reference : Cert.quiescent_InprojReferenceIdeal := fun m ρ _ =>
  (θ_run defs _ _).mono (fun r h => ⟨fun c => (h c).2.2.2.2.2.2.2.2,
      Idealize.ShloMosaic.sem_eq_zero_of_no_sems (by decide) r.2⟩)
    (Value.run (F := Ideal) m ρ)

end Cert.InprojReferenceIdeal.At

end
-- ==== Proof.InprojClaims.lean ====
/-
  The input projection's claims: its call's results are the reference's, its frames, and the constant its idealization
  names.
-/
module

public import proofs.«01_k».proof.Defs
public import proofs.«01_k».proof.Proof.InprojValue
public import proofs.«01_k».proof.Proof.InprojRef
public import proofs.«01_k».proof.Proof.InprojFrameFloat

@[expose] public section

set_option maxRecDepth 16384

noncomputable section

open Idealize.ShloMosaic Idealize.ShloMosaic.TcCoe Idealize.SL.Sem
open Idealize.ShloMosaic.Pipeline (RDat)

namespace Cert.InprojIdeal.RefValue

open Cert.InprojIdeal Cert.InprojIdeal.Gen Cert.InprojIdeal.Body

variable (m : (ℓ : Loc nD τ sig) → Buf (Elt Ideal) ℓ)

/-- What the kernel's results are. -/
structure Is (c : Dev nD) (r : PUnit × MemSt nD τ sig (Elt Ideal)) : Prop where
  q : r.2.mem ((c.tc : Thread nD τ).loc main_v11_0) = query m c
  s : r.2.mem ((c.tc : Thread nD τ).loc main_v11_1) = input m c
  gate : r.2.mem ((c.tc : Thread nD τ).loc main_v11_2) = gates m c
  lf : r.2.mem ((c.tc : Thread nD τ).loc main_v12) = forget m c
  kp : r.2.mem ((c.tc : Thread nD τ).loc main_v11_4) = promptK m c
  vp : r.2.mem ((c.tc : Thread nD τ).loc main_v11_5) = promptV m c
  ks : r.2.mem ((c.tc : Thread nD τ).loc main_v11_6) = sampleK m c
  vs : r.2.mem ((c.tc : Thread nD τ).loc main_v11_7) = sampleV m c

/-- The last line of the host code: the sixteen columns of the log forget values. -/
theorem tail (c : Dev nD) (A : (w : Fin cfg0.W) → Buf (Elt Ideal) ((spec0 w).arr.view.loc (c.tc : Thread nD τ)))
    (hA : ∀ w, (data m c).ArrAt w cfg0.N (A w)) :
    StableHlo.after [hostOps1].flatten (Pipeline.withArrays spec0 c (V0 m c) A) (Proc.devRef .tc main_v12) = forget m c := by
  obtain ⟨after, hL, hG⟩ := RDat.ArrAt.exists_exact_all hA
  have h9 : Pipeline.withArrays spec0 c (V0 m c) A (Proc.devRef .tc main_v11_3) = A 9 :=
    Pipeline.withArrays_arr spec0 launch0.win.arr_inj c (V0 m c) A 9
  have e : StableHlo.after [hostOps1].flatten (Pipeline.withArrays spec0 c (V0 m c) A) (Proc.devRef .tc main_v12)
      = extractStridedSlice S9216x16 ![0, 0] (A 9 : FVec Ideal S9216x128 .f32) slices_S9216x128_S9216x16_0_0 := by
    rw [← h9]
    simp only [hostOps1, List.flatten_cons, List.flatten_nil, List.append_nil]
    after_results
  rw [e]
  funext i
  obtain ⟨R, j, rfl⟩ : ∃ (R : Fin 9216) (j : Fin 16), i = (show S9216x16.Idx from ix2 R j) := ⟨i 0, i 1, eq_ix2 i⟩
  have hj : (extractStridedSlice S9216x16 ![0, 0] (A 9 : FVec Ideal S9216x128 .f32) slices_S9216x128_S9216x16_0_0) (ix2 R j)
      = (A 9 : FVec Ideal S9216x128 .f32) (ix2 R ⟨j.val, by omega⟩) := by
    pointwise
  refine hj.trans ?_
  rw [hG 9]
  exact final9 m c after hL R ⟨j.val, by omega⟩ j.isLt

theorem is_of_ends {r : PUnit × MemSt nD τ sig (Elt Ideal)} (h : Ends m r) (c : Dev nD) : Is m c r := by
  obtain ⟨A, hA, hrest⟩ := (h c).2
  obtain ⟨after, hL, hG⟩ := RDat.ArrAt.exists_exact_all (h c).1
  exact ⟨(hG 6).trans (final6 m c after hL), (hG 7).trans (final7 m c after hL), (hG 8).trans (final8 m c after hL),
    (hrest main_v12 (Pipeline.mem_restRefs_of main_v12 (by decide) (by decide))).trans (tail m c A hA),
    (hG 10).trans (final10 m c after hL), (hG 11).trans (final11 m c after hL), (hG 12).trans (final12 m c after hL),
    (hG 13).trans (final13 m c after hL)⟩

/-- The kernel's run: the results, and the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v11_0) = query m c
      ∧ r.2.mem ((c.tc : Thread nD τ).loc main_v11_1) = input m c
      ∧ r.2.mem ((c.tc : Thread nD τ).loc main_v11_2) = gates m c
      ∧ r.2.mem ((c.tc : Thread nD τ).loc main_v12) = forget m c
      ∧ r.2.mem ((c.tc : Thread nD τ).loc main_v11_4) = promptK m c
      ∧ r.2.mem ((c.tc : Thread nD τ).loc main_v11_5) = promptV m c
      ∧ r.2.mem ((c.tc : Thread nD τ).loc main_v11_6) = sampleK m c
      ∧ r.2.mem ((c.tc : Thread nD τ).loc main_v11_7) = sampleV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => by
    have i := is_of_ends m h c
    exact ⟨i.q, i.s, i.gate, i.lf, i.kp, i.vp, i.ks, i.vs, unchanged m h c⟩) (run_main m ρ)

end Cert.InprojIdeal.RefValue

namespace Cert.Proof.InprojClaims

open Cert.InprojIdeal.RefValue

/-- The entries of the projection are the same function of the same arguments. -/
theorem z_eq (m : (ℓ : Loc Cert.InprojIdeal.nD Cert.InprojIdeal.τ Cert.InprojIdeal.sig) → Buf (Elt Ideal) ℓ)
    (m' : (ℓ : Loc Cert.InprojReferenceIdeal.nD Cert.InprojReferenceIdeal.τ Cert.InprojReferenceIdeal.sig) → Buf (Elt Ideal) ℓ)
    (c : Dev Cert.InprojIdeal.nD)
    (h0 : Cert.InprojReferenceIdeal.At.X m' c = X m c) (h1 : Cert.InprojReferenceIdeal.At.g m' c = g m c)
    (h2 : Cert.InprojReferenceIdeal.At.w m' c = w m c) (R : Fin 9216) (l : Fin 8208) :
    Cert.InprojReferenceIdeal.At.z m' c R l = z m c R l := by
  unfold Cert.InprojReferenceIdeal.At.z z
  rw [h0, h1, h2]

/-- The input projection's call and its reference end with equal results. -/
theorem algebraic : Cert.algebraic_InprojIdeal_InprojReferenceIdeal := by
  intro m ρ m' ρ' _ hag
  refine ⟨query m, input m, gates m, forget m, promptK m, promptV m, sampleK m, sampleV m, run m ρ, ?_⟩
  have both := θ_run_and (Cert.InprojReferenceIdeal.At.run_at m' ρ') (Cert.InprojReferenceIdeal.Value.run (F := Ideal) m' ρ')
  refine (θ_run Cert.InprojReferenceIdeal.defs _ _).mono (fun r h c => ?_) both
  have i := h.1 c
  obtain ⟨h0, h1, h2, h3, h4, h5, h6, h7, h8⟩ := hag c
  have hz := z_eq m m' c h0 h1 h2
  refine ⟨funext fun x => ?_, funext fun x => ?_, funext fun x => ?_, funext fun x => ?_, funext fun x => ?_, funext fun x => ?_,
    funext fun x => ?_, funext fun x => ?_, (h.2 c).2.2.2.2.2.2.2.2⟩
  · obtain ⟨R, j, rfl⟩ : ∃ (R : Fin 9216) (j : Fin 1024), x = (show Cert.InprojReferenceIdeal.S9216x1024.Idx from ix2 R j) := ⟨x 0, x 1, eq_ix2 x⟩
    exact (i.q R j).trans (congrArg InprojSpec.query (hz _ _))
  · obtain ⟨R, j, rfl⟩ : ∃ (R : Fin 9216) (j : Fin 1024), x = (show Cert.InprojReferenceIdeal.S9216x1024.Idx from ix2 R j) := ⟨x 0, x 1, eq_ix2 x⟩
    exact (i.s R j).trans (hz _ _)
  · obtain ⟨R, j, rfl⟩ : ∃ (R : Fin 9216) (j : Fin 4096), x = (show Cert.InprojReferenceIdeal.S9216x4096.Idx from ix2 R j) := ⟨x 0, x 1, eq_ix2 x⟩
    exact (i.gate R j).trans (congrArg Ideal.logistic (congrArg₂ (· + ·) (hz _ _) (congrFun h4 (ix1 j))))
  · obtain ⟨R, j, rfl⟩ : ∃ (R : Fin 9216) (j : Fin 16), x = (show Cert.InprojReferenceIdeal.S9216x16.Idx from ix2 R j) := ⟨x 0, x 1, eq_ix2 x⟩
    exact (i.lf R j).trans (congrArg InprojSpec.logsig (congrArg₂ (· + ·) (hz _ _) (congrFun h3 (ix1 j))))
  · obtain ⟨L, R, j, rfl⟩ : ∃ (L : Fin 4) (R : Fin 8192) (j : Fin 1024), x = (show Cert.InprojReferenceIdeal.S4x8192x1024.Idx from ix3 L R j) := ⟨x 0, x 1, x 2, eq_ix3 x⟩
    exact (i.kp L R j).trans (if_congr Iff.rfl (hz _ _) (congrFun h5 (ix3 L R j)))
  · obtain ⟨L, R, j, rfl⟩ : ∃ (L : Fin 4) (R : Fin 8192) (j : Fin 1024), x = (show Cert.InprojReferenceIdeal.S4x8192x1024.Idx from ix3 L R j) := ⟨x 0, x 1, x 2, eq_ix3 x⟩
    exact (i.vp L R j).trans (if_congr Iff.rfl (hz _ _) (congrFun h6 (ix3 L R j)))
  · obtain ⟨L, R, j, rfl⟩ : ∃ (L : Fin 4) (R : Fin 1024) (j : Fin 1024), x = (show Cert.InprojReferenceIdeal.S4x1024x1024.Idx from ix3 L R j) := ⟨x 0, x 1, x 2, eq_ix3 x⟩
    exact (i.ks L R j).trans (if_congr Iff.rfl (hz _ _) (congrFun h7 (ix3 L R j)))
  · obtain ⟨L, R, j, rfl⟩ : ∃ (L : Fin 4) (R : Fin 1024) (j : Fin 1024), x = (show Cert.InprojReferenceIdeal.S4x1024x1024.Idx from ix3 L R j) := ⟨x 0, x 1, x 2, eq_ix3 x⟩
    exact (i.vs L R j).trans (if_congr Iff.rfl (hz _ _) (congrFun h8 (ix3 L R j)))

/-- The named constant of the idealized projection is the value the certificate's table gives it. -/
theorem preserves : Cert.preserves_Inproj_InprojIdeal :=
  IdealRules.named_const.statement _ _ .f32 _ _ rfl

/-- The frames of the projection, at machine floats and at extended reals. -/
theorem frame : Cert.quiescent_Inproj := fun m ρ _ => Cert.Inproj.Body.frame_all (F := Bits) m ρ

theorem frame_ideal : Cert.quiescent_InprojIdeal := fun m ρ _ => Cert.InprojIdeal.Body.frame_all (F := Ideal) m ρ

end Cert.Proof.InprojClaims

end
-- ==== Proof.MergeValue.lean ====
/-
  The merge at the end of a layer: what the kernel leaves in its result array is, row block by row block, the
  reference's value on those rows. A row of the result depends on the same row of the arguments alone, so nothing but
  the placement of the blocks and the order of the factors of a cube differs between the two.
-/
module

public import proofs.«01_k».proof.Defs
public import proofs.«01_k».proof.Proof.Gen.MergeIdeal.Value
public import proofs.«01_k».proof.Proof.Gen.MergeReferenceIdeal.Run
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MergeIdeal.RefValue

open Cert.MergeIdeal Cert.MergeIdeal.Gen

variable (m : (ℓ : Loc nD τ sig) → Buf (Elt Ideal) ℓ)

/-- Every window's block index at every grid point: the five token arrays and the result move with the point, the
    weights stay. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![t.val, 0] :=
  (by decide +kernel : ∀ t : Fin grid0.N, _)

/-- What the body computes for block index `y` of point `t` is the reference at the array index `y` sits at. -/
theorem point (c : Dev nD) (t : Fin cfg0.N) (y : S256x2048.Idx)
    (m' : (ℓ : Loc Cert.MergeReferenceIdeal.nD Cert.MergeReferenceIdeal.τ Cert.MergeReferenceIdeal.sig) → Buf (Elt Ideal) ℓ)
    (c' : Dev Cert.MergeReferenceIdeal.nD)
    (h0 : m' ((c'.tc : Thread Cert.MergeReferenceIdeal.nD Cert.MergeReferenceIdeal.τ).loc Cert.MergeReferenceIdeal.main_arg0) = m ((c.tc : Thread nD τ).loc main_arg0))
    (h1 : m' ((c'.tc : Thread Cert.MergeReferenceIdeal.nD Cert.MergeReferenceIdeal.τ).loc Cert.MergeReferenceIdeal.main_arg1) = m ((c.tc : Thread nD τ).loc main_arg1))
    (h2 : m' ((c'.tc : Thread Cert.MergeReferenceIdeal.nD Cert.MergeReferenceIdeal.τ).loc Cert.MergeReferenceIdeal.main_arg2) = m ((c.tc : Thread nD τ).loc main_arg2))
    (h3 : m' ((c'.tc : Thread Cert.MergeReferenceIdeal.nD Cert.MergeReferenceIdeal.τ).loc Cert.MergeReferenceIdeal.main_arg3) = m ((c.tc : Thread nD τ).loc main_arg3))
    (h4 : m' ((c'.tc : Thread Cert.MergeReferenceIdeal.nD Cert.MergeReferenceIdeal.τ).loc Cert.MergeReferenceIdeal.main_arg4) = m ((c.tc : Thread nD τ).loc main_arg4))
    (h5 : m' ((c'.tc : Thread Cert.MergeReferenceIdeal.nD Cert.MergeReferenceIdeal.τ).loc Cert.MergeReferenceIdeal.main_arg5) = m ((c.tc : Thread nD τ).loc main_arg5))
    (h6 : m' ((c'.tc : Thread Cert.MergeReferenceIdeal.nD Cert.MergeReferenceIdeal.τ).loc Cert.MergeReferenceIdeal.main_arg6) = m ((c.tc : Thread nD τ).loc main_arg6))
    (h7 : m' ((c'.tc : Thread Cert.MergeReferenceIdeal.nD Cert.MergeReferenceIdeal.τ).loc Cert.MergeReferenceIdeal.main_arg7) = m ((c.tc : Thread nD τ).loc main_arg7))
    (h8 : m' ((c'.tc : Thread Cert.MergeReferenceIdeal.nD Cert.MergeReferenceIdeal.τ).loc Cert.MergeReferenceIdeal.main_arg8) = m ((c.tc : Thread nD τ).loc main_arg8))
    (h9 : m' ((c'.tc : Thread Cert.MergeReferenceIdeal.nD Cert.MergeReferenceIdeal.τ).loc Cert.MergeReferenceIdeal.main_arg9) = m ((c.tc : Thread nD τ).loc main_arg9))
    (h10 : m' ((c'.tc : Thread Cert.MergeReferenceIdeal.nD Cert.MergeReferenceIdeal.τ).loc Cert.MergeReferenceIdeal.main_arg10) = m ((c.tc : Thread nD τ).loc main_arg10))
    (h11 : m' ((c'.tc : Thread Cert.MergeReferenceIdeal.nD Cert.MergeReferenceIdeal.τ).loc Cert.MergeReferenceIdeal.main_arg11) = m ((c.tc : Thread nD τ).loc main_arg11)) :
    k0_pay1 (k0_pay2 (iblk m c 2 t) (iblk m c 5 t) (iblk m c 3 t) (iblk m c 6 t) (iblk m c 7 t))
        (k0_pay3 (iblk m c 1 t) (iblk m c 8 t)) (k0_pay4 (iblk m c 9 t)) (iblk m c 4 t) (iblk m c 10 t) (iblk m c 0 t)
        (iblk m c 11 t) y
      = Cert.MergeReferenceIdeal.Value.res_main_v51 m' c' (((cfg0.win 12).blk t).view.emb y) := by
  unfold Cert.MergeReferenceIdeal.Value.res_main_v51
  rw [h0, h1, h2, h3, h4, h5, h6, h7, h8, h9, h10, h11]
  pointwise [k0_pay1, k0_pay2, k0_pay3, k0_pay4]
  simp only [Ideal.logistic, mul_assoc]
  blk_point [iblk, V, idx t]

/-- The merge's result array after the run is the reference's term of the same arguments: every point writes its own
    block of rows and the 36 blocks tile the array. -/
theorem final (c : Dev nD)
    (m' : (ℓ : Loc Cert.MergeReferenceIdeal.nD Cert.MergeReferenceIdeal.τ Cert.MergeReferenceIdeal.sig) → Buf (Elt Ideal) ℓ)
    (c' : Dev Cert.MergeReferenceIdeal.nD)
    (h0 : m' ((c'.tc : Thread Cert.MergeReferenceIdeal.nD Cert.MergeReferenceIdeal.τ).loc Cert.MergeReferenceIdeal.main_arg0) = m ((c.tc : Thread nD τ).loc main_arg0))
    (h1 : m' ((c'.tc : Thread Cert.MergeReferenceIdeal.nD Cert.MergeReferenceIdeal.τ).loc Cert.MergeReferenceIdeal.main_arg1) = m ((c.tc : Thread nD τ).loc main_arg1))
    (h2 : m' ((c'.tc : Thread Cert.MergeReferenceIdeal.nD Cert.MergeReferenceIdeal.τ).loc Cert.MergeReferenceIdeal.main_arg2) = m ((c.tc : Thread nD τ).loc main_arg2))
    (h3 : m' ((c'.tc : Thread Cert.MergeReferenceIdeal.nD Cert.MergeReferenceIdeal.τ).loc Cert.MergeReferenceIdeal.main_arg3) = m ((c.tc : Thread nD τ).loc main_arg3))
    (h4 : m' ((c'.tc : Thread Cert.MergeReferenceIdeal.nD Cert.MergeReferenceIdeal.τ).loc Cert.MergeReferenceIdeal.main_arg4) = m ((c.tc : Thread nD τ).loc main_arg4))
    (h5 : m' ((c'.tc : Thread Cert.MergeReferenceIdeal.nD Cert.MergeReferenceIdeal.τ).loc Cert.MergeReferenceIdeal.main_arg5) = m ((c.tc : Thread nD τ).loc main_arg5))
    (h6 : m' ((c'.tc : Thread Cert.MergeReferenceIdeal.nD Cert.MergeReferenceIdeal.τ).loc Cert.MergeReferenceIdeal.main_arg6) = m ((c.tc : Thread nD τ).loc main_arg6))
    (h7 : m' ((c'.tc : Thread Cert.MergeReferenceIdeal.nD Cert.MergeReferenceIdeal.τ).loc Cert.MergeReferenceIdeal.main_arg7) = m ((c.tc : Thread nD τ).loc main_arg7))
    (h8 : m' ((c'.tc : Thread Cert.MergeReferenceIdeal.nD Cert.MergeReferenceIdeal.τ).loc Cert.MergeReferenceIdeal.main_arg8) = m ((c.tc : Thread nD τ).loc main_arg8))
    (h9 : m' ((c'.tc : Thread Cert.MergeReferenceIdeal.nD Cert.MergeReferenceIdeal.τ).loc Cert.MergeReferenceIdeal.main_arg9) = m ((c.tc : Thread nD τ).loc main_arg9))
    (h10 : m' ((c'.tc : Thread Cert.MergeReferenceIdeal.nD Cert.MergeReferenceIdeal.τ).loc Cert.MergeReferenceIdeal.main_arg10) = m ((c.tc : Thread nD τ).loc main_arg10))
    (h11 : m' ((c'.tc : Thread Cert.MergeReferenceIdeal.nD Cert.MergeReferenceIdeal.τ).loc Cert.MergeReferenceIdeal.main_arg11) = m ((c.tc : Thread nD τ).loc main_arg11)) :
    (dats m 0 c).arrAt 12 (cfgs 0).N = Cert.MergeReferenceIdeal.Value.res_main_v51 m' c' := by
  refine (dats m 0 c).arrAt_eq_of_covers 12 _ (by decide +kernel) fun t hf y => ?_
  blk_simp; rw [after0_12]; frame_out
  exact point m c t y m' c' h0 h1 h2 h3 h4 h5 h6 h7 h8 h9 h10 h11

end Cert.MergeIdeal.RefValue

namespace Cert.Proof.MergeClaims

/-- The merge and its reference end with equal results. -/
theorem algebraic : Cert.algebraic_MergeIdeal_MergeReferenceIdeal := by
  intro m g m' g' _ hag
  refine ⟨fun c => (Cert.MergeIdeal.Gen.dats m 0 c).arrAt 12 Cert.MergeIdeal.cfg0.N,
    Cert.MergeIdeal.Value.run_blocks (F := Ideal) m g, ?_⟩
  refine (θ_run Cert.MergeReferenceIdeal.defs _ _).mono (fun _ h c => ⟨(h c).1.trans ?_, (h c).2⟩)
    (Cert.MergeReferenceIdeal.Value.run (F := Ideal) m' g')
  obtain ⟨h0, h1, h2, h3, h4, h5, h6, h7, h8, h9, h10, h11⟩ := hag c
  exact (Cert.MergeIdeal.RefValue.final m c m' c h0 h1 h2 h3 h4 h5 h6 h7 h8 h9 h10 h11).symm

/-- The merge reference's frame: its run, which leaves the arguments as they were; it has no semaphore. -/
theorem frame_reference : Cert.quiescent_MergeReferenceIdeal := fun m ρ _ =>
  (θ_run Cert.MergeReferenceIdeal.defs _ _).mono (fun r h => ⟨fun c => (h c).2,
      Idealize.ShloMosaic.sem_eq_zero_of_no_sems (by decide) r.2⟩)
    (Cert.MergeReferenceIdeal.Value.run (F := Ideal) m ρ)

end Cert.Proof.MergeClaims
-- ==== Proof.lean ====
/-
  The proof of `Cert.Claim`: the generated modules' witnesses of the programs' side conditions, the generated frames of
  the kernels, and the claims proved in the modules imported here.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnReferenceIdeal
public import proofs.«01_k».proof.Proof.Gen.Inproj
public import proofs.«01_k».proof.Proof.Gen.InprojIdeal
public import proofs.«01_k».proof.Proof.Gen.InprojReferenceIdeal
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeReferenceIdeal
public import proofs.«01_k».proof.Proof.Gen.FfnLast
public import proofs.«01_k».proof.Proof.Gen.FfnLast.Frame
public import proofs.«01_k».proof.Proof.Gen.FfnLast.Skeleton
public import proofs.«01_k».proof.Proof.Gen.FfnLast.Points
public import proofs.«01_k».proof.Proof.Gen.FfnLastIdeal
public import proofs.«01_k».proof.Proof.Gen.FfnLastIdeal.Frame
public import proofs.«01_k».proof.Proof.Gen.FfnLastIdeal.Skeleton
public import proofs.«01_k».proof.Proof.Gen.FfnLastIdeal.Points
public import proofs.«01_k».proof.Proof.Gen.FfnLastReferenceIdeal
public import proofs.«01_k».proof.Proof.Gen.FfnLastReferenceIdeal.Run
public import proofs.«01_k».proof.Proof.AttnClaims
public import proofs.«01_k».proof.Proof.AttnFinite
public import proofs.«01_k».proof.Proof.AttnValue
public import proofs.«01_k».proof.Proof.FfnLastValue
public import proofs.«01_k».proof.Proof.FfnValue
public import proofs.«01_k».proof.Proof.InprojClaims
public import proofs.«01_k».proof.Proof.MergeValue

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Ffn.Gen.facts, Cert.FfnIdeal.Gen.facts, Cert.FfnReferenceIdeal.Gen.facts,
    Cert.Inproj.Gen.facts, Cert.InprojIdeal.Gen.facts, Cert.InprojReferenceIdeal.Gen.facts,
    Cert.Merge.Gen.facts, Cert.MergeIdeal.Gen.facts, Cert.MergeReferenceIdeal.Gen.facts,
    Cert.FfnLast.Gen.facts, Cert.FfnLastIdeal.Gen.facts, Cert.FfnLastReferenceIdeal.Gen.facts,
    Cert.Pre_finite_scores.facts,
    fun m ρ _ => Cert.Kernel.Gen.frame m ρ,
    fun m ρ _ => Cert.KernelIdeal.Gen.frame m ρ,
    fun m ρ _ => Cert.KernelIdeal.Gen.frame m ρ,
    AttnClaims.frame_reference,
    fun m ρ _ => AttnClaims.frame_reference m ρ trivial,
    fun m ρ _ => Cert.Ffn.Gen.frame m ρ,
    fun m ρ _ => Cert.FfnIdeal.Gen.frame m ρ,
    FfnClaims.frame_reference,
    InprojClaims.frame,
    InprojClaims.frame_ideal,
    Cert.InprojReferenceIdeal.At.frame_reference,
    fun m ρ _ => Cert.Merge.Gen.frame m ρ,
    fun m ρ _ => Cert.MergeIdeal.Gen.frame m ρ,
    MergeClaims.frame_reference,
    FfnLastClaims.frame,
    FfnLastClaims.frame_ideal,
    FfnLastClaims.frame_reference,
    AttnClaims.preserves,
    AttnValue.algebraic,
    trivial,
    FfnClaims.algebraic,
    InprojClaims.preserves,
    InprojClaims.algebraic,
    trivial,
    MergeClaims.algebraic,
    trivial,
    FfnLastClaims.algebraic⟩

end Cert.Proof

end
